-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def preserves_Kernel_KernelIdeal : Prop :=
  IdealRules.bf16_pair.BufferStatement Cert.KernelIdeal.S3584x2x256 Cert.KernelIdeal.S3584x1x256
  ∧ IdealRules.bf16_pair.Statement Cert.KernelIdeal.S256x256 Cert.KernelIdeal.S128x256
  ∧ IdealRules.bf16_pair.Statement Cert.KernelIdeal.S128x2x256 Cert.KernelIdeal.S128x1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Down_DownIdeal : Prop :=
  IdealRules.bf16_pair.BufferStatement Cert.DownIdeal.S4096x2x256 Cert.DownIdeal.S4096x1x256
  ∧ IdealRules.bf16_pair.Statement Cert.DownIdeal.S256x256 Cert.DownIdeal.S128x256
  ∧ IdealRules.bf16_pair.Statement Cert.DownIdeal.S128x2x256 Cert.DownIdeal.S128x1x256

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)
      ∧ m' ((c.tc : Thread Cert.DownReferenceIdeal.nD Cert.DownReferenceIdeal.τ).loc Cert.DownReferenceIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v107) = v0 c
          ∧ r.2.mem ((c.tc : Thread Cert.DownReferenceIdeal.nD Cert.DownReferenceIdeal.τ).loc Cert.DownReferenceIdeal.main_v110) = v1 c
          ∧ r.2.mem ((c.tc : Thread Cert.DownReferenceIdeal.nD Cert.DownReferenceIdeal.τ).loc Cert.DownReferenceIdeal.main_v90) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
-- ==== Kernel.lean ====
abbrev S1024x3584 : Shape := ⟨2, ![1024, 3584]⟩
abbrev S3584x4096 : Shape := ⟨2, ![3584, 4096]⟩
abbrev S3584x128 : Shape := ⟨2, ![3584, 128]⟩
abbrev S2048x128 : Shape := ⟨2, ![2048, 128]⟩
abbrev S64x8192 : Shape := ⟨2, ![64, 8192]⟩
abbrev S2048x8192 : Shape := ⟨2, ![2048, 8192]⟩
abbrev S1x8192 : Shape := ⟨2, ![1, 8192]⟩
abbrev S2048x1 : Shape := ⟨2, ![2048, 1]⟩
abbrev S128x8192 : Shape := ⟨2, ![128, 8192]⟩
abbrev S128x256 : Shape := ⟨2, ![128, 256]⟩
abbrev S2048x256 : Shape := ⟨2, ![2048, 256]⟩
abbrev S1x256 : Shape := ⟨2, ![1, 256]⟩
abbrev S3584x256 : Shape := ⟨2, ![3584, 256]⟩
abbrev S8x128 : Shape := ⟨2, ![8, 128]⟩
abbrev S256x128 : Shape := ⟨2, ![256, 128]⟩
abbrev S1x128 : Shape := ⟨2, ![1, 128]⟩
abbrev S64x128 : Shape := ⟨2, ![64, 128]⟩
abbrev S1x8x128 : Shape := ⟨3, ![1, 8, 128]⟩
abbrev S32x8x128 : Shape := ⟨3, ![32, 8, 128]⟩
abbrev S64x128x1 : Shape := ⟨3, ![64, 128, 1]⟩
abbrev S32x8x128x1 : Shape := ⟨4, ![32, 8, 128, 1]⟩
abbrev S256x128x1 : Shape := ⟨3, ![256, 128, 1]⟩
abbrev S256x256 : Shape := ⟨2, ![256, 256]⟩
abbrev S1024x128 : Shape := ⟨2, ![1024, 128]⟩
abbrev S1024x256 : Shape := ⟨2, ![1024, 256]⟩
abbrev S512x256 : Shape := ⟨2, ![512, 256]⟩
abbrev S32x256 : Shape := ⟨2, ![32, 256]⟩
abbrev S32x128 : Shape := ⟨2, ![32, 128]⟩
abbrev S2048 : Shape := ⟨1, ![2048]⟩

abbrev nBuf : Space → Nat
  | .hbm => 16
  | .vmem => 20
  | .smem => 0
  | _ => 0

abbrev bufTy : (tb : Table) → Fin (tcTables nBuf tb) → BufTy
  | .hbm, ⟨0, _⟩ => ⟨S1024x3584, .i32⟩
  | .hbm, ⟨1, _⟩ => ⟨S1024x3584, .i32⟩
  | .hbm, ⟨2, _⟩ => ⟨S3584x4096, .i8⟩
  | .hbm, ⟨3, _⟩ => ⟨S3584x4096, .i8⟩
  | .hbm, ⟨4, _⟩ => ⟨S3584x128, .f32⟩
  | .hbm, ⟨5, _⟩ => ⟨S3584x128, .f32⟩
  | .hbm, ⟨6, _⟩ => ⟨S2048x128, .bf16⟩
  | .hbm, ⟨7, _⟩ => ⟨S64x8192, .bf16⟩
  | .hbm, ⟨8, _⟩ => ⟨S64x8192, .bf16⟩
  | .hbm, ⟨9, _⟩ => ⟨S2048x8192, .bf16⟩
  | .hbm, ⟨10, _⟩ => ⟨S1x8192, .f32⟩
  | .hbm, ⟨11, _⟩ => ⟨S2048x1, .f32⟩
  | .hbm, ⟨12, _⟩ => ⟨S128x8192, .bf16⟩
  | .hbm, ⟨13, _⟩ => ⟨S2048x128, .f32⟩
  | .hbm, ⟨14, _⟩ => ⟨S2048x8192, .f32⟩
  | .hbm, ⟨15, _⟩ => ⟨S2048x128, .f32⟩
  | .local _ .vmem, ⟨0, _⟩ => ⟨S1024x3584, .i32⟩
  | .local _ .vmem, ⟨1, _⟩ => ⟨S1024x3584, .i32⟩
  | .local _ .vmem, ⟨2, _⟩ => ⟨S3584x128, .i8⟩
  | .local _ .vmem, ⟨3, _⟩ => ⟨S3584x128, .i8⟩
  | .local _ .vmem, ⟨4, _⟩ => ⟨S3584x128, .i8⟩
  | .local _ .vmem, ⟨5, _⟩ => ⟨S3584x128, .i8⟩
  | .local _ .vmem, ⟨6, _⟩ => ⟨S3584x128, .f32⟩
  | .local _ .vmem, ⟨7, _⟩ => ⟨S3584x128, .f32⟩
  | .local _ .vmem, ⟨8, _⟩ => ⟨S2048x128, .bf16⟩
  | .local _ .vmem, ⟨9, _⟩ => ⟨S128x256, .bf16⟩
  | .local _ .vmem, ⟨10, _⟩ => ⟨S128x256, .bf16⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1x256, .f32⟩
  | .local _ .vmem, ⟨15, _⟩ => ⟨S2048x128, .f32⟩
  | .local _ .vmem, ⟨16, _⟩ => ⟨S2048x256, .f32⟩
  | .local _ .vmem, ⟨17, _⟩ => ⟨S2048x256, .f32⟩
  | .local _ .vmem, ⟨18, _⟩ => ⟨S2048x128, .f32⟩
  | .local _ .vmem, ⟨19, _⟩ => ⟨S3584x256, .i32⟩
  | _, _ => ⟨S1024x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_25 : BitVec 32 := 0#32
  let c14_i32 : BitVec 32 := 14#32
  let v67 : BitVec 32 := Scalar.addi c0_i32_25 c14_i32
  let c1_i32_26 : BitVec 32 := 1#32
  ⟨c0_i32_25, v67, c1_i32_26⟩
def k0_mult1 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  v489
def k0_off1 (k0_t1 : Fin k0_t1_loop.trips) : Fin 2 → Nat :=
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v491 : Index := Scalar.indexCast v490
  let c0_338 : Index := 0#32
  ![v491.toNat, 0]
def k0_mult2 (k0_t1 : Fin k0_t1_loop.trips) : BitVec 32 :=
  let c0_i32_387 : BitVec 32 := 0#32
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v693 : BitVec 32 := Scalar.addi c0_i32_387 v490
  let c0_i32_389 : BitVec 32 := 0#32
  let v695 : BitVec 1 := Scalar.cmpi .sgt v693 c0_i32_389
  let v696 : BitVec 32 := Scalar.extui v695
  let c0_i32_390 : BitVec 32 := 0#32
  let v697 : BitVec 1 := Scalar.cmpi .slt v693 c0_i32_390
  let v698 : BitVec 32 := Scalar.extui v697
  let v699 : BitVec 32 := Scalar.subi v696 v698
  let c2_i32_388 : BitVec 32 := 2#32
  let c0_i32_391 : BitVec 32 := 0#32
  let v700 : BitVec 1 := Scalar.cmpi .sgt c2_i32_388 c0_i32_391
  let v701 : BitVec 32 := Scalar.extui v700
  let c0_i32_392 : BitVec 32 := 0#32
  let v702 : BitVec 1 := Scalar.cmpi .slt c2_i32_388 c0_i32_392
  let v703 : BitVec 32 := Scalar.extui v702
  let v704 : BitVec 32 := Scalar.subi v701 v703
  let v705 : BitVec 1 := Scalar.cmpi .ne v699 v704
  let v706 : BitVec 32 := Scalar.remsi v693 c2_i32_388
  let c0_i32_393 : BitVec 32 := 0#32
  let v707 : BitVec 1 := Scalar.cmpi .ne v706 c0_i32_393
  let v708 : BitVec 1 := Scalar.andi v705 v707
  let v694 : BitVec 32 := Scalar.divsi v693 c2_i32_388
  let c1_i32_394 : BitVec 32 := 1#32
  let v709 : BitVec 32 := Scalar.subi v694 c1_i32_394
  let v710 : BitVec 32 := Scalar.select v708 v709 v694
  v710
def k0_off2 (k0_t1 : Fin k0_t1_loop.trips) : Fin 2 → Nat :=
  let c0_i32_387 : BitVec 32 := 0#32
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v693 : BitVec 32 := Scalar.addi c0_i32_387 v490
  let c0_i32_389 : BitVec 32 := 0#32
  let v695 : BitVec 1 := Scalar.cmpi .sgt v693 c0_i32_389
  let v696 : BitVec 32 := Scalar.extui v695
  let c0_i32_390 : BitVec 32 := 0#32
  let v697 : BitVec 1 := Scalar.cmpi .slt v693 c0_i32_390
  let v698 : BitVec 32 := Scalar.extui v697
  let v699 : BitVec 32 := Scalar.subi v696 v698
  let c2_i32_388 : BitVec 32 := 2#32
  let c0_i32_391 : BitVec 32 := 0#32
  let v700 : BitVec 1 := Scalar.cmpi .sgt c2_i32_388 c0_i32_391
  let v701 : BitVec 32 := Scalar.extui v700
  let c0_i32_392 : BitVec 32 := 0#32
  let v702 : BitVec 1 := Scalar.cmpi .slt c2_i32_388 c0_i32_392
  let v703 : BitVec 32 := Scalar.extui v702
  let v704 : BitVec 32 := Scalar.subi v701 v703
  let v705 : BitVec 1 := Scalar.cmpi .ne v699 v704
  let v706 : BitVec 32 := Scalar.remsi v693 c2_i32_388
  let c0_i32_393 : BitVec 32 := 0#32
  let v707 : BitVec 1 := Scalar.cmpi .ne v706 c0_i32_393
  let v708 : BitVec 1 := Scalar.andi v705 v707
  let v694 : BitVec 32 := Scalar.divsi v693 c2_i32_388
  let c1_i32_394 : BitVec 32 := 1#32
  let v709 : BitVec 32 := Scalar.subi v694 c1_i32_394
  let v710 : BitVec 32 := Scalar.select v708 v709 v694
  let v711 : BitVec 32 := v710
  let v713 : Index := Scalar.indexCast v711
  let c0_395 : Index := 0#32
  ![v713.toNat, 0]
@[reducible] def k0_t2_loop : Scf.Loop 32 :=
  let c0_i32_62 : BitVec 32 := 0#32
  let c14_i32_63 : BitVec 32 := 14#32
  let v135 : BitVec 32 := Scalar.addi c0_i32_62 c14_i32_63
  let c1_i32_64 : BitVec 32 := 1#32
  ⟨c0_i32_62, v135, c1_i32_64⟩
def k0_mult3 (k0_t2 : Fin k0_t2_loop.trips) : BitVec 32 :=
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  v489
def k0_off3 (k0_t2 : Fin k0_t2_loop.trips) : Fin 2 → Nat :=
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v491 : Index := Scalar.indexCast v490
  let c0_338 : Index := 0#32
  ![v491.toNat, 0]
def k0_mult4 (k0_t2 : Fin k0_t2_loop.trips) : BitVec 32 :=
  let c3584_i32 : BitVec 32 := 3584#32
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v693 : BitVec 32 := Scalar.addi c3584_i32 v490
  let c0_i32_388 : BitVec 32 := 0#32
  let v695 : BitVec 1 := Scalar.cmpi .sgt v693 c0_i32_388
  let v696 : BitVec 32 := Scalar.extui v695
  let c0_i32_389 : BitVec 32 := 0#32
  let v697 : BitVec 1 := Scalar.cmpi .slt v693 c0_i32_389
  let v698 : BitVec 32 := Scalar.extui v697
  let v699 : BitVec 32 := Scalar.subi v696 v698
  let c2_i32_387 : BitVec 32 := 2#32
  let c0_i32_390 : BitVec 32 := 0#32
  let v700 : BitVec 1 := Scalar.cmpi .sgt c2_i32_387 c0_i32_390
  let v701 : BitVec 32 := Scalar.extui v700
  let c0_i32_391 : BitVec 32 := 0#32
  let v702 : BitVec 1 := Scalar.cmpi .slt c2_i32_387 c0_i32_391
  let v703 : BitVec 32 := Scalar.extui v702
  let v704 : BitVec 32 := Scalar.subi v701 v703
  let v705 : BitVec 1 := Scalar.cmpi .ne v699 v704
  let v706 : BitVec 32 := Scalar.remsi v693 c2_i32_387
  let c0_i32_392 : BitVec 32 := 0#32
  let v707 : BitVec 1 := Scalar.cmpi .ne v706 c0_i32_392
  let v708 : BitVec 1 := Scalar.andi v705 v707
  let v694 : BitVec 32 := Scalar.divsi v693 c2_i32_387
  let c1_i32_393 : BitVec 32 := 1#32
  let v709 : BitVec 32 := Scalar.subi v694 c1_i32_393
  let v710 : BitVec 32 := Scalar.select v708 v709 v694
  v710
def k0_off4 (k0_t2 : Fin k0_t2_loop.trips) : Fin 2 → Nat :=
  let c3584_i32 : BitVec 32 := 3584#32
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v693 : BitVec 32 := Scalar.addi c3584_i32 v490
  let c0_i32_388 : BitVec 32 := 0#32
  let v695 : BitVec 1 := Scalar.cmpi .sgt v693 c0_i32_388
  let v696 : BitVec 32 := Scalar.extui v695
  let c0_i32_389 : BitVec 32 := 0#32
  let v697 : BitVec 1 := Scalar.cmpi .slt v693 c0_i32_389
  let v698 : BitVec 32 := Scalar.extui v697
  let v699 : BitVec 32 := Scalar.subi v696 v698
  let c2_i32_387 : BitVec 32 := 2#32
  let c0_i32_390 : BitVec 32 := 0#32
  let v700 : BitVec 1 := Scalar.cmpi .sgt c2_i32_387 c0_i32_390
  let v701 : BitVec 32 := Scalar.extui v700
  let c0_i32_391 : BitVec 32 := 0#32
  let v702 : BitVec 1 := Scalar.cmpi .slt c2_i32_387 c0_i32_391
  let v703 : BitVec 32 := Scalar.extui v702
  let v704 : BitVec 32 := Scalar.subi v701 v703
  let v705 : BitVec 1 := Scalar.cmpi .ne v699 v704
  let v706 : BitVec 32 := Scalar.remsi v693 c2_i32_387
  let c0_i32_392 : BitVec 32 := 0#32
  let v707 : BitVec 1 := Scalar.cmpi .ne v706 c0_i32_392
  let v708 : BitVec 1 := Scalar.andi v705 v707
  let v694 : BitVec 32 := Scalar.divsi v693 c2_i32_387
  let c1_i32_393 : BitVec 32 := 1#32
  let v709 : BitVec 32 := Scalar.subi v694 c1_i32_393
  let v710 : BitVec 32 := Scalar.select v708 v709 v694
  let v711 : BitVec 32 := v710
  let v713 : Index := Scalar.indexCast v711
  let c0_394 : Index := 0#32
  ![v713.toNat, 0]
@[reducible] def k0_t3_loop : Scf.Loop 32 :=
  let c0_i32_334 : BitVec 32 := 0#32
  let c64_i32 : BitVec 32 := 64#32
  let v485 : BitVec 32 := Scalar.addi c0_i32_334 c64_i32
  let c1_i32_335 : BitVec 32 := 1#32
  ⟨c0_i32_334, v485, c1_i32_335⟩
def k0_mult5 (k0_t3 : Fin k0_t3_loop.trips) : BitVec 32 :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  v489
def k0_off5 (k0_t3 : Fin k0_t3_loop.trips) : Fin 2 → Nat :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  let v490 : BitVec 32 := v489
  let v491 : Index := Scalar.indexCast v490
  let c0_338 : Index := 0#32
  ![v491.toNat, 0]
def k0_off6 (k0_t3 : Fin k0_t3_loop.trips) : Fin 2 → Nat :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  let v490 : BitVec 32 := v489
  let v497 : Index := Scalar.indexCast v490
  let c0_341 : Index := 0#32
  ![v497.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3584x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3584x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
abbrev S1024x3584 : Shape := ⟨2, ![1024, 3584]⟩
abbrev S3584x4096 : Shape := ⟨2, ![3584, 4096]⟩
abbrev S3584x128 : Shape := ⟨2, ![3584, 128]⟩
abbrev S2048x128 : Shape := ⟨2, ![2048, 128]⟩
abbrev S64x8192 : Shape := ⟨2, ![64, 8192]⟩
abbrev S2048x8192 : Shape := ⟨2, ![2048, 8192]⟩
abbrev S1x8192 : Shape := ⟨2, ![1, 8192]⟩
abbrev S2048x1 : Shape := ⟨2, ![2048, 1]⟩
abbrev S128x8192 : Shape := ⟨2, ![128, 8192]⟩
abbrev S128x256 : Shape := ⟨2, ![128, 256]⟩
abbrev S2048x256 : Shape := ⟨2, ![2048, 256]⟩
abbrev S1x256 : Shape := ⟨2, ![1, 256]⟩
abbrev S3584x256 : Shape := ⟨2, ![3584, 256]⟩
abbrev S3584x2x256 : Shape := ⟨3, ![3584, 2, 256]⟩
abbrev S3584x1x256 : Shape := ⟨3, ![3584, 1, 256]⟩
abbrev S8x128 : Shape := ⟨2, ![8, 128]⟩
abbrev S256x128 : Shape := ⟨2, ![256, 128]⟩
abbrev S1x128 : Shape := ⟨2, ![1, 128]⟩
abbrev S64x128 : Shape := ⟨2, ![64, 128]⟩
abbrev S1x8x128 : Shape := ⟨3, ![1, 8, 128]⟩
abbrev S32x8x128 : Shape := ⟨3, ![32, 8, 128]⟩
abbrev S64x128x1 : Shape := ⟨3, ![64, 128, 1]⟩
abbrev S32x8x128x1 : Shape := ⟨4, ![32, 8, 128, 1]⟩
abbrev S256x128x1 : Shape := ⟨3, ![256, 128, 1]⟩
abbrev S256x256 : Shape := ⟨2, ![256, 256]⟩
abbrev S128x2x256 : Shape := ⟨3, ![128, 2, 256]⟩
abbrev S128x1x256 : Shape := ⟨3, ![128, 1, 256]⟩
abbrev S1024x128 : Shape := ⟨2, ![1024, 128]⟩
abbrev S1024x256 : Shape := ⟨2, ![1024, 256]⟩
abbrev S512x256 : Shape := ⟨2, ![512, 256]⟩
abbrev S32x256 : Shape := ⟨2, ![32, 256]⟩
abbrev S32x128 : Shape := ⟨2, ![32, 128]⟩
abbrev S2048 : Shape := ⟨1, ![2048]⟩

abbrev nBuf : Space → Nat
  | .hbm => 16
  | .vmem => 20
  | .smem => 0
  | _ => 0

abbrev bufTy : (tb : Table) → Fin (tcTables nBuf tb) → BufTy
  | .hbm, ⟨0, _⟩ => ⟨S1024x3584, .i32⟩
  | .hbm, ⟨1, _⟩ => ⟨S1024x3584, .i32⟩
  | .hbm, ⟨2, _⟩ => ⟨S3584x4096, .i8⟩
  | .hbm, ⟨3, _⟩ => ⟨S3584x4096, .i8⟩
  | .hbm, ⟨4, _⟩ => ⟨S3584x128, .f32⟩
  | .hbm, ⟨5, _⟩ => ⟨S3584x128, .f32⟩
  | .hbm, ⟨6, _⟩ => ⟨S2048x128, .bf16⟩
  | .hbm, ⟨7, _⟩ => ⟨S64x8192, .bf16⟩
  | .hbm, ⟨8, _⟩ => ⟨S64x8192, .bf16⟩
  | .hbm, ⟨9, _⟩ => ⟨S2048x8192, .bf16⟩
  | .hbm, ⟨10, _⟩ => ⟨S1x8192, .f32⟩
  | .hbm, ⟨11, _⟩ => ⟨S2048x1, .f32⟩
  | .hbm, ⟨12, _⟩ => ⟨S128x8192, .bf16⟩
  | .hbm, ⟨13, _⟩ => ⟨S2048x128, .f32⟩
  | .hbm, ⟨14, _⟩ => ⟨S2048x8192, .f32⟩
  | .hbm, ⟨15, _⟩ => ⟨S2048x128, .f32⟩
  | .local _ .vmem, ⟨0, _⟩ => ⟨S1024x3584, .i32⟩
  | .local _ .vmem, ⟨1, _⟩ => ⟨S1024x3584, .i32⟩
  | .local _ .vmem, ⟨2, _⟩ => ⟨S3584x128, .i8⟩
  | .local _ .vmem, ⟨3, _⟩ => ⟨S3584x128, .i8⟩
  | .local _ .vmem, ⟨4, _⟩ => ⟨S3584x128, .i8⟩
  | .local _ .vmem, ⟨5, _⟩ => ⟨S3584x128, .i8⟩
  | .local _ .vmem, ⟨6, _⟩ => ⟨S3584x128, .f32⟩
  | .local _ .vmem, ⟨7, _⟩ => ⟨S3584x128, .f32⟩
  | .local _ .vmem, ⟨8, _⟩ => ⟨S2048x128, .bf16⟩
  | .local _ .vmem, ⟨9, _⟩ => ⟨S128x256, .bf16⟩
  | .local _ .vmem, ⟨10, _⟩ => ⟨S128x256, .bf16⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1x256, .f32⟩
  | .local _ .vmem, ⟨15, _⟩ => ⟨S2048x128, .f32⟩
  | .local _ .vmem, ⟨16, _⟩ => ⟨S2048x256, .f32⟩
  | .local _ .vmem, ⟨17, _⟩ => ⟨S2048x256, .f32⟩
  | .local _ .vmem, ⟨18, _⟩ => ⟨S2048x128, .f32⟩
  | .local _ .vmem, ⟨19, _⟩ => ⟨S3584x2x256, .bf16⟩
  | _, _ => ⟨S1024x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_25 : BitVec 32 := 0#32
  let c14_i32 : BitVec 32 := 14#32
  let v67 : BitVec 32 := Scalar.addi c0_i32_25 c14_i32
  let c1_i32_26 : BitVec 32 := 1#32
  ⟨c0_i32_25, v67, c1_i32_26⟩
def k0_mult1 (k0_t1 : Fin k0_t1_loop.trips) : BitVec 32 :=
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  v489
def k0_off1 (k0_t1 : Fin k0_t1_loop.trips) : Fin 2 → Nat :=
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v491 : Index := Scalar.indexCast v490
  let c0_338 : Index := 0#32
  ![v491.toNat, 0]
def k0_mult2 (k0_t1 : Fin k0_t1_loop.trips) : BitVec 32 :=
  let c0_i32_387 : BitVec 32 := 0#32
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v693 : BitVec 32 := Scalar.addi c0_i32_387 v490
  let c0_i32_389 : BitVec 32 := 0#32
  let v695 : BitVec 1 := Scalar.cmpi .sgt v693 c0_i32_389
  let v696 : BitVec 32 := Scalar.extui v695
  let c0_i32_390 : BitVec 32 := 0#32
  let v697 : BitVec 1 := Scalar.cmpi .slt v693 c0_i32_390
  let v698 : BitVec 32 := Scalar.extui v697
  let v699 : BitVec 32 := Scalar.subi v696 v698
  let c2_i32_388 : BitVec 32 := 2#32
  let c0_i32_391 : BitVec 32 := 0#32
  let v700 : BitVec 1 := Scalar.cmpi .sgt c2_i32_388 c0_i32_391
  let v701 : BitVec 32 := Scalar.extui v700
  let c0_i32_392 : BitVec 32 := 0#32
  let v702 : BitVec 1 := Scalar.cmpi .slt c2_i32_388 c0_i32_392
  let v703 : BitVec 32 := Scalar.extui v702
  let v704 : BitVec 32 := Scalar.subi v701 v703
  let v705 : BitVec 1 := Scalar.cmpi .ne v699 v704
  let v706 : BitVec 32 := Scalar.remsi v693 c2_i32_388
  let c0_i32_393 : BitVec 32 := 0#32
  let v707 : BitVec 1 := Scalar.cmpi .ne v706 c0_i32_393
  let v708 : BitVec 1 := Scalar.andi v705 v707
  let v694 : BitVec 32 := Scalar.divsi v693 c2_i32_388
  let c1_i32_394 : BitVec 32 := 1#32
  let v709 : BitVec 32 := Scalar.subi v694 c1_i32_394
  let v710 : BitVec 32 := Scalar.select v708 v709 v694
  v710
def k0_off2 (k0_t1 : Fin k0_t1_loop.trips) : Fin 3 → Nat :=
  let c0_i32_387 : BitVec 32 := 0#32
  let c0_i32_25 : BitVec 32 := 0#32
  let c1_i32_26 : BitVec 32 := 1#32
  let arg15 : BitVec 32 := Scf.iv c0_i32_25 c1_i32_26 k0_t1
  let c256_i32 : BitVec 32 := 256#32
  let v489 : BitVec 32 := Scalar.muli arg15 c256_i32
  let v490 : BitVec 32 := v489
  let v693 : BitVec 32 := Scalar.addi c0_i32_387 v490
  let c0_i32_389 : BitVec 32 := 0#32
  let v695 : BitVec 1 := Scalar.cmpi .sgt v693 c0_i32_389
  let v696 : BitVec 32 := Scalar.extui v695
  let c0_i32_390 : BitVec 32 := 0#32
  let v697 : BitVec 1 := Scalar.cmpi .slt v693 c0_i32_390
  let v698 : BitVec 32 := Scalar.extui v697
  let v699 : BitVec 32 := Scalar.subi v696 v698
  let c2_i32_388 : BitVec 32 := 2#32
  let c0_i32_391 : BitVec 32 := 0#32
  let v700 : BitVec 1 := Scalar.cmpi .sgt c2_i32_388 c0_i32_391
  let v701 : BitVec 32 := Scalar.extui v700
  let c0_i32_392 : BitVec 32 := 0#32
  let v702 : BitVec 1 := Scalar.cmpi .slt c2_i32_388 c0_i32_392
  let v703 : BitVec 32 := Scalar.extui v702
  let v704 : BitVec 32 := Scalar.subi v701 v703
  let v705 : BitVec 1 := Scalar.cmpi .ne v699 v704
  let v706 : BitVec 32 := Scalar.remsi v693 c2_i32_388
  let c0_i32_393 : BitVec 32 := 0#32
  let v707 : BitVec 1 := Scalar.cmpi .ne v706 c0_i32_393
  let v708 : BitVec 1 := Scalar.andi v705 v707
  let v694 : BitVec 32 := Scalar.divsi v693 c2_i32_388
  let c1_i32_394 : BitVec 32 := 1#32
  let v709 : BitVec 32 := Scalar.subi v694 c1_i32_394
  let v710 : BitVec 32 := Scalar.select v708 v709 v694
  let v711 : BitVec 32 := v710
  let v713 : Index := Scalar.indexCast v711
  let c0_395 : Index := 0#32
  ![v713.toNat, 0, 0]
@[reducible] def k0_t2_loop : Scf.Loop 32 :=
  let c0_i32_62 : BitVec 32 := 0#32
  let c14_i32_63 : BitVec 32 := 14#32
  let v135 : BitVec 32 := Scalar.addi c0_i32_62 c14_i32_63
  let c1_i32_64 : BitVec 32 := 1#32
  ⟨c0_i32_62, v135, c1_i32_64⟩
def k0_mult3 (k0_t2 : Fin k0_t2_loop.trips) : BitVec 32 :=
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  v489
def k0_off3 (k0_t2 : Fin k0_t2_loop.trips) : Fin 2 → Nat :=
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v491 : Index := Scalar.indexCast v490
  let c0_338 : Index := 0#32
  ![v491.toNat, 0]
def k0_mult4 (k0_t2 : Fin k0_t2_loop.trips) : BitVec 32 :=
  let c3584_i32 : BitVec 32 := 3584#32
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v693 : BitVec 32 := Scalar.addi c3584_i32 v490
  let c0_i32_388 : BitVec 32 := 0#32
  let v695 : BitVec 1 := Scalar.cmpi .sgt v693 c0_i32_388
  let v696 : BitVec 32 := Scalar.extui v695
  let c0_i32_389 : BitVec 32 := 0#32
  let v697 : BitVec 1 := Scalar.cmpi .slt v693 c0_i32_389
  let v698 : BitVec 32 := Scalar.extui v697
  let v699 : BitVec 32 := Scalar.subi v696 v698
  let c2_i32_387 : BitVec 32 := 2#32
  let c0_i32_390 : BitVec 32 := 0#32
  let v700 : BitVec 1 := Scalar.cmpi .sgt c2_i32_387 c0_i32_390
  let v701 : BitVec 32 := Scalar.extui v700
  let c0_i32_391 : BitVec 32 := 0#32
  let v702 : BitVec 1 := Scalar.cmpi .slt c2_i32_387 c0_i32_391
  let v703 : BitVec 32 := Scalar.extui v702
  let v704 : BitVec 32 := Scalar.subi v701 v703
  let v705 : BitVec 1 := Scalar.cmpi .ne v699 v704
  let v706 : BitVec 32 := Scalar.remsi v693 c2_i32_387
  let c0_i32_392 : BitVec 32 := 0#32
  let v707 : BitVec 1 := Scalar.cmpi .ne v706 c0_i32_392
  let v708 : BitVec 1 := Scalar.andi v705 v707
  let v694 : BitVec 32 := Scalar.divsi v693 c2_i32_387
  let c1_i32_393 : BitVec 32 := 1#32
  let v709 : BitVec 32 := Scalar.subi v694 c1_i32_393
  let v710 : BitVec 32 := Scalar.select v708 v709 v694
  v710
def k0_off4 (k0_t2 : Fin k0_t2_loop.trips) : Fin 3 → Nat :=
  let c3584_i32 : BitVec 32 := 3584#32
  let c0_i32_62 : BitVec 32 := 0#32
  let c1_i32_64 : BitVec 32 := 1#32
  let arg15 : BitVec 32 := Scf.iv c0_i32_62 c1_i32_64 k0_t2
  let c256_i32 : BitVec 32 := 256#32
  let v489 : BitVec 32 := Scalar.muli arg15 c256_i32
  let v490 : BitVec 32 := v489
  let v693 : BitVec 32 := Scalar.addi c3584_i32 v490
  let c0_i32_388 : BitVec 32 := 0#32
  let v695 : BitVec 1 := Scalar.cmpi .sgt v693 c0_i32_388
  let v696 : BitVec 32 := Scalar.extui v695
  let c0_i32_389 : BitVec 32 := 0#32
  let v697 : BitVec 1 := Scalar.cmpi .slt v693 c0_i32_389
  let v698 : BitVec 32 := Scalar.extui v697
  let v699 : BitVec 32 := Scalar.subi v696 v698
  let c2_i32_387 : BitVec 32 := 2#32
  let c0_i32_390 : BitVec 32 := 0#32
  let v700 : BitVec 1 := Scalar.cmpi .sgt c2_i32_387 c0_i32_390
  let v701 : BitVec 32 := Scalar.extui v700
  let c0_i32_391 : BitVec 32 := 0#32
  let v702 : BitVec 1 := Scalar.cmpi .slt c2_i32_387 c0_i32_391
  let v703 : BitVec 32 := Scalar.extui v702
  let v704 : BitVec 32 := Scalar.subi v701 v703
  let v705 : BitVec 1 := Scalar.cmpi .ne v699 v704
  let v706 : BitVec 32 := Scalar.remsi v693 c2_i32_387
  let c0_i32_392 : BitVec 32 := 0#32
  let v707 : BitVec 1 := Scalar.cmpi .ne v706 c0_i32_392
  let v708 : BitVec 1 := Scalar.andi v705 v707
  let v694 : BitVec 32 := Scalar.divsi v693 c2_i32_387
  let c1_i32_393 : BitVec 32 := 1#32
  let v709 : BitVec 32 := Scalar.subi v694 c1_i32_393
  let v710 : BitVec 32 := Scalar.select v708 v709 v694
  let v711 : BitVec 32 := v710
  let v713 : Index := Scalar.indexCast v711
  let c0_394 : Index := 0#32
  ![v713.toNat, 0, 0]
@[reducible] def k0_t3_loop : Scf.Loop 32 :=
  let c0_i32_334 : BitVec 32 := 0#32
  let c64_i32 : BitVec 32 := 64#32
  let v485 : BitVec 32 := Scalar.addi c0_i32_334 c64_i32
  let c1_i32_335 : BitVec 32 := 1#32
  ⟨c0_i32_334, v485, c1_i32_335⟩
def k0_mult5 (k0_t3 : Fin k0_t3_loop.trips) : BitVec 32 :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  v489
def k0_off5 (k0_t3 : Fin k0_t3_loop.trips) : Fin 2 → Nat :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  let v490 : BitVec 32 := v489
  let v491 : Index := Scalar.indexCast v490
  let c0_338 : Index := 0#32
  ![v491.toNat, 0]
def k0_off6 (k0_t3 : Fin k0_t3_loop.trips) : Fin 2 → Nat :=
  let c0_i32_334 : BitVec 32 := 0#32
  let c1_i32_335 : BitVec 32 := 1#32
  let arg15 : BitVec 32 := Scf.iv c0_i32_334 c1_i32_335 k0_t3
  let c32_i32 : BitVec 32 := 32#32
  let v489 : BitVec 32 := Scalar.muli arg15 c32_i32
  let v490 : BitVec 32 := v489
  let v497 : Index := Scalar.indexCast v490
  let c0_341 : Index := 0#32
  ![v497.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3584x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3584x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1024x3584 : Shape := ⟨2, ![1024, 3584]⟩
abbrev S3584x4096 : Shape := ⟨2, ![3584, 4096]⟩
abbrev S3584x128 : Shape := ⟨2, ![3584, 128]⟩
abbrev S2048x128 : Shape := ⟨2, ![2048, 128]⟩
abbrev S64x8192 : Shape := ⟨2, ![64, 8192]⟩
abbrev S2048x8192 : Shape := ⟨2, ![2048, 8192]⟩
abbrev S1x8192 : Shape := ⟨2, ![1, 8192]⟩
abbrev S2048x1 : Shape := ⟨2, ![2048, 1]⟩
abbrev S128x3584 : Shape := ⟨2, ![128, 3584]⟩
abbrev S128x1x3584 : Shape := ⟨3, ![128, 1, 3584]⟩
abbrev S4096x3584 : Shape := ⟨2, ![4096, 3584]⟩
abbrev S128x32x3584 : Shape := ⟨3, ![128, 32, 3584]⟩
abbrev S_ : Shape := ⟨0, ![]⟩
abbrev S1024x3584x2 : Shape := ⟨3, ![1024, 3584, 2]⟩
abbrev S1024x2x3584 : Shape := ⟨3, ![1024, 2, 3584]⟩
abbrev S2048x3584 : Shape := ⟨2, ![2048, 3584]⟩
abbrev S128x8192 : Shape := ⟨2, ![128, 8192]⟩
abbrev S128x4096 : Shape := ⟨2, ![128, 4096]⟩
abbrev S2048x4096 : Shape := ⟨2, ![2048, 4096]⟩
abbrev S2048x4096x1 : Shape := ⟨3, ![2048, 4096, 1]⟩
abbrev S2048x4096x2 : Shape := ⟨3, ![2048, 4096, 2]⟩
abbrev S2048 : Shape := ⟨1, ![2048]⟩

abbrev nBuf : Space → Nat
  | .hbm => 370
  | .vmem => 0
  | .smem => 0
  | _ => 0

abbrev hbmTy0_0 (i : Nat) : BufTy := match i % 128 with
  | 0 => ⟨S1024x3584, .i32⟩
  | 1 => ⟨S1024x3584, .i32⟩
  | 2 => ⟨S3584x4096, .i8⟩
  | 3 => ⟨S3584x4096, .i8⟩
  | 4 => ⟨S3584x128, .f32⟩
  | 5 => ⟨S3584x128, .f32⟩
  | 6 => ⟨S2048x128, .bf16⟩
  | 7 => ⟨S64x8192, .bf16⟩
  | 8 => ⟨S64x8192, .bf16⟩
  | 9 => ⟨S2048x8192, .bf16⟩
  | 10 => ⟨S1x8192, .f32⟩
  | 11 => ⟨S2048x1, .f32⟩
  | 12 => ⟨S128x3584, .f32⟩
  | 13 => ⟨S128x1x3584, .f32⟩
  | 14 => ⟨S4096x3584, .i8⟩
  | 15 => ⟨S128x32x3584, .i8⟩
  | 16 => ⟨S128x32x3584, .i32⟩
  | 17 => ⟨S_, .i32⟩
  | 18 => ⟨S128x32x3584, .i32⟩
  | 19 => ⟨S128x32x3584, .i32⟩
  | 20 => ⟨S_, .i32⟩
  | 21 => ⟨S128x32x3584, .i32⟩
  | 22 => ⟨S128x32x3584, .i32⟩
  | 23 => ⟨S_, .i32⟩
  | 24 => ⟨S128x32x3584, .i32⟩
  | 25 => ⟨S128x32x3584, .i1⟩
  | 26 => ⟨S_, .f32⟩
  | 27 => ⟨S_, .f32⟩
  | 28 => ⟨S128x32x3584, .f32⟩
  | 29 => ⟨S128x32x3584, .f32⟩
  | 30 => ⟨S128x32x3584, .f32⟩
  | 31 => ⟨S_, .f32⟩
  | 32 => ⟨S_, .f32⟩
  | 33 => ⟨S128x32x3584, .f32⟩
  | 34 => ⟨S128x32x3584, .f32⟩
  | 35 => ⟨S128x32x3584, .f32⟩
  | 36 => ⟨S_, .f32⟩
  | 37 => ⟨S_, .f32⟩
  | 38 => ⟨S128x32x3584, .f32⟩
  | 39 => ⟨S128x32x3584, .f32⟩
  | 40 => ⟨S128x32x3584, .f32⟩
  | 41 => ⟨S_, .f32⟩
  | 42 => ⟨S_, .f32⟩
  | 43 => ⟨S128x32x3584, .f32⟩
  | 44 => ⟨S128x32x3584, .f32⟩
  | 45 => ⟨S128x32x3584, .f32⟩
  | 46 => ⟨S_, .f32⟩
  | 47 => ⟨S_, .f32⟩
  | 48 => ⟨S128x32x3584, .f32⟩
  | 49 => ⟨S128x32x3584, .f32⟩
  | 50 => ⟨S128x32x3584, .f32⟩
  | 51 => ⟨S_, .f32⟩
  | 52 => ⟨S_, .f32⟩
  | 53 => ⟨S128x32x3584, .f32⟩
  | 54 => ⟨S128x32x3584, .f32⟩
  | 55 => ⟨S128x32x3584, .f32⟩
  | 56 => ⟨S_, .f32⟩
  | 57 => ⟨S_, .f32⟩
  | 58 => ⟨S128x32x3584, .f32⟩
  | 59 => ⟨S128x32x3584, .f32⟩
  | 60 => ⟨S128x32x3584, .f32⟩
  | 61 => ⟨S_, .f32⟩
  | 62 => ⟨S_, .f32⟩
  | 63 => ⟨S128x32x3584, .f32⟩
  | 64 => ⟨S128x32x3584, .f32⟩
  | 65 => ⟨S128x32x3584, .f32⟩
  | 66 => ⟨S_, .i32⟩
  | 67 => ⟨S128x32x3584, .i32⟩
  | 68 => ⟨S128x32x3584, .i32⟩
  | 69 => ⟨S_, .i32⟩
  | 70 => ⟨S128x32x3584, .i32⟩
  | 71 => ⟨S128x32x3584, .i1⟩
  | 72 => ⟨S128x32x3584, .f32⟩
  | 73 => ⟨S128x32x3584, .f32⟩
  | 74 => ⟨S128x32x3584, .f32⟩
  | 75 => ⟨S128x32x3584, .f32⟩
  | 76 => ⟨S_, .i32⟩
  | 77 => ⟨S128x32x3584, .i32⟩
  | 78 => ⟨S128x32x3584, .i32⟩
  | 79 => ⟨S_, .i32⟩
  | 80 => ⟨S128x32x3584, .i32⟩
  | 81 => ⟨S128x32x3584, .i1⟩
  | 82 => ⟨S128x32x3584, .f32⟩
  | 83 => ⟨S128x32x3584, .f32⟩
  | 84 => ⟨S_, .i32⟩
  | 85 => ⟨S128x32x3584, .i32⟩
  | 86 => ⟨S128x32x3584, .i32⟩
  | 87 => ⟨S_, .i32⟩
  | 88 => ⟨S128x32x3584, .i32⟩
  | 89 => ⟨S128x32x3584, .i1⟩
  | 90 => ⟨S128x32x3584, .f32⟩
  | 91 => ⟨S128x32x3584, .f32⟩
  | 92 => ⟨S128x32x3584, .f32⟩
  | 93 => ⟨S128x32x3584, .bf16⟩
  | 94 => ⟨S4096x3584, .bf16⟩
  | 95 => ⟨S_, .i32⟩
  | 96 => ⟨S128x32x3584, .i32⟩
  | 97 => ⟨S128x32x3584, .i32⟩
  | 98 => ⟨S_, .i32⟩
  | 99 => ⟨S128x32x3584, .i32⟩
  | 100 => ⟨S128x32x3584, .i32⟩
  | 101 => ⟨S_, .i32⟩
  | 102 => ⟨S128x32x3584, .i32⟩
  | 103 => ⟨S128x32x3584, .i1⟩
  | 104 => ⟨S_, .f32⟩
  | 105 => ⟨S_, .f32⟩
  | 106 => ⟨S128x32x3584, .f32⟩
  | 107 => ⟨S128x32x3584, .f32⟩
  | 108 => ⟨S128x32x3584, .f32⟩
  | 109 => ⟨S_, .f32⟩
  | 110 => ⟨S_, .f32⟩
  | 111 => ⟨S128x32x3584, .f32⟩
  | 112 => ⟨S128x32x3584, .f32⟩
  | 113 => ⟨S128x32x3584, .f32⟩
  | 114 => ⟨S_, .f32⟩
  | 115 => ⟨S_, .f32⟩
  | 116 => ⟨S128x32x3584, .f32⟩
  | 117 => ⟨S128x32x3584, .f32⟩
  | 118 => ⟨S128x32x3584, .f32⟩
  | 119 => ⟨S_, .f32⟩
  | 120 => ⟨S_, .f32⟩
  | 121 => ⟨S128x32x3584, .f32⟩
  | 122 => ⟨S128x32x3584, .f32⟩
  | 123 => ⟨S128x32x3584, .f32⟩
  | 124 => ⟨S_, .f32⟩
  | 125 => ⟨S_, .f32⟩
  | 126 => ⟨S128x32x3584, .f32⟩
  | 127 => ⟨S128x32x3584, .f32⟩
  | _ => ⟨S1024x3584, .i32⟩

abbrev hbmTy0_1 (i : Nat) : BufTy := match i % 128 with
  | 0 => ⟨S128x32x3584, .f32⟩
  | 1 => ⟨S_, .f32⟩
  | 2 => ⟨S_, .f32⟩
  | 3 => ⟨S128x32x3584, .f32⟩
  | 4 => ⟨S128x32x3584, .f32⟩
  | 5 => ⟨S128x32x3584, .f32⟩
  | 6 => ⟨S_, .f32⟩
  | 7 => ⟨S_, .f32⟩
  | 8 => ⟨S128x32x3584, .f32⟩
  | 9 => ⟨S128x32x3584, .f32⟩
  | 10 => ⟨S128x32x3584, .f32⟩
  | 11 => ⟨S_, .f32⟩
  | 12 => ⟨S_, .f32⟩
  | 13 => ⟨S128x32x3584, .f32⟩
  | 14 => ⟨S128x32x3584, .f32⟩
  | 15 => ⟨S128x32x3584, .f32⟩
  | 16 => ⟨S_, .i32⟩
  | 17 => ⟨S128x32x3584, .i32⟩
  | 18 => ⟨S128x32x3584, .i32⟩
  | 19 => ⟨S_, .i32⟩
  | 20 => ⟨S128x32x3584, .i32⟩
  | 21 => ⟨S128x32x3584, .i1⟩
  | 22 => ⟨S128x32x3584, .f32⟩
  | 23 => ⟨S128x32x3584, .f32⟩
  | 24 => ⟨S128x32x3584, .f32⟩
  | 25 => ⟨S128x32x3584, .f32⟩
  | 26 => ⟨S_, .i32⟩
  | 27 => ⟨S128x32x3584, .i32⟩
  | 28 => ⟨S128x32x3584, .i32⟩
  | 29 => ⟨S_, .i32⟩
  | 30 => ⟨S128x32x3584, .i32⟩
  | 31 => ⟨S128x32x3584, .i1⟩
  | 32 => ⟨S128x32x3584, .f32⟩
  | 33 => ⟨S128x32x3584, .f32⟩
  | 34 => ⟨S_, .i32⟩
  | 35 => ⟨S128x32x3584, .i32⟩
  | 36 => ⟨S128x32x3584, .i32⟩
  | 37 => ⟨S_, .i32⟩
  | 38 => ⟨S128x32x3584, .i32⟩
  | 39 => ⟨S128x32x3584, .i1⟩
  | 40 => ⟨S128x32x3584, .f32⟩
  | 41 => ⟨S128x32x3584, .f32⟩
  | 42 => ⟨S128x32x3584, .f32⟩
  | 43 => ⟨S128x32x3584, .bf16⟩
  | 44 => ⟨S4096x3584, .bf16⟩
  | 45 => ⟨S128x3584, .f32⟩
  | 46 => ⟨S128x1x3584, .f32⟩
  | 47 => ⟨S4096x3584, .i8⟩
  | 48 => ⟨S128x32x3584, .i8⟩
  | 49 => ⟨S128x32x3584, .i32⟩
  | 50 => ⟨S_, .i32⟩
  | 51 => ⟨S128x32x3584, .i32⟩
  | 52 => ⟨S128x32x3584, .i32⟩
  | 53 => ⟨S_, .i32⟩
  | 54 => ⟨S128x32x3584, .i32⟩
  | 55 => ⟨S128x32x3584, .i32⟩
  | 56 => ⟨S_, .i32⟩
  | 57 => ⟨S128x32x3584, .i32⟩
  | 58 => ⟨S128x32x3584, .i1⟩
  | 59 => ⟨S_, .f32⟩
  | 60 => ⟨S_, .f32⟩
  | 61 => ⟨S128x32x3584, .f32⟩
  | 62 => ⟨S128x32x3584, .f32⟩
  | 63 => ⟨S128x32x3584, .f32⟩
  | 64 => ⟨S_, .f32⟩
  | 65 => ⟨S_, .f32⟩
  | 66 => ⟨S128x32x3584, .f32⟩
  | 67 => ⟨S128x32x3584, .f32⟩
  | 68 => ⟨S128x32x3584, .f32⟩
  | 69 => ⟨S_, .f32⟩
  | 70 => ⟨S_, .f32⟩
  | 71 => ⟨S128x32x3584, .f32⟩
  | 72 => ⟨S128x32x3584, .f32⟩
  | 73 => ⟨S128x32x3584, .f32⟩
  | 74 => ⟨S_, .f32⟩
  | 75 => ⟨S_, .f32⟩
  | 76 => ⟨S128x32x3584, .f32⟩
  | 77 => ⟨S128x32x3584, .f32⟩
  | 78 => ⟨S128x32x3584, .f32⟩
  | 79 => ⟨S_, .f32⟩
  | 80 => ⟨S_, .f32⟩
  | 81 => ⟨S128x32x3584, .f32⟩
  | 82 => ⟨S128x32x3584, .f32⟩
  | 83 => ⟨S128x32x3584, .f32⟩
  | 84 => ⟨S_, .f32⟩
  | 85 => ⟨S_, .f32⟩
  | 86 => ⟨S128x32x3584, .f32⟩
  | 87 => ⟨S128x32x3584, .f32⟩
  | 88 => ⟨S128x32x3584, .f32⟩
  | 89 => ⟨S_, .f32⟩
  | 90 => ⟨S_, .f32⟩
  | 91 => ⟨S128x32x3584, .f32⟩
  | 92 => ⟨S128x32x3584, .f32⟩
  | 93 => ⟨S128x32x3584, .f32⟩
  | 94 => ⟨S_, .f32⟩
  | 95 => ⟨S_, .f32⟩
  | 96 => ⟨S128x32x3584, .f32⟩
  | 97 => ⟨S128x32x3584, .f32⟩
  | 98 => ⟨S128x32x3584, .f32⟩
  | 99 => ⟨S_, .i32⟩
  | 100 => ⟨S128x32x3584, .i32⟩
  | 101 => ⟨S128x32x3584, .i32⟩
  | 102 => ⟨S_, .i32⟩
  | 103 => ⟨S128x32x3584, .i32⟩
  | 104 => ⟨S128x32x3584, .i1⟩
  | 105 => ⟨S128x32x3584, .f32⟩
  | 106 => ⟨S128x32x3584, .f32⟩
  | 107 => ⟨S128x32x3584, .f32⟩
  | 108 => ⟨S128x32x3584, .f32⟩
  | 109 => ⟨S_, .i32⟩
  | 110 => ⟨S128x32x3584, .i32⟩
  | 111 => ⟨S128x32x3584, .i32⟩
  | 112 => ⟨S_, .i32⟩
  | 113 => ⟨S128x32x3584, .i32⟩
  | 114 => ⟨S128x32x3584, .i1⟩
  | 115 => ⟨S128x32x3584, .f32⟩
  | 116 => ⟨S128x32x3584, .f32⟩
  | 117 => ⟨S_, .i32⟩
  | 118 => ⟨S128x32x3584, .i32⟩
  | 119 => ⟨S128x32x3584, .i32⟩
  | 120 => ⟨S_, .i32⟩
  | 121 => ⟨S128x32x3584, .i32⟩
  | 122 => ⟨S128x32x3584, .i1⟩
  | 123 => ⟨S128x32x3584, .f32⟩
  | 124 => ⟨S128x32x3584, .f32⟩
  | 125 => ⟨S128x32x3584, .f32⟩
  | 126 => ⟨S128x32x3584, .bf16⟩
  | 127 => ⟨S4096x3584, .bf16⟩
  | _ => ⟨S1024x3584, .i32⟩

abbrev hbmTy0_2 (i : Nat) : BufTy := match i % 128 with
  | 0 => ⟨S_, .i32⟩
  | 1 => ⟨S128x32x3584, .i32⟩
  | 2 => ⟨S128x32x3584, .i32⟩
  | 3 => ⟨S_, .i32⟩
  | 4 => ⟨S128x32x3584, .i32⟩
  | 5 => ⟨S128x32x3584, .i32⟩
  | 6 => ⟨S_, .i32⟩
  | 7 => ⟨S128x32x3584, .i32⟩
  | 8 => ⟨S128x32x3584, .i1⟩
  | 9 => ⟨S_, .f32⟩
  | 10 => ⟨S_, .f32⟩
  | 11 => ⟨S128x32x3584, .f32⟩
  | 12 => ⟨S128x32x3584, .f32⟩
  | 13 => ⟨S128x32x3584, .f32⟩
  | 14 => ⟨S_, .f32⟩
  | 15 => ⟨S_, .f32⟩
  | 16 => ⟨S128x32x3584, .f32⟩
  | 17 => ⟨S128x32x3584, .f32⟩
  | 18 => ⟨S128x32x3584, .f32⟩
  | 19 => ⟨S_, .f32⟩
  | 20 => ⟨S_, .f32⟩
  | 21 => ⟨S128x32x3584, .f32⟩
  | 22 => ⟨S128x32x3584, .f32⟩
  | 23 => ⟨S128x32x3584, .f32⟩
  | 24 => ⟨S_, .f32⟩
  | 25 => ⟨S_, .f32⟩
  | 26 => ⟨S128x32x3584, .f32⟩
  | 27 => ⟨S128x32x3584, .f32⟩
  | 28 => ⟨S128x32x3584, .f32⟩
  | 29 => ⟨S_, .f32⟩
  | 30 => ⟨S_, .f32⟩
  | 31 => ⟨S128x32x3584, .f32⟩
  | 32 => ⟨S128x32x3584, .f32⟩
  | 33 => ⟨S128x32x3584, .f32⟩
  | 34 => ⟨S_, .f32⟩
  | 35 => ⟨S_, .f32⟩
  | 36 => ⟨S128x32x3584, .f32⟩
  | 37 => ⟨S128x32x3584, .f32⟩
  | 38 => ⟨S128x32x3584, .f32⟩
  | 39 => ⟨S_, .f32⟩
  | 40 => ⟨S_, .f32⟩
  | 41 => ⟨S128x32x3584, .f32⟩
  | 42 => ⟨S128x32x3584, .f32⟩
  | 43 => ⟨S128x32x3584, .f32⟩
  | 44 => ⟨S_, .f32⟩
  | 45 => ⟨S_, .f32⟩
  | 46 => ⟨S128x32x3584, .f32⟩
  | 47 => ⟨S128x32x3584, .f32⟩
  | 48 => ⟨S128x32x3584, .f32⟩
  | 49 => ⟨S_, .i32⟩
  | 50 => ⟨S128x32x3584, .i32⟩
  | 51 => ⟨S128x32x3584, .i32⟩
  | 52 => ⟨S_, .i32⟩
  | 53 => ⟨S128x32x3584, .i32⟩
  | 54 => ⟨S128x32x3584, .i1⟩
  | 55 => ⟨S128x32x3584, .f32⟩
  | 56 => ⟨S128x32x3584, .f32⟩
  | 57 => ⟨S128x32x3584, .f32⟩
  | 58 => ⟨S128x32x3584, .f32⟩
  | 59 => ⟨S_, .i32⟩
  | 60 => ⟨S128x32x3584, .i32⟩
  | 61 => ⟨S128x32x3584, .i32⟩
  | 62 => ⟨S_, .i32⟩
  | 63 => ⟨S128x32x3584, .i32⟩
  | 64 => ⟨S128x32x3584, .i1⟩
  | 65 => ⟨S128x32x3584, .f32⟩
  | 66 => ⟨S128x32x3584, .f32⟩
  | 67 => ⟨S_, .i32⟩
  | 68 => ⟨S128x32x3584, .i32⟩
  | 69 => ⟨S128x32x3584, .i32⟩
  | 70 => ⟨S_, .i32⟩
  | 71 => ⟨S128x32x3584, .i32⟩
  | 72 => ⟨S128x32x3584, .i1⟩
  | 73 => ⟨S128x32x3584, .f32⟩
  | 74 => ⟨S128x32x3584, .f32⟩
  | 75 => ⟨S128x32x3584, .f32⟩
  | 76 => ⟨S128x32x3584, .bf16⟩
  | 77 => ⟨S4096x3584, .bf16⟩
  | 78 => ⟨S1024x3584x2, .bf16⟩
  | 79 => ⟨S1024x2x3584, .bf16⟩
  | 80 => ⟨S2048x3584, .bf16⟩
  | 81 => ⟨S1024x3584x2, .bf16⟩
  | 82 => ⟨S1024x2x3584, .bf16⟩
  | 83 => ⟨S2048x3584, .bf16⟩
  | 84 => ⟨S2048x8192, .f32⟩
  | 85 => ⟨S2048x8192, .f32⟩
  | 86 => ⟨S2048x8192, .f32⟩
  | 87 => ⟨S128x8192, .bf16⟩
  | 88 => ⟨S128x4096, .bf16⟩
  | 89 => ⟨S128x4096, .bf16⟩
  | 90 => ⟨S2048x4096, .f32⟩
  | 91 => ⟨S2048x4096, .f32⟩
  | 92 => ⟨S2048x4096, .f32⟩
  | 93 => ⟨S2048x4096, .f32⟩
  | 94 => ⟨S2048x4096, .f32⟩
  | 95 => ⟨S2048x4096, .f32⟩
  | 96 => ⟨S2048x4096, .f32⟩
  | 97 => ⟨S2048x4096, .f32⟩
  | 98 => ⟨S2048x4096, .f32⟩
  | 99 => ⟨S2048x4096, .f32⟩
  | 100 => ⟨S2048x4096x1, .f32⟩
  | 101 => ⟨S2048x4096x1, .f32⟩
  | 102 => ⟨S2048x4096x2, .f32⟩
  | 103 => ⟨S2048x8192, .f32⟩
  | 104 => ⟨S2048x8192, .f32⟩
  | 105 => ⟨S2048x8192, .f32⟩
  | 106 => ⟨S2048x8192, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S2048x128, .f32⟩
  | _ => ⟨S1024x3584, .i32⟩

abbrev hbmTy (i : Nat) : BufTy := match i / 128 with
  | 0 => hbmTy0_0 i
  | 1 => hbmTy0_1 i
  | 2 => hbmTy0_2 i
  | _ => ⟨S1024x3584, .i32⟩

abbrev bufTy : (tb : Table) → Fin (tcTables nBuf tb) → BufTy
  | .hbm, ⟨i, _⟩ => hbmTy i
  | _, _ => ⟨S1024x3584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v12 : Ref sig .tc := ⟨.hbm, 35, rfl⟩
abbrev main_cst_5 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v13 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_v14 : Ref sig .tc := ⟨.hbm, 45, rfl⟩
abbrev main_cst_9 : Ref sig .tc := ⟨.hbm, 46, rfl⟩
abbrev main_cst_10 : Ref sig .tc := ⟨.hbm, 47, rfl⟩
abbrev main_call4_v0 : Ref sig .tc := ⟨.hbm, 48, rfl⟩
abbrev main_call4_v1 : Ref sig .tc := ⟨.hbm, 49, rfl⟩
abbrev main_v15 : Ref sig .tc := ⟨.hbm, 50, rfl⟩
abbrev main_cst_11 : Ref sig .tc := ⟨.hbm, 51, rfl⟩
abbrev main_cst_12 : Ref sig .tc := ⟨.hbm, 52, rfl⟩
abbrev main_call5_v0 : Ref sig .tc := ⟨.hbm, 53, rfl⟩
abbrev main_call5_v1 : Ref sig .tc := ⟨.hbm, 54, rfl⟩
abbrev main_v16 : Ref sig .tc := ⟨.hbm, 55, rfl⟩
abbrev main_cst_13 : Ref sig .tc := ⟨.hbm, 56, rfl⟩
abbrev main_cst_14 : Ref sig .tc := ⟨.hbm, 57, rfl⟩
abbrev main_call6_v0 : Ref sig .tc := ⟨.hbm, 58, rfl⟩
abbrev main_call6_v1 : Ref sig .tc := ⟨.hbm, 59, rfl⟩
abbrev main_v17 : Ref sig .tc := ⟨.hbm, 60, rfl⟩
abbrev main_cst_15 : Ref sig .tc := ⟨.hbm, 61, rfl⟩
abbrev main_cst_16 : Ref sig .tc := ⟨.hbm, 62, rfl⟩
abbrev main_call7_v0 : Ref sig .tc := ⟨.hbm, 63, rfl⟩
abbrev main_call7_v1 : Ref sig .tc := ⟨.hbm, 64, rfl⟩
abbrev main_v18 : Ref sig .tc := ⟨.hbm, 65, rfl⟩
abbrev main_c_17 : Ref sig .tc := ⟨.hbm, 66, rfl⟩
abbrev main_v19 : Ref sig .tc := ⟨.hbm, 67, rfl⟩
abbrev main_v20 : Ref sig .tc := ⟨.hbm, 68, rfl⟩
abbrev main_c_18 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_19 : Ref sig .tc := ⟨.hbm, 76, rfl⟩
abbrev main_v27 : Ref sig .tc := ⟨.hbm, 77, rfl⟩
abbrev main_v28 : Ref sig .tc := ⟨.hbm, 78, rfl⟩
abbrev main_c_20 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_c_21 : Ref sig .tc := ⟨.hbm, 84, rfl⟩
abbrev main_v33 : Ref sig .tc := ⟨.hbm, 85, rfl⟩
abbrev main_v34 : Ref sig .tc := ⟨.hbm, 86, rfl⟩
abbrev main_c_22 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_c_23 : Ref sig .tc := ⟨.hbm, 95, rfl⟩
abbrev main_v42 : Ref sig .tc := ⟨.hbm, 96, rfl⟩
abbrev main_v43 : Ref sig .tc := ⟨.hbm, 97, rfl⟩
abbrev main_c_24 : Ref sig .tc := ⟨.hbm, 98, rfl⟩
abbrev main_v44 : Ref sig .tc := ⟨.hbm, 99, rfl⟩
abbrev main_v45 : Ref sig .tc := ⟨.hbm, 100, rfl⟩
abbrev main_c_25 : Ref sig .tc := ⟨.hbm, 101, rfl⟩
abbrev main_v46 : Ref sig .tc := ⟨.hbm, 102, rfl⟩
abbrev main_v47 : Ref sig .tc := ⟨.hbm, 103, rfl⟩
abbrev main_cst_26 : Ref sig .tc := ⟨.hbm, 104, rfl⟩
abbrev main_cst_27 : Ref sig .tc := ⟨.hbm, 105, rfl⟩
abbrev main_call15_v0 : Ref sig .tc := ⟨.hbm, 106, rfl⟩
abbrev main_call15_v1 : Ref sig .tc := ⟨.hbm, 107, rfl⟩
abbrev main_v48 : Ref sig .tc := ⟨.hbm, 108, rfl⟩
abbrev main_cst_28 : Ref sig .tc := ⟨.hbm, 109, rfl⟩
abbrev main_cst_29 : Ref sig .tc := ⟨.hbm, 110, rfl⟩
abbrev main_call16_v0 : Ref sig .tc := ⟨.hbm, 111, rfl⟩
abbrev main_call16_v1 : Ref sig .tc := ⟨.hbm, 112, rfl⟩
abbrev main_v49 : Ref sig .tc := ⟨.hbm, 113, rfl⟩
abbrev main_cst_30 : Ref sig .tc := ⟨.hbm, 114, rfl⟩
abbrev main_cst_31 : Ref sig .tc := ⟨.hbm, 115, rfl⟩
abbrev main_call17_v0 : Ref sig .tc := ⟨.hbm, 116, rfl⟩
abbrev main_call17_v1 : Ref sig .tc := ⟨.hbm, 117, rfl⟩
abbrev main_v50 : Ref sig .tc := ⟨.hbm, 118, rfl⟩
abbrev main_cst_32 : Ref sig .tc := ⟨.hbm, 119, rfl⟩
abbrev main_cst_33 : Ref sig .tc := ⟨.hbm, 120, rfl⟩
abbrev main_call18_v0 : Ref sig .tc := ⟨.hbm, 121, rfl⟩
abbrev main_call18_v1 : Ref sig .tc := ⟨.hbm, 122, rfl⟩
abbrev main_v51 : Ref sig .tc := ⟨.hbm, 123, rfl⟩
abbrev main_cst_34 : Ref sig .tc := ⟨.hbm, 124, rfl⟩
abbrev main_cst_35 : Ref sig .tc := ⟨.hbm, 125, rfl⟩
abbrev main_call19_v0 : Ref sig .tc := ⟨.hbm, 126, rfl⟩
abbrev main_call19_v1 : Ref sig .tc := ⟨.hbm, 127, rfl⟩
abbrev main_v52 : Ref sig .tc := ⟨.hbm, 128, rfl⟩
abbrev main_cst_36 : Ref sig .tc := ⟨.hbm, 129, rfl⟩
abbrev main_cst_37 : Ref sig .tc := ⟨.hbm, 130, rfl⟩
abbrev main_call20_v0 : Ref sig .tc := ⟨.hbm, 131, rfl⟩
abbrev main_call20_v1 : Ref sig .tc := ⟨.hbm, 132, rfl⟩
abbrev main_v53 : Ref sig .tc := ⟨.hbm, 133, rfl⟩
abbrev main_cst_38 : Ref sig .tc := ⟨.hbm, 134, rfl⟩
abbrev main_cst_39 : Ref sig .tc := ⟨.hbm, 135, rfl⟩
abbrev main_call21_v0 : Ref sig .tc := ⟨.hbm, 136, rfl⟩
abbrev main_call21_v1 : Ref sig .tc := ⟨.hbm, 137, rfl⟩
abbrev main_v54 : Ref sig .tc := ⟨.hbm, 138, rfl⟩
abbrev main_cst_40 : Ref sig .tc := ⟨.hbm, 139, rfl⟩
abbrev main_cst_41 : Ref sig .tc := ⟨.hbm, 140, rfl⟩
abbrev main_call22_v0 : Ref sig .tc := ⟨.hbm, 141, rfl⟩
abbrev main_call22_v1 : Ref sig .tc := ⟨.hbm, 142, rfl⟩
abbrev main_v55 : Ref sig .tc := ⟨.hbm, 143, rfl⟩
abbrev main_c_42 : Ref sig .tc := ⟨.hbm, 144, rfl⟩
abbrev main_v56 : Ref sig .tc := ⟨.hbm, 145, rfl⟩
abbrev main_v57 : Ref sig .tc := ⟨.hbm, 146, rfl⟩
abbrev main_c_43 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_c_44 : Ref sig .tc := ⟨.hbm, 154, rfl⟩
abbrev main_v64 : Ref sig .tc := ⟨.hbm, 155, rfl⟩
abbrev main_v65 : Ref sig .tc := ⟨.hbm, 156, rfl⟩
abbrev main_c_45 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_c_46 : Ref sig .tc := ⟨.hbm, 162, rfl⟩
abbrev main_v70 : Ref sig .tc := ⟨.hbm, 163, rfl⟩
abbrev main_v71 : Ref sig .tc := ⟨.hbm, 164, rfl⟩
abbrev main_c_47 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_c_48 : Ref sig .tc := ⟨.hbm, 178, rfl⟩
abbrev main_v84 : Ref sig .tc := ⟨.hbm, 179, rfl⟩
abbrev main_v85 : Ref sig .tc := ⟨.hbm, 180, rfl⟩
abbrev main_c_49 : Ref sig .tc := ⟨.hbm, 181, rfl⟩
abbrev main_v86 : Ref sig .tc := ⟨.hbm, 182, rfl⟩
abbrev main_v87 : Ref sig .tc := ⟨.hbm, 183, rfl⟩
abbrev main_c_50 : Ref sig .tc := ⟨.hbm, 184, rfl⟩
abbrev main_v88 : Ref sig .tc := ⟨.hbm, 185, rfl⟩
abbrev main_v89 : Ref sig .tc := ⟨.hbm, 186, rfl⟩
abbrev main_cst_51 : Ref sig .tc := ⟨.hbm, 187, rfl⟩
abbrev main_cst_52 : Ref sig .tc := ⟨.hbm, 188, rfl⟩
abbrev main_call30_v0 : Ref sig .tc := ⟨.hbm, 189, rfl⟩
abbrev main_call30_v1 : Ref sig .tc := ⟨.hbm, 190, rfl⟩
abbrev main_v90 : Ref sig .tc := ⟨.hbm, 191, rfl⟩
abbrev main_cst_53 : Ref sig .tc := ⟨.hbm, 192, rfl⟩
abbrev main_cst_54 : Ref sig .tc := ⟨.hbm, 193, rfl⟩
abbrev main_call31_v0 : Ref sig .tc := ⟨.hbm, 194, rfl⟩
abbrev main_call31_v1 : Ref sig .tc := ⟨.hbm, 195, rfl⟩
abbrev main_v91 : Ref sig .tc := ⟨.hbm, 196, rfl⟩
abbrev main_cst_55 : Ref sig .tc := ⟨.hbm, 197, rfl⟩
abbrev main_cst_56 : Ref sig .tc := ⟨.hbm, 198, rfl⟩
abbrev main_call32_v0 : Ref sig .tc := ⟨.hbm, 199, rfl⟩
abbrev main_call32_v1 : Ref sig .tc := ⟨.hbm, 200, rfl⟩
abbrev main_v92 : Ref sig .tc := ⟨.hbm, 201, rfl⟩
abbrev main_cst_57 : Ref sig .tc := ⟨.hbm, 202, rfl⟩
abbrev main_cst_58 : Ref sig .tc := ⟨.hbm, 203, rfl⟩
abbrev main_call33_v0 : Ref sig .tc := ⟨.hbm, 204, rfl⟩
abbrev main_call33_v1 : Ref sig .tc := ⟨.hbm, 205, rfl⟩
abbrev main_v93 : Ref sig .tc := ⟨.hbm, 206, rfl⟩
abbrev main_cst_59 : Ref sig .tc := ⟨.hbm, 207, rfl⟩
abbrev main_cst_60 : Ref sig .tc := ⟨.hbm, 208, rfl⟩
abbrev main_call34_v0 : Ref sig .tc := ⟨.hbm, 209, rfl⟩
abbrev main_call34_v1 : Ref sig .tc := ⟨.hbm, 210, rfl⟩
abbrev main_v94 : Ref sig .tc := ⟨.hbm, 211, rfl⟩
abbrev main_cst_61 : Ref sig .tc := ⟨.hbm, 212, rfl⟩
abbrev main_cst_62 : Ref sig .tc := ⟨.hbm, 213, rfl⟩
abbrev main_call35_v0 : Ref sig .tc := ⟨.hbm, 214, rfl⟩
abbrev main_call35_v1 : Ref sig .tc := ⟨.hbm, 215, rfl⟩
abbrev main_v95 : Ref sig .tc := ⟨.hbm, 216, rfl⟩
abbrev main_cst_63 : Ref sig .tc := ⟨.hbm, 217, rfl⟩
abbrev main_cst_64 : Ref sig .tc := ⟨.hbm, 218, rfl⟩
abbrev main_call36_v0 : Ref sig .tc := ⟨.hbm, 219, rfl⟩
abbrev main_call36_v1 : Ref sig .tc := ⟨.hbm, 220, rfl⟩
abbrev main_v96 : Ref sig .tc := ⟨.hbm, 221, rfl⟩
abbrev main_cst_65 : Ref sig .tc := ⟨.hbm, 222, rfl⟩
abbrev main_cst_66 : Ref sig .tc := ⟨.hbm, 223, rfl⟩
abbrev main_call37_v0 : Ref sig .tc := ⟨.hbm, 224, rfl⟩
abbrev main_call37_v1 : Ref sig .tc := ⟨.hbm, 225, rfl⟩
abbrev main_v97 : Ref sig .tc := ⟨.hbm, 226, rfl⟩
abbrev main_c_67 : Ref sig .tc := ⟨.hbm, 227, rfl⟩
abbrev main_v98 : Ref sig .tc := ⟨.hbm, 228, rfl⟩
abbrev main_v99 : Ref sig .tc := ⟨.hbm, 229, rfl⟩
abbrev main_c_68 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_c_69 : Ref sig .tc := ⟨.hbm, 237, rfl⟩
abbrev main_v106 : Ref sig .tc := ⟨.hbm, 238, rfl⟩
abbrev main_v107 : Ref sig .tc := ⟨.hbm, 239, rfl⟩
abbrev main_c_70 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_c_71 : Ref sig .tc := ⟨.hbm, 245, rfl⟩
abbrev main_v112 : Ref sig .tc := ⟨.hbm, 246, rfl⟩
abbrev main_v113 : Ref sig .tc := ⟨.hbm, 247, rfl⟩
abbrev main_c_72 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_c_73 : Ref sig .tc := ⟨.hbm, 256, rfl⟩
abbrev main_v121 : Ref sig .tc := ⟨.hbm, 257, rfl⟩
abbrev main_v122 : Ref sig .tc := ⟨.hbm, 258, rfl⟩
abbrev main_c_74 : Ref sig .tc := ⟨.hbm, 259, rfl⟩
abbrev main_v123 : Ref sig .tc := ⟨.hbm, 260, rfl⟩
abbrev main_v124 : Ref sig .tc := ⟨.hbm, 261, rfl⟩
abbrev main_c_75 : Ref sig .tc := ⟨.hbm, 262, rfl⟩
abbrev main_v125 : Ref sig .tc := ⟨.hbm, 263, rfl⟩
abbrev main_v126 : Ref sig .tc := ⟨.hbm, 264, rfl⟩
abbrev main_cst_76 : Ref sig .tc := ⟨.hbm, 265, rfl⟩
abbrev main_cst_77 : Ref sig .tc := ⟨.hbm, 266, rfl⟩
abbrev main_call45_v0 : Ref sig .tc := ⟨.hbm, 267, rfl⟩
abbrev main_call45_v1 : Ref sig .tc := ⟨.hbm, 268, rfl⟩
abbrev main_v127 : Ref sig .tc := ⟨.hbm, 269, rfl⟩
abbrev main_cst_78 : Ref sig .tc := ⟨.hbm, 270, rfl⟩
abbrev main_cst_79 : Ref sig .tc := ⟨.hbm, 271, rfl⟩
abbrev main_call46_v0 : Ref sig .tc := ⟨.hbm, 272, rfl⟩
abbrev main_call46_v1 : Ref sig .tc := ⟨.hbm, 273, rfl⟩
abbrev main_v128 : Ref sig .tc := ⟨.hbm, 274, rfl⟩
abbrev main_cst_80 : Ref sig .tc := ⟨.hbm, 275, rfl⟩
abbrev main_cst_81 : Ref sig .tc := ⟨.hbm, 276, rfl⟩
abbrev main_call47_v0 : Ref sig .tc := ⟨.hbm, 277, rfl⟩
abbrev main_call47_v1 : Ref sig .tc := ⟨.hbm, 278, rfl⟩
abbrev main_v129 : Ref sig .tc := ⟨.hbm, 279, rfl⟩
abbrev main_cst_82 : Ref sig .tc := ⟨.hbm, 280, rfl⟩
abbrev main_cst_83 : Ref sig .tc := ⟨.hbm, 281, rfl⟩
abbrev main_call48_v0 : Ref sig .tc := ⟨.hbm, 282, rfl⟩
abbrev main_call48_v1 : Ref sig .tc := ⟨.hbm, 283, rfl⟩
abbrev main_v130 : Ref sig .tc := ⟨.hbm, 284, rfl⟩
abbrev main_cst_84 : Ref sig .tc := ⟨.hbm, 285, rfl⟩
abbrev main_cst_85 : Ref sig .tc := ⟨.hbm, 286, rfl⟩
abbrev main_call49_v0 : Ref sig .tc := ⟨.hbm, 287, rfl⟩
abbrev main_call49_v1 : Ref sig .tc := ⟨.hbm, 288, rfl⟩
abbrev main_v131 : Ref sig .tc := ⟨.hbm, 289, rfl⟩
abbrev main_cst_86 : Ref sig .tc := ⟨.hbm, 290, rfl⟩
abbrev main_cst_87 : Ref sig .tc := ⟨.hbm, 291, rfl⟩
abbrev main_call50_v0 : Ref sig .tc := ⟨.hbm, 292, rfl⟩
abbrev main_call50_v1 : Ref sig .tc := ⟨.hbm, 293, rfl⟩
abbrev main_v132 : Ref sig .tc := ⟨.hbm, 294, rfl⟩
abbrev main_cst_88 : Ref sig .tc := ⟨.hbm, 295, rfl⟩
abbrev main_cst_89 : Ref sig .tc := ⟨.hbm, 296, rfl⟩
abbrev main_call51_v0 : Ref sig .tc := ⟨.hbm, 297, rfl⟩
abbrev main_call51_v1 : Ref sig .tc := ⟨.hbm, 298, rfl⟩
abbrev main_v133 : Ref sig .tc := ⟨.hbm, 299, rfl⟩
abbrev main_cst_90 : Ref sig .tc := ⟨.hbm, 300, rfl⟩
abbrev main_cst_91 : Ref sig .tc := ⟨.hbm, 301, rfl⟩
abbrev main_call52_v0 : Ref sig .tc := ⟨.hbm, 302, rfl⟩
abbrev main_call52_v1 : Ref sig .tc := ⟨.hbm, 303, rfl⟩
abbrev main_v134 : Ref sig .tc := ⟨.hbm, 304, rfl⟩
abbrev main_c_92 : Ref sig .tc := ⟨.hbm, 305, rfl⟩
abbrev main_v135 : Ref sig .tc := ⟨.hbm, 306, rfl⟩
abbrev main_v136 : Ref sig .tc := ⟨.hbm, 307, rfl⟩
abbrev main_c_93 : Ref sig .tc := ⟨.hbm, 308, rfl⟩
abbrev main_v137 : Ref sig .tc := ⟨.hbm, 309, rfl⟩
abbrev main_v138 : Ref sig .tc := ⟨.hbm, 310, rfl⟩
abbrev main_v139 : Ref sig .tc := ⟨.hbm, 311, rfl⟩
abbrev main_v140 : Ref sig .tc := ⟨.hbm, 312, rfl⟩
abbrev main_v141 : Ref sig .tc := ⟨.hbm, 313, rfl⟩
abbrev main_v142 : Ref sig .tc := ⟨.hbm, 314, rfl⟩
abbrev main_c_94 : Ref sig .tc := ⟨.hbm, 315, rfl⟩
abbrev main_v143 : Ref sig .tc := ⟨.hbm, 316, rfl⟩
abbrev main_v144 : Ref sig .tc := ⟨.hbm, 317, rfl⟩
abbrev main_c_95 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_v148 : Ref sig .tc := ⟨.hbm, 322, rfl⟩
abbrev main_c_96 : Ref sig .tc := ⟨.hbm, 323, rfl⟩
abbrev main_v149 : Ref sig .tc := ⟨.hbm, 324, rfl⟩
abbrev main_v150 : Ref sig .tc := ⟨.hbm, 325, rfl⟩
abbrev main_c_97 : Ref sig .tc := ⟨.hbm, 326, rfl⟩
abbrev main_v151 : Ref sig .tc := ⟨.hbm, 327, rfl⟩
abbrev main_v152 : Ref sig .tc := ⟨.hbm, 328, rfl⟩
abbrev main_v153 : Ref sig .tc := ⟨.hbm, 329, rfl⟩
abbrev main_v154 : Ref sig .tc := ⟨.hbm, 330, rfl⟩
abbrev main_v155 : Ref sig .tc := ⟨.hbm, 331, rfl⟩
abbrev main_v156 : Ref sig .tc := ⟨.hbm, 332, rfl⟩
abbrev main_v157 : Ref sig .tc := ⟨.hbm, 333, rfl⟩
abbrev main_v158 : Ref sig .tc := ⟨.hbm, 334, rfl⟩
abbrev main_v159 : Ref sig .tc := ⟨.hbm, 335, rfl⟩
abbrev main_v160 : Ref sig .tc := ⟨.hbm, 336, rfl⟩
abbrev main_v161 : Ref sig .tc := ⟨.hbm, 337, rfl⟩
abbrev main_v162 : Ref sig .tc := ⟨.hbm, 338, rfl⟩
abbrev main_v163 : Ref sig .tc := ⟨.hbm, 339, rfl⟩
abbrev main_v164 : Ref sig .tc := ⟨.hbm, 340, rfl⟩
abbrev main_v165 : Ref sig .tc := ⟨.hbm, 341, rfl⟩
abbrev main_v166 : Ref sig .tc := ⟨.hbm, 342, rfl⟩
abbrev main_v167 : Ref sig .tc := ⟨.hbm, 343, rfl⟩
abbrev main_v168 : Ref sig .tc := ⟨.hbm, 344, rfl⟩
abbrev main_v169 : Ref sig .tc := ⟨.hbm, 345, rfl⟩
abbrev main_v170 : Ref sig .tc := ⟨.hbm, 346, rfl⟩
abbrev main_v171 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_v186 : Ref sig .tc := ⟨.hbm, 362, rfl⟩
abbrev main_cst_98 : Ref sig .tc := ⟨.hbm, 363, rfl⟩
abbrev main_v187 : Ref sig .tc := ⟨.hbm, 364, rfl⟩
abbrev main_v188 : Ref sig .tc := ⟨.hbm, 365, rfl⟩
abbrev main_cst_99 : Ref sig .tc := ⟨.hbm, 366, rfl⟩
abbrev main_v189 : Ref sig .tc := ⟨.hbm, 367, rfl⟩
abbrev main_v190 : Ref sig .tc := ⟨.hbm, 368, rfl⟩
abbrev main_v191 : Ref sig .tc := ⟨.hbm, 369, rfl⟩

abbrev nD : Nat := 1
abbrev τ : Topo := Topo.v7x

variable {F : FTy → Type} [FloatOps F]
-- ==== Down.lean ====
abbrev S2048x8192 : Shape := ⟨2, ![2048, 8192]⟩
abbrev S8192x1792 : Shape := ⟨2, ![8192, 1792]⟩
abbrev S8192x128 : Shape := ⟨2, ![8192, 128]⟩
abbrev S2048x64 : Shape := ⟨2, ![2048, 64]⟩
abbrev S64x3584 : Shape := ⟨2, ![64, 3584]⟩
abbrev S2048x3584 : Shape := ⟨2, ![2048, 3584]⟩
abbrev S64x256 : Shape := ⟨2, ![64, 256]⟩
abbrev S2048x256 : Shape := ⟨2, ![2048, 256]⟩
abbrev S4096x256 : Shape := ⟨2, ![4096, 256]⟩
abbrev S8x128 : Shape := ⟨2, ![8, 128]⟩
abbrev S256x128 : Shape := ⟨2, ![256, 128]⟩
abbrev S1x128 : Shape := ⟨2, ![1, 128]⟩
abbrev S64x128 : Shape := ⟨2, ![64, 128]⟩
abbrev S1x8x128 : Shape := ⟨3, ![1, 8, 128]⟩
abbrev S32x8x128 : Shape := ⟨3, ![32, 8, 128]⟩
abbrev S64x128x1 : Shape := ⟨3, ![64, 128, 1]⟩
abbrev S32x8x128x1 : Shape := ⟨4, ![32, 8, 128, 1]⟩
abbrev S256x128x1 : Shape := ⟨3, ![256, 128, 1]⟩
abbrev S256x256 : Shape := ⟨2, ![256, 256]⟩
abbrev S128x256 : Shape := ⟨2, ![128, 256]⟩
abbrev S1024x64 : Shape := ⟨2, ![1024, 64]⟩
abbrev S1024x256 : Shape := ⟨2, ![1024, 256]⟩
abbrev S16x256 : Shape := ⟨2, ![16, 256]⟩

abbrev nBuf : Space → Nat
  | .hbm => 10
  | .vmem => 19
  | .smem => 0
  | _ => 0

abbrev bufTy : (tb : Table) → Fin (tcTables nBuf tb) → BufTy
  | .hbm, ⟨0, _⟩ => ⟨S2048x8192, .bf16⟩
  | .hbm, ⟨1, _⟩ => ⟨S8192x1792, .i8⟩
  | .hbm, ⟨2, _⟩ => ⟨S8192x128, .f32⟩
  | .hbm, ⟨3, _⟩ => ⟨S2048x64, .bf16⟩
  | .hbm, ⟨4, _⟩ => ⟨S64x3584, .bf16⟩
  | .hbm, ⟨5, _⟩ => ⟨S2048x3584, .bf16⟩
  | .hbm, ⟨6, _⟩ => ⟨S2048x3584, .bf16⟩
  | .hbm, ⟨7, _⟩ => ⟨S2048x3584, .bf16⟩
  | .hbm, ⟨8, _⟩ => ⟨S2048x3584, .bf16⟩
  | .hbm, ⟨9, _⟩ => ⟨S2048x3584, .bf16⟩
  | .local _ .vmem, ⟨0, _⟩ => ⟨S2048x8192, .bf16⟩
  | .local _ .vmem, ⟨1, _⟩ => ⟨S8192x128, .i8⟩
  | .local _ .vmem, ⟨2, _⟩ => ⟨S8192x128, .i8⟩
  | .local _ .vmem, ⟨3, _⟩ => ⟨S8192x128, .f32⟩
  | .local _ .vmem, ⟨4, _⟩ => ⟨S2048x64, .bf16⟩
  | .local _ .vmem, ⟨5, _⟩ => ⟨S64x256, .bf16⟩
  | .local _ .vmem, ⟨6, _⟩ => ⟨S64x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S4096x256, .i32⟩
  | .local _ .vmem, ⟨18, _⟩ => ⟨S2048x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![14], ![false]⟩

@[reducible] def k0_t1_loop : Scf.Loop 32 :=
  let c0_i32_25 : BitVec 32 := 0#32
  let c32_i32 : BitVec 32 := 32#32
  let v67 : BitVec 32 := Scalar.addi c0_i32_25 c32_i32
  let c1_i32_26 : BitVec 32 := 1#32
  ⟨c0_i32_25, v67, c1_i32_26⟩
def k0_mult1 (k0_t1 : Fin k0_t1_loop.trips) : BitVec 32 :=
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  v401
def k0_off1 (k0_t1 : Fin k0_t1_loop.trips) : Fin 2 → Nat :=
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v403 : Index := Scalar.indexCast v402
  let c0_317 : Index := 0#32
  ![v403.toNat, 0]
def k0_mult2 (k0_t1 : Fin k0_t1_loop.trips) : BitVec 32 :=
  let c0_i32_365 : BitVec 32 := 0#32
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v605 : BitVec 32 := Scalar.addi c0_i32_365 v402
  let c0_i32_367 : BitVec 32 := 0#32
  let v607 : BitVec 1 := Scalar.cmpi .sgt v605 c0_i32_367
  let v608 : BitVec 32 := Scalar.extui v607
  let c0_i32_368 : BitVec 32 := 0#32
  let v609 : BitVec 1 := Scalar.cmpi .slt v605 c0_i32_368
  let v610 : BitVec 32 := Scalar.extui v609
  let v611 : BitVec 32 := Scalar.subi v608 v610
  let c2_i32_366 : BitVec 32 := 2#32
  let c0_i32_369 : BitVec 32 := 0#32
  let v612 : BitVec 1 := Scalar.cmpi .sgt c2_i32_366 c0_i32_369
  let v613 : BitVec 32 := Scalar.extui v612
  let c0_i32_370 : BitVec 32 := 0#32
  let v614 : BitVec 1 := Scalar.cmpi .slt c2_i32_366 c0_i32_370
  let v615 : BitVec 32 := Scalar.extui v614
  let v616 : BitVec 32 := Scalar.subi v613 v615
  let v617 : BitVec 1 := Scalar.cmpi .ne v611 v616
  let v618 : BitVec 32 := Scalar.remsi v605 c2_i32_366
  let c0_i32_371 : BitVec 32 := 0#32
  let v619 : BitVec 1 := Scalar.cmpi .ne v618 c0_i32_371
  let v620 : BitVec 1 := Scalar.andi v617 v619
  let v606 : BitVec 32 := Scalar.divsi v605 c2_i32_366
  let c1_i32_372 : BitVec 32 := 1#32
  let v621 : BitVec 32 := Scalar.subi v606 c1_i32_372
  let v622 : BitVec 32 := Scalar.select v620 v621 v606
  v622
def k0_off2 (k0_t1 : Fin k0_t1_loop.trips) : Fin 2 → Nat :=
  let c0_i32_365 : BitVec 32 := 0#32
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v605 : BitVec 32 := Scalar.addi c0_i32_365 v402
  let c0_i32_367 : BitVec 32 := 0#32
  let v607 : BitVec 1 := Scalar.cmpi .sgt v605 c0_i32_367
  let v608 : BitVec 32 := Scalar.extui v607
  let c0_i32_368 : BitVec 32 := 0#32
  let v609 : BitVec 1 := Scalar.cmpi .slt v605 c0_i32_368
  let v610 : BitVec 32 := Scalar.extui v609
  let v611 : BitVec 32 := Scalar.subi v608 v610
  let c2_i32_366 : BitVec 32 := 2#32
  let c0_i32_369 : BitVec 32 := 0#32
  let v612 : BitVec 1 := Scalar.cmpi .sgt c2_i32_366 c0_i32_369
  let v613 : BitVec 32 := Scalar.extui v612
  let c0_i32_370 : BitVec 32 := 0#32
  let v614 : BitVec 1 := Scalar.cmpi .slt c2_i32_366 c0_i32_370
  let v615 : BitVec 32 := Scalar.extui v614
  let v616 : BitVec 32 := Scalar.subi v613 v615
  let v617 : BitVec 1 := Scalar.cmpi .ne v611 v616
  let v618 : BitVec 32 := Scalar.remsi v605 c2_i32_366
  let c0_i32_371 : BitVec 32 := 0#32
  let v619 : BitVec 1 := Scalar.cmpi .ne v618 c0_i32_371
  let v620 : BitVec 1 := Scalar.andi v617 v619
  let v606 : BitVec 32 := Scalar.divsi v605 c2_i32_366
  let c1_i32_372 : BitVec 32 := 1#32
  let v621 : BitVec 32 := Scalar.subi v606 c1_i32_372
  let v622 : BitVec 32 := Scalar.select v620 v621 v606
  let v623 : BitVec 32 := v622
  let v625 : Index := Scalar.indexCast v623
  let c0_373 : Index := 0#32
  ![v625.toNat, 0]
@[reducible] def k0_t2_loop : Scf.Loop 32 :=
  let c0_i32_314 : BitVec 32 := 0#32
  let c128_i32 : BitVec 32 := 128#32
  let v400 : BitVec 32 := Scalar.addi c0_i32_314 c128_i32
  let c1_i32_315 : BitVec 32 := 1#32
  ⟨c0_i32_314, v400, c1_i32_315⟩
def k0_mult3 (k0_t2 : Fin k0_t2_loop.trips) : BitVec 32 :=
  let c0_i32_314 : BitVec 32 := 0#32
  let c1_i32_315 : BitVec 32 := 1#32
  let arg13 : BitVec 32 := Scf.iv c0_i32_314 c1_i32_315 k0_t2
  let c16_i32 : BitVec 32 := 16#32
  let v401 : BitVec 32 := Scalar.muli arg13 c16_i32
  v401
def k0_off3 (k0_t2 : Fin k0_t2_loop.trips) : Fin 2 → Nat :=
  let c0_i32_314 : BitVec 32 := 0#32
  let c1_i32_315 : BitVec 32 := 1#32
  let arg13 : BitVec 32 := Scf.iv c0_i32_314 c1_i32_315 k0_t2
  let c16_i32 : BitVec 32 := 16#32
  let v401 : BitVec 32 := Scalar.muli arg13 c16_i32
  let v402 : BitVec 32 := v401
  let v403 : Index := Scalar.indexCast v402
  let c0_317 : Index := 0#32
  ![v403.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownIdeal.lean ====
abbrev S2048x8192 : Shape := ⟨2, ![2048, 8192]⟩
abbrev S8192x1792 : Shape := ⟨2, ![8192, 1792]⟩
abbrev S8192x128 : Shape := ⟨2, ![8192, 128]⟩
abbrev S2048x64 : Shape := ⟨2, ![2048, 64]⟩
abbrev S64x3584 : Shape := ⟨2, ![64, 3584]⟩
abbrev S2048x3584 : Shape := ⟨2, ![2048, 3584]⟩
abbrev S64x256 : Shape := ⟨2, ![64, 256]⟩
abbrev S2048x256 : Shape := ⟨2, ![2048, 256]⟩
abbrev S4096x256 : Shape := ⟨2, ![4096, 256]⟩
abbrev S4096x2x256 : Shape := ⟨3, ![4096, 2, 256]⟩
abbrev S4096x1x256 : Shape := ⟨3, ![4096, 1, 256]⟩
abbrev S8x128 : Shape := ⟨2, ![8, 128]⟩
abbrev S256x128 : Shape := ⟨2, ![256, 128]⟩
abbrev S1x128 : Shape := ⟨2, ![1, 128]⟩
abbrev S64x128 : Shape := ⟨2, ![64, 128]⟩
abbrev S1x8x128 : Shape := ⟨3, ![1, 8, 128]⟩
abbrev S32x8x128 : Shape := ⟨3, ![32, 8, 128]⟩
abbrev S64x128x1 : Shape := ⟨3, ![64, 128, 1]⟩
abbrev S32x8x128x1 : Shape := ⟨4, ![32, 8, 128, 1]⟩
abbrev S256x128x1 : Shape := ⟨3, ![256, 128, 1]⟩
abbrev S256x256 : Shape := ⟨2, ![256, 256]⟩
abbrev S128x256 : Shape := ⟨2, ![128, 256]⟩
abbrev S128x2x256 : Shape := ⟨3, ![128, 2, 256]⟩
abbrev S128x1x256 : Shape := ⟨3, ![128, 1, 256]⟩
abbrev S1024x64 : Shape := ⟨2, ![1024, 64]⟩
abbrev S1024x256 : Shape := ⟨2, ![1024, 256]⟩
abbrev S16x256 : Shape := ⟨2, ![16, 256]⟩

abbrev nBuf : Space → Nat
  | .hbm => 10
  | .vmem => 19
  | .smem => 0
  | _ => 0

abbrev bufTy : (tb : Table) → Fin (tcTables nBuf tb) → BufTy
  | .hbm, ⟨0, _⟩ => ⟨S2048x8192, .bf16⟩
  | .hbm, ⟨1, _⟩ => ⟨S8192x1792, .i8⟩
  | .hbm, ⟨2, _⟩ => ⟨S8192x128, .f32⟩
  | .hbm, ⟨3, _⟩ => ⟨S2048x64, .bf16⟩
  | .hbm, ⟨4, _⟩ => ⟨S64x3584, .bf16⟩
  | .hbm, ⟨5, _⟩ => ⟨S2048x3584, .bf16⟩
  | .hbm, ⟨6, _⟩ => ⟨S2048x3584, .bf16⟩
  | .hbm, ⟨7, _⟩ => ⟨S2048x3584, .bf16⟩
  | .hbm, ⟨8, _⟩ => ⟨S2048x3584, .bf16⟩
  | .hbm, ⟨9, _⟩ => ⟨S2048x3584, .bf16⟩
  | .local _ .vmem, ⟨0, _⟩ => ⟨S2048x8192, .bf16⟩
  | .local _ .vmem, ⟨1, _⟩ => ⟨S8192x128, .i8⟩
  | .local _ .vmem, ⟨2, _⟩ => ⟨S8192x128, .i8⟩
  | .local _ .vmem, ⟨3, _⟩ => ⟨S8192x128, .f32⟩
  | .local _ .vmem, ⟨4, _⟩ => ⟨S2048x64, .bf16⟩
  | .local _ .vmem, ⟨5, _⟩ => ⟨S64x256, .bf16⟩
  | .local _ .vmem, ⟨6, _⟩ => ⟨S64x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S4096x2x256, .bf16⟩
  | .local _ .vmem, ⟨18, _⟩ => ⟨S2048x256, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_25 : BitVec 32 := 0#32
  let c32_i32 : BitVec 32 := 32#32
  let v67 : BitVec 32 := Scalar.addi c0_i32_25 c32_i32
  let c1_i32_26 : BitVec 32 := 1#32
  ⟨c0_i32_25, v67, c1_i32_26⟩
def k0_mult1 (k0_t1 : Fin k0_t1_loop.trips) : BitVec 32 :=
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  v401
def k0_off1 (k0_t1 : Fin k0_t1_loop.trips) : Fin 2 → Nat :=
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v403 : Index := Scalar.indexCast v402
  let c0_317 : Index := 0#32
  ![v403.toNat, 0]
def k0_mult2 (k0_t1 : Fin k0_t1_loop.trips) : BitVec 32 :=
  let c0_i32_365 : BitVec 32 := 0#32
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v605 : BitVec 32 := Scalar.addi c0_i32_365 v402
  let c0_i32_367 : BitVec 32 := 0#32
  let v607 : BitVec 1 := Scalar.cmpi .sgt v605 c0_i32_367
  let v608 : BitVec 32 := Scalar.extui v607
  let c0_i32_368 : BitVec 32 := 0#32
  let v609 : BitVec 1 := Scalar.cmpi .slt v605 c0_i32_368
  let v610 : BitVec 32 := Scalar.extui v609
  let v611 : BitVec 32 := Scalar.subi v608 v610
  let c2_i32_366 : BitVec 32 := 2#32
  let c0_i32_369 : BitVec 32 := 0#32
  let v612 : BitVec 1 := Scalar.cmpi .sgt c2_i32_366 c0_i32_369
  let v613 : BitVec 32 := Scalar.extui v612
  let c0_i32_370 : BitVec 32 := 0#32
  let v614 : BitVec 1 := Scalar.cmpi .slt c2_i32_366 c0_i32_370
  let v615 : BitVec 32 := Scalar.extui v614
  let v616 : BitVec 32 := Scalar.subi v613 v615
  let v617 : BitVec 1 := Scalar.cmpi .ne v611 v616
  let v618 : BitVec 32 := Scalar.remsi v605 c2_i32_366
  let c0_i32_371 : BitVec 32 := 0#32
  let v619 : BitVec 1 := Scalar.cmpi .ne v618 c0_i32_371
  let v620 : BitVec 1 := Scalar.andi v617 v619
  let v606 : BitVec 32 := Scalar.divsi v605 c2_i32_366
  let c1_i32_372 : BitVec 32 := 1#32
  let v621 : BitVec 32 := Scalar.subi v606 c1_i32_372
  let v622 : BitVec 32 := Scalar.select v620 v621 v606
  v622
def k0_off2 (k0_t1 : Fin k0_t1_loop.trips) : Fin 3 → Nat :=
  let c0_i32_365 : BitVec 32 := 0#32
  let c0_i32_25 : BitVec 32 := 0#32
  let c1_i32_26 : BitVec 32 := 1#32
  let arg13 : BitVec 32 := Scf.iv c0_i32_25 c1_i32_26 k0_t1
  let c256_i32 : BitVec 32 := 256#32
  let v401 : BitVec 32 := Scalar.muli arg13 c256_i32
  let v402 : BitVec 32 := v401
  let v605 : BitVec 32 := Scalar.addi c0_i32_365 v402
  let c0_i32_367 : BitVec 32 := 0#32
  let v607 : BitVec 1 := Scalar.cmpi .sgt v605 c0_i32_367
  let v608 : BitVec 32 := Scalar.extui v607
  let c0_i32_368 : BitVec 32 := 0#32
  let v609 : BitVec 1 := Scalar.cmpi .slt v605 c0_i32_368
  let v610 : BitVec 32 := Scalar.extui v609
  let v611 : BitVec 32 := Scalar.subi v608 v610
  let c2_i32_366 : BitVec 32 := 2#32
  let c0_i32_369 : BitVec 32 := 0#32
  let v612 : BitVec 1 := Scalar.cmpi .sgt c2_i32_366 c0_i32_369
  let v613 : BitVec 32 := Scalar.extui v612
  let c0_i32_370 : BitVec 32 := 0#32
  let v614 : BitVec 1 := Scalar.cmpi .slt c2_i32_366 c0_i32_370
  let v615 : BitVec 32 := Scalar.extui v614
  let v616 : BitVec 32 := Scalar.subi v613 v615
  let v617 : BitVec 1 := Scalar.cmpi .ne v611 v616
  let v618 : BitVec 32 := Scalar.remsi v605 c2_i32_366
  let c0_i32_371 : BitVec 32 := 0#32
  let v619 : BitVec 1 := Scalar.cmpi .ne v618 c0_i32_371
  let v620 : BitVec 1 := Scalar.andi v617 v619
  let v606 : BitVec 32 := Scalar.divsi v605 c2_i32_366
  let c1_i32_372 : BitVec 32 := 1#32
  let v621 : BitVec 32 := Scalar.subi v606 c1_i32_372
  let v622 : BitVec 32 := Scalar.select v620 v621 v606
  let v623 : BitVec 32 := v622
  let v625 : Index := Scalar.indexCast v623
  let c0_373 : Index := 0#32
  ![v625.toNat, 0, 0]
@[reducible] def k0_t2_loop : Scf.Loop 32 :=
  let c0_i32_314 : BitVec 32 := 0#32
  let c128_i32 : BitVec 32 := 128#32
  let v400 : BitVec 32 := Scalar.addi c0_i32_314 c128_i32
  let c1_i32_315 : BitVec 32 := 1#32
  ⟨c0_i32_314, v400, c1_i32_315⟩
def k0_mult3 (k0_t2 : Fin k0_t2_loop.trips) : BitVec 32 :=
  let c0_i32_314 : BitVec 32 := 0#32
  let c1_i32_315 : BitVec 32 := 1#32
  let arg13 : BitVec 32 := Scf.iv c0_i32_314 c1_i32_315 k0_t2
  let c16_i32 : BitVec 32 := 16#32
  let v401 : BitVec 32 := Scalar.muli arg13 c16_i32
  v401
def k0_off3 (k0_t2 : Fin k0_t2_loop.trips) : Fin 2 → Nat :=
  let c0_i32_314 : BitVec 32 := 0#32
  let c1_i32_315 : BitVec 32 := 1#32
  let arg13 : BitVec 32 := Scf.iv c0_i32_314 c1_i32_315 k0_t2
  let c16_i32 : BitVec 32 := 16#32
  let v401 : BitVec 32 := Scalar.muli arg13 c16_i32
  let v402 : BitVec 32 := v401
  let v403 : Index := Scalar.indexCast v402
  let c0_317 : Index := 0#32
  ![v403.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownReferenceIdeal.lean ====
abbrev S2048x8192 : Shape := ⟨2, ![2048, 8192]⟩
abbrev S8192x1792 : Shape := ⟨2, ![8192, 1792]⟩
abbrev S8192x128 : Shape := ⟨2, ![8192, 128]⟩
abbrev S2048x64 : Shape := ⟨2, ![2048, 64]⟩
abbrev S64x3584 : Shape := ⟨2, ![64, 3584]⟩
abbrev S2048x3584 : Shape := ⟨2, ![2048, 3584]⟩
abbrev S8192x56 : Shape := ⟨2, ![8192, 56]⟩
abbrev S56x8192 : Shape := ⟨2, ![56, 8192]⟩
abbrev S56x1x8192 : Shape := ⟨3, ![56, 1, 8192]⟩
abbrev S1792x8192 : Shape := ⟨2, ![1792, 8192]⟩
abbrev S56x32x8192 : Shape := ⟨3, ![56, 32, 8192]⟩
abbrev S_ : Shape := ⟨0, ![]⟩
abbrev S2048x1792 : Shape := ⟨2, ![2048, 1792]⟩
abbrev S2048x1792x1 : Shape := ⟨3, ![2048, 1792, 1]⟩
abbrev S2048x1792x2 : Shape := ⟨3, ![2048, 1792, 2]⟩

abbrev nBuf : Space → Nat
  | .hbm => 204
  | .vmem => 0
  | .smem => 0
  | _ => 0

abbrev hbmTy0_0 (i : Nat) : BufTy := match i % 128 with
  | 0 => ⟨S2048x8192, .bf16⟩
  | 1 => ⟨S8192x1792, .i8⟩
  | 2 => ⟨S8192x128, .f32⟩
  | 3 => ⟨S2048x64, .bf16⟩
  | 4 => ⟨S64x3584, .bf16⟩
  | 5 => ⟨S2048x3584, .bf16⟩
  | 6 => ⟨S2048x3584, .bf16⟩
  | 7 => ⟨S8192x56, .f32⟩
  | 8 => ⟨S56x8192, .f32⟩
  | 9 => ⟨S56x1x8192, .f32⟩
  | 10 => ⟨S1792x8192, .i8⟩
  | 11 => ⟨S56x32x8192, .i8⟩
  | 12 => ⟨S56x32x8192, .i32⟩
  | 13 => ⟨S_, .i32⟩
  | 14 => ⟨S56x32x8192, .i32⟩
  | 15 => ⟨S56x32x8192, .i32⟩
  | 16 => ⟨S_, .i32⟩
  | 17 => ⟨S56x32x8192, .i32⟩
  | 18 => ⟨S56x32x8192, .i32⟩
  | 19 => ⟨S_, .i32⟩
  | 20 => ⟨S56x32x8192, .i32⟩
  | 21 => ⟨S56x32x8192, .i1⟩
  | 22 => ⟨S_, .f32⟩
  | 23 => ⟨S_, .f32⟩
  | 24 => ⟨S56x32x8192, .f32⟩
  | 25 => ⟨S56x32x8192, .f32⟩
  | 26 => ⟨S56x32x8192, .f32⟩
  | 27 => ⟨S_, .f32⟩
  | 28 => ⟨S_, .f32⟩
  | 29 => ⟨S56x32x8192, .f32⟩
  | 30 => ⟨S56x32x8192, .f32⟩
  | 31 => ⟨S56x32x8192, .f32⟩
  | 32 => ⟨S_, .f32⟩
  | 33 => ⟨S_, .f32⟩
  | 34 => ⟨S56x32x8192, .f32⟩
  | 35 => ⟨S56x32x8192, .f32⟩
  | 36 => ⟨S56x32x8192, .f32⟩
  | 37 => ⟨S_, .f32⟩
  | 38 => ⟨S_, .f32⟩
  | 39 => ⟨S56x32x8192, .f32⟩
  | 40 => ⟨S56x32x8192, .f32⟩
  | 41 => ⟨S56x32x8192, .f32⟩
  | 42 => ⟨S_, .f32⟩
  | 43 => ⟨S_, .f32⟩
  | 44 => ⟨S56x32x8192, .f32⟩
  | 45 => ⟨S56x32x8192, .f32⟩
  | 46 => ⟨S56x32x8192, .f32⟩
  | 47 => ⟨S_, .f32⟩
  | 48 => ⟨S_, .f32⟩
  | 49 => ⟨S56x32x8192, .f32⟩
  | 50 => ⟨S56x32x8192, .f32⟩
  | 51 => ⟨S56x32x8192, .f32⟩
  | 52 => ⟨S_, .f32⟩
  | 53 => ⟨S_, .f32⟩
  | 54 => ⟨S56x32x8192, .f32⟩
  | 55 => ⟨S56x32x8192, .f32⟩
  | 56 => ⟨S56x32x8192, .f32⟩
  | 57 => ⟨S_, .f32⟩
  | 58 => ⟨S_, .f32⟩
  | 59 => ⟨S56x32x8192, .f32⟩
  | 60 => ⟨S56x32x8192, .f32⟩
  | 61 => ⟨S56x32x8192, .f32⟩
  | 62 => ⟨S_, .i32⟩
  | 63 => ⟨S56x32x8192, .i32⟩
  | 64 => ⟨S56x32x8192, .i32⟩
  | 65 => ⟨S_, .i32⟩
  | 66 => ⟨S56x32x8192, .i32⟩
  | 67 => ⟨S56x32x8192, .i1⟩
  | 68 => ⟨S56x32x8192, .f32⟩
  | 69 => ⟨S56x32x8192, .f32⟩
  | 70 => ⟨S56x32x8192, .f32⟩
  | 71 => ⟨S56x32x8192, .f32⟩
  | 72 => ⟨S_, .i32⟩
  | 73 => ⟨S56x32x8192, .i32⟩
  | 74 => ⟨S56x32x8192, .i32⟩
  | 75 => ⟨S_, .i32⟩
  | 76 => ⟨S56x32x8192, .i32⟩
  | 77 => ⟨S56x32x8192, .i1⟩
  | 78 => ⟨S56x32x8192, .f32⟩
  | 79 => ⟨S56x32x8192, .f32⟩
  | 80 => ⟨S_, .i32⟩
  | 81 => ⟨S56x32x8192, .i32⟩
  | 82 => ⟨S56x32x8192, .i32⟩
  | 83 => ⟨S_, .i32⟩
  | 84 => ⟨S56x32x8192, .i32⟩
  | 85 => ⟨S56x32x8192, .i1⟩
  | 86 => ⟨S56x32x8192, .f32⟩
  | 87 => ⟨S56x32x8192, .f32⟩
  | 88 => ⟨S56x32x8192, .f32⟩
  | 89 => ⟨S56x32x8192, .bf16⟩
  | 90 => ⟨S1792x8192, .bf16⟩
  | 91 => ⟨S_, .i32⟩
  | 92 => ⟨S56x32x8192, .i32⟩
  | 93 => ⟨S56x32x8192, .i32⟩
  | 94 => ⟨S_, .i32⟩
  | 95 => ⟨S56x32x8192, .i32⟩
  | 96 => ⟨S56x32x8192, .i32⟩
  | 97 => ⟨S_, .i32⟩
  | 98 => ⟨S56x32x8192, .i32⟩
  | 99 => ⟨S56x32x8192, .i1⟩
  | 100 => ⟨S_, .f32⟩
  | 101 => ⟨S_, .f32⟩
  | 102 => ⟨S56x32x8192, .f32⟩
  | 103 => ⟨S56x32x8192, .f32⟩
  | 104 => ⟨S56x32x8192, .f32⟩
  | 105 => ⟨S_, .f32⟩
  | 106 => ⟨S_, .f32⟩
  | 107 => ⟨S56x32x8192, .f32⟩
  | 108 => ⟨S56x32x8192, .f32⟩
  | 109 => ⟨S56x32x8192, .f32⟩
  | 110 => ⟨S_, .f32⟩
  | 111 => ⟨S_, .f32⟩
  | 112 => ⟨S56x32x8192, .f32⟩
  | 113 => ⟨S56x32x8192, .f32⟩
  | 114 => ⟨S56x32x8192, .f32⟩
  | 115 => ⟨S_, .f32⟩
  | 116 => ⟨S_, .f32⟩
  | 117 => ⟨S56x32x8192, .f32⟩
  | 118 => ⟨S56x32x8192, .f32⟩
  | 119 => ⟨S56x32x8192, .f32⟩
  | 120 => ⟨S_, .f32⟩
  | 121 => ⟨S_, .f32⟩
  | 122 => ⟨S56x32x8192, .f32⟩
  | 123 => ⟨S56x32x8192, .f32⟩
  | 124 => ⟨S56x32x8192, .f32⟩
  | 125 => ⟨S_, .f32⟩
  | 126 => ⟨S_, .f32⟩
  | 127 => ⟨S56x32x8192, .f32⟩
  | _ => ⟨S2048x8192, .bf16⟩

abbrev hbmTy0_1 (i : Nat) : BufTy := match i % 128 with
  | 0 => ⟨S56x32x8192, .f32⟩
  | 1 => ⟨S56x32x8192, .f32⟩
  | 2 => ⟨S_, .f32⟩
  | 3 => ⟨S_, .f32⟩
  | 4 => ⟨S56x32x8192, .f32⟩
  | 5 => ⟨S56x32x8192, .f32⟩
  | 6 => ⟨S56x32x8192, .f32⟩
  | 7 => ⟨S_, .f32⟩
  | 8 => ⟨S_, .f32⟩
  | 9 => ⟨S56x32x8192, .f32⟩
  | 10 => ⟨S56x32x8192, .f32⟩
  | 11 => ⟨S56x32x8192, .f32⟩
  | 12 => ⟨S_, .i32⟩
  | 13 => ⟨S56x32x8192, .i32⟩
  | 14 => ⟨S56x32x8192, .i32⟩
  | 15 => ⟨S_, .i32⟩
  | 16 => ⟨S56x32x8192, .i32⟩
  | 17 => ⟨S56x32x8192, .i1⟩
  | 18 => ⟨S56x32x8192, .f32⟩
  | 19 => ⟨S56x32x8192, .f32⟩
  | 20 => ⟨S56x32x8192, .f32⟩
  | 21 => ⟨S56x32x8192, .f32⟩
  | 22 => ⟨S_, .i32⟩
  | 23 => ⟨S56x32x8192, .i32⟩
  | 24 => ⟨S56x32x8192, .i32⟩
  | 25 => ⟨S_, .i32⟩
  | 26 => ⟨S56x32x8192, .i32⟩
  | 27 => ⟨S56x32x8192, .i1⟩
  | 28 => ⟨S56x32x8192, .f32⟩
  | 29 => ⟨S56x32x8192, .f32⟩
  | 30 => ⟨S_, .i32⟩
  | 31 => ⟨S56x32x8192, .i32⟩
  | 32 => ⟨S56x32x8192, .i32⟩
  | 33 => ⟨S_, .i32⟩
  | 34 => ⟨S56x32x8192, .i32⟩
  | 35 => ⟨S56x32x8192, .i1⟩
  | 36 => ⟨S56x32x8192, .f32⟩
  | 37 => ⟨S56x32x8192, .f32⟩
  | 38 => ⟨S56x32x8192, .f32⟩
  | 39 => ⟨S56x32x8192, .bf16⟩
  | 40 => ⟨S1792x8192, .bf16⟩
  | 41 => ⟨S2048x3584, .f32⟩
  | 42 => ⟨S2048x3584, .f32⟩
  | 43 => ⟨S2048x3584, .f32⟩
  | 44 => ⟨S2048x3584, .f32⟩
  | 45 => ⟨S_, .f32⟩
  | 46 => ⟨S2048x3584, .f32⟩
  | 47 => ⟨S2048x3584, .f32⟩
  | 48 => ⟨S_, .f32⟩
  | 49 => ⟨S2048x3584, .f32⟩
  | 50 => ⟨S2048x3584, .f32⟩
  | 51 => ⟨S2048x3584, .f32⟩
  | 52 => ⟨S2048x3584, .f32⟩
  | 53 => ⟨S2048x3584, .bf16⟩
  | 54 => ⟨S2048x1792, .f32⟩
  | 55 => ⟨S2048x1792, .f32⟩
  | 56 => ⟨S2048x1792x1, .f32⟩
  | 57 => ⟨S2048x1792x1, .f32⟩
  | 58 => ⟨S2048x1792x2, .f32⟩
  | 59 => ⟨S2048x3584, .f32⟩
  | 60 => ⟨S2048x3584, .f32⟩
  | 61 => ⟨S2048x3584, .f32⟩
  | 62 => ⟨S2048x3584, .f32⟩
  | 63 => ⟨S2048x3584, .f32⟩
  | 64 => ⟨S_, .f32⟩
  | 65 => ⟨S2048x3584, .f32⟩
  | 66 => ⟨S2048x3584, .f32⟩
  | 67 => ⟨S2048x3584, .f32⟩
  | 68 => ⟨S_, .f32⟩
  | 69 => ⟨S2048x3584, .f32⟩
  | 70 => ⟨S2048x3584, .f32⟩
  | 71 => ⟨S2048x3584, .f32⟩
  | 72 => ⟨S2048x3584, .bf16⟩
  | 73 => ⟨S2048x3584, .f32⟩
  | 74 => ⟨S2048x3584, .f32⟩
  | 75 => ⟨S2048x3584, .bf16⟩
  | _ => ⟨S2048x8192, .bf16⟩

abbrev hbmTy (i : Nat) : BufTy := match i / 128 with
  | 0 => hbmTy0_0 i
  | 1 => hbmTy0_1 i
  | _ => ⟨S2048x8192, .bf16⟩

abbrev bufTy : (tb : Table) → Fin (tcTables nBuf tb) → BufTy
  | .hbm, ⟨i, _⟩ => hbmTy i
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_cst_3 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_cst_5 : Ref sig .tc := ⟨.hbm, 32, rfl⟩
abbrev main_cst_6 : Ref sig .tc := ⟨.hbm, 33, rfl⟩
abbrev main_call2_v0 : Ref sig .tc := ⟨.hbm, 34, rfl⟩
abbrev main_call2_v1 : Ref sig .tc := ⟨.hbm, 35, rfl⟩
abbrev main_v14 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_v15 : Ref sig .tc := ⟨.hbm, 41, rfl⟩
abbrev main_cst_9 : Ref sig .tc := ⟨.hbm, 42, rfl⟩
abbrev main_cst_10 : Ref sig .tc := ⟨.hbm, 43, rfl⟩
abbrev main_call4_v0 : Ref sig .tc := ⟨.hbm, 44, rfl⟩
abbrev main_call4_v1 : Ref sig .tc := ⟨.hbm, 45, rfl⟩
abbrev main_v16 : Ref sig .tc := ⟨.hbm, 46, rfl⟩
abbrev main_cst_11 : Ref sig .tc := ⟨.hbm, 47, rfl⟩
abbrev main_cst_12 : Ref sig .tc := ⟨.hbm, 48, rfl⟩
abbrev main_call5_v0 : Ref sig .tc := ⟨.hbm, 49, rfl⟩
abbrev main_call5_v1 : Ref sig .tc := ⟨.hbm, 50, rfl⟩
abbrev main_v17 : Ref sig .tc := ⟨.hbm, 51, rfl⟩
abbrev main_cst_13 : Ref sig .tc := ⟨.hbm, 52, rfl⟩
abbrev main_cst_14 : Ref sig .tc := ⟨.hbm, 53, rfl⟩
abbrev main_call6_v0 : Ref sig .tc := ⟨.hbm, 54, rfl⟩
abbrev main_call6_v1 : Ref sig .tc := ⟨.hbm, 55, rfl⟩
abbrev main_v18 : Ref sig .tc := ⟨.hbm, 56, rfl⟩
abbrev main_cst_15 : Ref sig .tc := ⟨.hbm, 57, rfl⟩
abbrev main_cst_16 : Ref sig .tc := ⟨.hbm, 58, rfl⟩
abbrev main_call7_v0 : Ref sig .tc := ⟨.hbm, 59, rfl⟩
abbrev main_call7_v1 : Ref sig .tc := ⟨.hbm, 60, rfl⟩
abbrev main_v19 : Ref sig .tc := ⟨.hbm, 61, rfl⟩
abbrev main_c_17 : Ref sig .tc := ⟨.hbm, 62, rfl⟩
abbrev main_v20 : Ref sig .tc := ⟨.hbm, 63, rfl⟩
abbrev main_v21 : Ref sig .tc := ⟨.hbm, 64, rfl⟩
abbrev main_c_18 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_c_19 : Ref sig .tc := ⟨.hbm, 72, rfl⟩
abbrev main_v28 : Ref sig .tc := ⟨.hbm, 73, rfl⟩
abbrev main_v29 : Ref sig .tc := ⟨.hbm, 74, rfl⟩
abbrev main_c_20 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_21 : Ref sig .tc := ⟨.hbm, 80, rfl⟩
abbrev main_v34 : Ref sig .tc := ⟨.hbm, 81, rfl⟩
abbrev main_v35 : Ref sig .tc := ⟨.hbm, 82, rfl⟩
abbrev main_c_22 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_c_23 : Ref sig .tc := ⟨.hbm, 91, rfl⟩
abbrev main_v43 : Ref sig .tc := ⟨.hbm, 92, rfl⟩
abbrev main_v44 : Ref sig .tc := ⟨.hbm, 93, rfl⟩
abbrev main_c_24 : Ref sig .tc := ⟨.hbm, 94, rfl⟩
abbrev main_v45 : Ref sig .tc := ⟨.hbm, 95, rfl⟩
abbrev main_v46 : Ref sig .tc := ⟨.hbm, 96, rfl⟩
abbrev main_c_25 : Ref sig .tc := ⟨.hbm, 97, rfl⟩
abbrev main_v47 : Ref sig .tc := ⟨.hbm, 98, rfl⟩
abbrev main_v48 : Ref sig .tc := ⟨.hbm, 99, rfl⟩
abbrev main_cst_26 : Ref sig .tc := ⟨.hbm, 100, rfl⟩
abbrev main_cst_27 : Ref sig .tc := ⟨.hbm, 101, rfl⟩
abbrev main_call15_v0 : Ref sig .tc := ⟨.hbm, 102, rfl⟩
abbrev main_call15_v1 : Ref sig .tc := ⟨.hbm, 103, rfl⟩
abbrev main_v49 : Ref sig .tc := ⟨.hbm, 104, rfl⟩
abbrev main_cst_28 : Ref sig .tc := ⟨.hbm, 105, rfl⟩
abbrev main_cst_29 : Ref sig .tc := ⟨.hbm, 106, rfl⟩
abbrev main_call16_v0 : Ref sig .tc := ⟨.hbm, 107, rfl⟩
abbrev main_call16_v1 : Ref sig .tc := ⟨.hbm, 108, rfl⟩
abbrev main_v50 : Ref sig .tc := ⟨.hbm, 109, rfl⟩
abbrev main_cst_30 : Ref sig .tc := ⟨.hbm, 110, rfl⟩
abbrev main_cst_31 : Ref sig .tc := ⟨.hbm, 111, rfl⟩
abbrev main_call17_v0 : Ref sig .tc := ⟨.hbm, 112, rfl⟩
abbrev main_call17_v1 : Ref sig .tc := ⟨.hbm, 113, rfl⟩
abbrev main_v51 : Ref sig .tc := ⟨.hbm, 114, rfl⟩
abbrev main_cst_32 : Ref sig .tc := ⟨.hbm, 115, rfl⟩
abbrev main_cst_33 : Ref sig .tc := ⟨.hbm, 116, rfl⟩
abbrev main_call18_v0 : Ref sig .tc := ⟨.hbm, 117, rfl⟩
abbrev main_call18_v1 : Ref sig .tc := ⟨.hbm, 118, rfl⟩
abbrev main_v52 : Ref sig .tc := ⟨.hbm, 119, rfl⟩
abbrev main_cst_34 : Ref sig .tc := ⟨.hbm, 120, rfl⟩
abbrev main_cst_35 : Ref sig .tc := ⟨.hbm, 121, rfl⟩
abbrev main_call19_v0 : Ref sig .tc := ⟨.hbm, 122, rfl⟩
abbrev main_call19_v1 : Ref sig .tc := ⟨.hbm, 123, rfl⟩
abbrev main_v53 : Ref sig .tc := ⟨.hbm, 124, rfl⟩
abbrev main_cst_36 : Ref sig .tc := ⟨.hbm, 125, rfl⟩
abbrev main_cst_37 : Ref sig .tc := ⟨.hbm, 126, rfl⟩
abbrev main_call20_v0 : Ref sig .tc := ⟨.hbm, 127, rfl⟩
abbrev main_call20_v1 : Ref sig .tc := ⟨.hbm, 128, rfl⟩
abbrev main_v54 : Ref sig .tc := ⟨.hbm, 129, rfl⟩
abbrev main_cst_38 : Ref sig .tc := ⟨.hbm, 130, rfl⟩
abbrev main_cst_39 : Ref sig .tc := ⟨.hbm, 131, rfl⟩
abbrev main_call21_v0 : Ref sig .tc := ⟨.hbm, 132, rfl⟩
abbrev main_call21_v1 : Ref sig .tc := ⟨.hbm, 133, rfl⟩
abbrev main_v55 : Ref sig .tc := ⟨.hbm, 134, rfl⟩
abbrev main_cst_40 : Ref sig .tc := ⟨.hbm, 135, rfl⟩
abbrev main_cst_41 : Ref sig .tc := ⟨.hbm, 136, rfl⟩
abbrev main_call22_v0 : Ref sig .tc := ⟨.hbm, 137, rfl⟩
abbrev main_call22_v1 : Ref sig .tc := ⟨.hbm, 138, rfl⟩
abbrev main_v56 : Ref sig .tc := ⟨.hbm, 139, rfl⟩
abbrev main_c_42 : Ref sig .tc := ⟨.hbm, 140, rfl⟩
abbrev main_v57 : Ref sig .tc := ⟨.hbm, 141, rfl⟩
abbrev main_v58 : Ref sig .tc := ⟨.hbm, 142, rfl⟩
abbrev main_c_43 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_c_44 : Ref sig .tc := ⟨.hbm, 150, rfl⟩
abbrev main_v65 : Ref sig .tc := ⟨.hbm, 151, rfl⟩
abbrev main_v66 : Ref sig .tc := ⟨.hbm, 152, rfl⟩
abbrev main_c_45 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_c_46 : Ref sig .tc := ⟨.hbm, 158, rfl⟩
abbrev main_v71 : Ref sig .tc := ⟨.hbm, 159, rfl⟩
abbrev main_v72 : Ref sig .tc := ⟨.hbm, 160, rfl⟩
abbrev main_c_47 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_cst_48 : Ref sig .tc := ⟨.hbm, 173, rfl⟩
abbrev main_v84 : Ref sig .tc := ⟨.hbm, 174, rfl⟩
abbrev main_v85 : Ref sig .tc := ⟨.hbm, 175, rfl⟩
abbrev main_cst_49 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_cst_50 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_cst_51 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩

abbrev nD : Nat := 1
abbrev τ : Topo := Topo.v7x

variable {F : FTy → Type} [FloatOps F]
-- ==== Proof.Bits.Runs.lean ====
/- What the runs of the kernel's body at the machine's words share: the arrays when the launch begins, the blocks its
   windows see, the branch conditions in closed form, and the staging and scratch buffers.
   The text follows the generated frame certificate of this program. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 8 rfl).trans ((hA c 8).trans (V_main_arg9 m c)),
      (Pipeline.RDat.FramePost.arr_in h c 9 rfl).trans ((hA c 9).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 31#32)) 0#32) = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, e0]
    word_cmp
   : ∀ t : Fin grid0.N, cond0_1 (grid0.coords t) ↔ t.val % 32 = 31)

/-! ## The kernel body on any staging memrefs: a subtype the run finds -/

/-- Each window's current staging memref at point `t`, spelled as the pipeline passes it (`bodyAt0`), and its wholeness. -/
abbrev ms0_0 (t : Fin cfg0.N) : Memref sig .tc .vmem S1024x3584 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3584x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3584x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S3584x256 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Bits

end
-- ==== Proof.Bits.RunA.lean ====
/- The body's run at the first grid point.
   The text follows the generated frame certificate of this program. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1040000 in
/-- The body's triple IN CASE A (`scf.if` 0 taken, `scf.if` 1 not taken: points 0): on whole staging memrefs — the inputs' at their contents,
    the FORGOTTEN outputs' (11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x256 .i32) (harg14 : arg14.IsWhole) (hc0 : cond0_0 i) (hc1 : ¬cond0_1 i)
    (x0 : Vec F S1024x3584 .i32) (x1 : Vec F S1024x3584 .i32) (x2 : Vec F S3584x128 .i8) (x3 : Vec F S3584x128 .i8) (x4 : Vec F S3584x128 .f32) (x5 : Vec F S3584x128 .f32) (x6 : Vec F S2048x128 .bf16) (x7 : Vec F S128x256 .bf16) (x8 : Vec F S2048x256 .bf16) (x9 : Vec F S1x256 .f32) (x10 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dh_eq_skeleton]; unfold cc0_dh_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Bits

end
-- ==== Proof.Bits.RunB.lean ====
/- The body's run at a grid point between the first and the last.
   The text follows the generated frame certificate of this program. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1032000 in
/-- The body's triple IN CASE B (`scf.if` 0 not taken, `scf.if` 1 not taken: points 1, 2, … 30: 30 of 32): on whole staging memrefs — the inputs' at their contents,
    the FORGOTTEN outputs' (11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x256 .i32) (harg14 : arg14.IsWhole) (hc0 : ¬cond0_0 i) (hc1 : ¬cond0_1 i)
    (x0 : Vec F S1024x3584 .i32) (x1 : Vec F S1024x3584 .i32) (x2 : Vec F S3584x128 .i8) (x3 : Vec F S3584x128 .i8) (x4 : Vec F S3584x128 .f32) (x5 : Vec F S3584x128 .f32) (x6 : Vec F S2048x128 .bf16) (x7 : Vec F S128x256 .bf16) (x8 : Vec F S2048x256 .bf16) (x9 : Vec F S1x256 .f32) (x10 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dh_eq_skeleton]; unfold cc0_dh_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Bits

end
-- ==== Proof.Bits.RunC.lean ====
/- The body's run at the last grid point.
   The text follows the generated frame certificate of this program. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1048000 in
/-- The body's triple IN CASE C (`scf.if` 0 not taken, `scf.if` 1 taken: points 31): on whole staging memrefs — the inputs' at their contents,
    the FORGOTTEN outputs' (11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x256 .i32) (harg14 : arg14.IsWhole) (hc0 : ¬cond0_0 i) (hc1 : cond0_1 i)
    (x0 : Vec F S1024x3584 .i32) (x1 : Vec F S1024x3584 .i32) (x2 : Vec F S3584x128 .i8) (x3 : Vec F S3584x128 .i8) (x4 : Vec F S3584x128 .f32) (x5 : Vec F S3584x128 .f32) (x6 : Vec F S2048x128 .bf16) (x7 : Vec F S128x256 .bf16) (x8 : Vec F S2048x256 .bf16) (x9 : Vec F S1x256 .f32) (x10 : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_dh_eq_skeleton]; unfold cc0_dh_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.Kernel.Bits

end
-- ==== Proof.Bits.Frame.lean ====
/- The frame of the kernel at the machine's words: from any memory the program runs to its end, leaves its twelve
   arguments as they were and every semaphore at zero. What the two results hold is not said here.
   The text follows the generated frame certificate of this program. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Bits

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11, 12): nothing reads what the kernel leaves in them, so nothing
    of it is named (Lib/Pipeline/Dat.lean `Dat.toRForget`). -/
def forgets0 : Fin 13 → Bool := fun w => w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · by_cases h1 : t.val % 32 = 31
    · exfalso; omega
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      iintro ⟨H0, H1, H2, H3, H4, H5, H6, H7, H8, H9, H10, H11, H12, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · by_cases h1 : t.val % 32 = 31
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      iintro ⟨H0, H1, H2, H3, H4, H5, H6, H7, H8, H9, H10, H11, H12, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      iintro ⟨H0, H1, H2, H3, H4, H5, H6, H7, H8, H9, H10, H11, H12, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- **The frame of the kernel at the machine's words**: it runs to its end, its arguments unchanged and every semaphore
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Bits

end
-- ==== Proof.Dh.Tile.lean ====
/-
  What the matrix products and the decode of one column tile leave, as plain functions of vectors.
  `decBlk` is one trip of the decode loop: 256 rows of codes and block maxima to 128 pairs of rows of weights.
  `wTile` is the whole decoded tile, gate rows first, up rows after them.
  `chain` is one block of 1024 output rows: the adapter product first, then 28 products of 256 rows each, added in order.
-/
module

public import proofs.«01_k».proof.Proof.Gen.KernelIdeal.Frame
public import proofs.«01_k».proof.Proof.Gen.KernelIdeal.Loops
public import Idealize.ShloMosaic.Lib.VecWindow
public import Idealize.ShloMosaic.Lib.ValueIdxCore

@[expose] public section

set_option maxRecDepth 16384

noncomputable section

namespace Cert.KernelIdeal.Dh

open Cert.KernelIdeal Cert.KernelIdeal.Gen
open Idealize.ShloMosaic Idealize.SL.Sem Idealize.ShloMosaic.ValueIdx

variable {F : FTy → Type} [FloatOps F]

/-- The negative half of the sixteen-value table, one value per sublane. -/
def tabLo : FVec F S8x128 .f32 := k0_pay47 (iota .tc S8x128 32 [0] iota_S8x128_d0_w32) k0_pay46
/-- The positive half of the sixteen-value table, one value per sublane. -/
def tabHi : FVec F S8x128 .f32 := k0_pay48 (iota .tc S8x128 32 [0] iota_S8x128_d0_w32) k0_pay45

/-- The lane numbers. -/
def lane1 : IVec S1x128 32 := iota .tc S1x128 32 [1] iota_S1x128_d1_w32

/-- The table values of 256 rows of codes, for the columns of half 0. -/
def val0 (cd : Vec F S256x128 .i8) : FVec F S32x8x128 .f32 :=
  k0_pay11 lane1 k0_pay5 (k0_pay6 cd) (k0_pay7 tabLo) (k0_pay8 tabHi) 2#32 k0_pay9 k0_pay10 (Scalar.cmpi .sgt 2#32 0#32)
/-- The table values of 256 rows of codes, for the columns of half 1. -/
def val1 (cd : Vec F S256x128 .i8) : FVec F S32x8x128 .f32 :=
  k0_pay19 k0_pay5 (k0_pay6 cd) (k0_pay7 tabLo) (k0_pay8 tabHi) (k0_pay16 lane1) (k0_pay17 lane1) k0_pay18
/-- Half 0 scaled by the block maxima. -/
def sc0 (t : BitVec 32) (cd : Vec F S256x128 .i8) (am : Vec F S256x128 .f32) : FVec F S256x128 .bf16 :=
  k0_pay15 am lane1 (val0 cd) (Scalar.addi (Scalar.muli 4#32 t) 0#32) 64#32 (k0_pay12 lane1) (k0_pay13 lane1) (k0_pay14 lane1)
/-- Both halves scaled, side by side, as pairs of rows. -/
def decBlk (t : BitVec 32) (cd : Vec F S256x128 .i8) (am : Vec F S256x128 .f32) : Vec F S128x2x256 .bf16 :=
  k0_pay24 am (sc0 t cd am) (val1 cd) (Scalar.addi (Scalar.muli 4#32 t) 2#32) (k0_pay20 lane1) (k0_pay21 lane1) (k0_pay22 lane1) k0_pay23

/-- Rows `256 q …` of a [3584,128] array. -/
def rowBlk {α : Type} (x : S3584x128.Idx → α) (q : ℕ) : S256x128.Idx → α := fun j =>
  x (ix2 ⟨(256 * q + (j 0).val) % 3584, Nat.mod_lt _ (by decide)⟩ (j 1))

/-- The decoded half tile of one weight, at a pair of rows numbered from its start. -/
def wHalf (t : BitVec 32) (cd : Vec F S3584x128 .i8) (am : Vec F S3584x128 .f32) (n : ℕ) (a : Fin 2) (b : Fin 256) : F .bf16 :=
  decBlk t (rowBlk cd (n / 128)) (rowBlk am (n / 128)) (ix3 ⟨n % 128, Nat.mod_lt _ (by decide)⟩ a b)

/-- The decoded tile: 1792 pairs of rows of the gate weight, then 1792 of the up weight. -/
def wTile (t : BitVec 32) (cg cu : Vec F S3584x128 .i8) (ag au : Vec F S3584x128 .f32) : Vec F S3584x2x256 .bf16 := fun y =>
  if (y 0).val < 1792 then wHalf t cg ag (y 0).val (y 1) (y 2) else wHalf t cu au ((y 0).val - 1792) (y 1) (y 2)

/-- Pairs of rows `128 q …` of the decoded tile, as 256 rows. -/
def wRows (w : Vec F S3584x2x256 .bf16) (q : Fin 28) : FVec F S256x256 .bf16 :=
  have raw : Vec F S128x2x256 .bf16 := VecWindow.window w ![128 * q.val, 0, 0] S128x2x256.size (by revert q; decide)
  interleaveRows S256x256 (shapeCast S128x256 (rowsOfParity 0 S128x1x256 raw bitcasts_S128x2x256_w16_S128x1x256_w32) shapeCasts_S128x1x256_S128x256)
    (shapeCast S128x256 (rowsOfParity 1 S128x1x256 raw bitcasts_S128x2x256_w16_S128x1x256_w32) shapeCasts_S128x1x256_S128x256) bitcasts_S256x256_w16_S128x256_w32

/-- Words of rows `512 b …` and columns `256 q …`, as 1024 rows. -/
def xRows (x : Vec F S1024x3584 .i32) (b : Fin 2) (q : Fin 14) : FVec F S1024x256 .bf16 :=
  bitcastToFloat .bf16 (bitcast S1024x256 16
    (VecWindow.window x ![512 * b.val, 256 * q.val] S512x256.size (by revert b q; decide)) bitcasts_S512x256_w32_S1024x256_w16)

/-- One of the 28 products. -/
def dotK (dg du : Vec F S1024x3584 .i32) (w : Vec F S3584x2x256 .bf16) (b : Fin 2) (q : Fin 28) : FVec F S1024x256 .f32 :=
  matmul dot_S1024x256_S256x256_S1024x256_1_0_0_1_n_n none
    (if h : q.val < 14 then xRows dg b ⟨q.val, h⟩ else xRows du b ⟨q.val - 14, by omega⟩) (wRows w q) (constant S1024x256 .f32 0x00000000#32)

/-- The adapter product. -/
def dotA (dz : Vec F S2048x128 .bf16) (ap : Vec F S128x256 .bf16) (b : Fin 2) : FVec F S1024x256 .f32 :=
  matmul dot_S1024x128_S128x256_S1024x256_1_0_0_1_n_n none
    (VecWindow.window dz ![1024 * b.val, 0] S1024x128.size (by revert b; decide))
    (shapeCast S128x256 (VecWindow.window ap ![0, 0] S128x256.size (by decide)) shapeCasts_S128x256_S128x256) (constant S1024x256 .f32 0x00000000#32)

/-- The running sum after the adapter product and the first `n` of the 28 products. -/
def chain (dg du : Vec F S1024x3584 .i32) (dz : Vec F S2048x128 .bf16) (ap : Vec F S128x256 .bf16) (w : Vec F S3584x2x256 .bf16) (b : Fin 2) :
    ℕ → FVec F S1024x256 .f32
  | 0 => dotA dz ap b
  | n + 1 => addf (chain dg du dz ap w b n) (dotK dg du w b ⟨n % 28, Nat.mod_lt _ (by decide)⟩)

/-- One column tile of the gradient: two blocks of 1024 rows. -/
def dhTile (dg du : Vec F S1024x3584 .i32) (dz : Vec F S2048x128 .bf16) (ap : Vec F S128x256 .bf16) (w : Vec F S3584x2x256 .bf16) :
    Vec F S2048x256 .f32 := fun y =>
  if h : (y 0).val < 1024 then chain dg du dz ap w 0 28 (ix2 ⟨(y 0).val, h⟩ (y 1))
  else chain dg du dz ap w 1 28 (ix2 ⟨(y 0).val - 1024, by have := idx2_lt0 y; omega⟩ (y 1))

/-- Rows `32 q …` of a 2048-row array. -/
def part {α : Type} {n : ℕ} (x : (⟨2, ![2048, n]⟩ : Shape).Idx → α) (q : ℕ) : (⟨2, ![32, n]⟩ : Shape).Idx → α := fun j =>
  x (ix2 ⟨(32 * q + (j 0).val) % 2048, Nat.mod_lt _ (by decide)⟩ (j 1))

/-- The running lane sums after one column tile. -/
def cStep (dh : Vec F S2048x256 .f32) (nw : Vec F S1x256 .f32) (rstd : Vec F S2048x128 .f32) (x : Vec F S2048x256 .bf16)
    (g : Vec F S2048x128 .f32) : Vec F S2048x128 .f32 := fun y =>
  k0_pay3 (part dh ((y 0).val / 32)) nw (part rstd ((y 0).val / 32)) (part x ((y 0).val / 32)) (part g ((y 0).val / 32))
    (ix2 ⟨(y 0).val % 32, Nat.mod_lt _ (by decide)⟩ (y 1))

end Cert.KernelIdeal.Dh

end
-- ==== Proof.Dh.Trips.lean ====
/-
  What the three counted loops leave in the buffers they write, read index by index.
-/
module

public import proofs.«01_k».proof.Proof.Dh.Tile

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- One trip of the gate decode stores one decoded block. -/
theorem trip1 (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (t : BitVec 32) (X3 : BufTy.Contents (Elt F) arg3.view.ty) (X5 : BufTy.Contents (Elt F) arg5.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) k0_pay45 k0_pay46 X3 X5 k
      = [⟨Rect.unit (k0_off2 k) S128x2x256.size (k0_off2_inb k),
          decBlk t (arg3.view.readAt (Elt F) (Rect.unit (s := S3584x128) (k0_off1 k) S256x128.size (k0_off1_inb k)).toLoadRect X3)
            (arg5.view.readAt (Elt F) (Rect.unit (s := S3584x128) (k0_off1 k) S256x128.size (k0_off1_inb k)).toLoadRect X5)⟩] := by
  unfold tripL_k0_t1 trip_k0_t1
  rfl

/-- One trip of the up decode stores one decoded block. -/
theorem trip2 (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (t : BitVec 32) (X4 : BufTy.Contents (Elt F) arg4.view.ty) (X6 : BufTy.Contents (Elt F) arg6.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32)
        (k0_pay51 (iota .tc S8x128 32 [0] iota_S8x128_d0_w32) k0_pay49 0#32) (k0_pay52 (iota .tc S8x128 32 [0] iota_S8x128_d0_w32) k0_pay50) 5#32 X4 X6 k
      = [⟨Rect.unit (k0_off4 k) S128x2x256.size (k0_off4_inb k),
          decBlk t (arg4.view.readAt (Elt F) (Rect.unit (s := S3584x128) (k0_off3 k) S256x128.size (k0_off3_inb k)).toLoadRect X4)
            (arg6.view.readAt (Elt F) (Rect.unit (s := S3584x128) (k0_off3 k) S256x128.size (k0_off3_inb k)).toLoadRect X6)⟩] := by
  unfold tripL_k0_t2 trip_k0_t2
  rfl

/-- One trip of the lane sums stores 32 rows. -/
theorem trip3 (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (X9 : BufTy.Contents (Elt F) arg9.view.ty) (X10 : BufTy.Contents (Elt F) arg10.view.ty) (X11 : BufTy.Contents (Elt F) arg11.view.ty) (X12 : BufTy.Contents (Elt F) arg12.view.ty) (g : BufTy.Contents (Elt F) arg13.view.ty) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 k g
      = [⟨Rect.unit (k0_off6 k) S32x128.size (k0_off6_inb k),
          k0_pay3 (arg12.view.readAt (Elt F) (Rect.unit (s := S2048x256) (k0_off5 k) S32x256.size (k0_off5_inb k)).toLoadRect X12)
            (arg10.view.readAt (Elt F) (Rect.unit (s := S1x256) ![0, 0] S1x256.size inb_S1x256_S1x256_0_0).toLoadRect X10)
            (arg11.view.readAt (Elt F) (Rect.unit (s := S2048x128) (k0_off6 k) S32x128.size (k0_off6_inb k)).toLoadRect X11)
            (arg9.view.readAt (Elt F) (Rect.unit (s := S2048x256) (k0_off5 k) S32x256.size (k0_off5_inb k)).toLoadRect X9)
            (arg13.view.readAt (Elt F) (Rect.unit (s := S2048x128) (k0_off6 k) S32x128.size (k0_off6_inb k)).toLoadRect g)⟩] := by
  unfold tripL_k0_t3 trip_k0_t3
  rfl

end Cert.KernelIdeal.Dh

end
-- ==== Proof.Dh.Reads.lean ====
/-
  What the three counted loops leave, index by index: the decoded tile after the two decode loops, the running lane sums after the third.
-/
module

public import proofs.«01_k».proof.Proof.Dh.Trips
public import Idealize.ShloMosaic.Lib.WritesUnit

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

theorem rowBlk_window {α : Type} (x : S3584x128.Idx → α) (q : ℕ) (inb : ∀ a, (![256 * q, 0] : Fin 2 → ℕ) a + S256x128.size a ≤ S3584x128.size a) :
    VecWindow.window x ![256 * q, 0] S256x128.size inb = rowBlk x q := by
  funext j
  have h0 : 256 * q + 256 ≤ 3584 := inb 0
  refine congrArg x (funext fun a => Fin.ext ?_)
  have hj := idx2_lt0 (n0 := 256) (n1 := 128) j
  match a with
  | ⟨0, _⟩ => show 256 * q + 1 * (j 0).val = (256 * q + (j 0).val) % 3584
              rw [Nat.mod_eq_of_lt (by omega)]; omega
  | ⟨1, _⟩ => show 0 + 1 * (j 1).val = (j 1).val
              omega

theorem part_window {α : Type} {n : ℕ} (x : (⟨2, ![2048, n]⟩ : Shape).Idx → α) (q : ℕ)
    (inb : ∀ a, (![32 * q, 0] : Fin 2 → ℕ) a + (⟨2, ![32, n]⟩ : Shape).size a ≤ (⟨2, ![2048, n]⟩ : Shape).size a) :
    VecWindow.window x ![32 * q, 0] (⟨2, ![32, n]⟩ : Shape).size inb = part x q := by
  funext j
  have h0 : 32 * q + 32 ≤ 2048 := inb 0
  refine congrArg x (funext fun a => Fin.ext ?_)
  have hj := idx2_lt0 (n0 := 32) (n1 := n) j
  match a with
  | ⟨0, _⟩ => show 32 * q + 1 * (j 0).val = (32 * q + (j 0).val) % 2048
              rw [Nat.mod_eq_of_lt (by omega)]; omega
  | ⟨1, _⟩ => show 0 + 1 * (j 1).val = (j 1).val
              omega

/-- The decoded tile after `n` trips of decode loop 1, over what was stored before. -/
theorem decode1 (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (t : BitVec 32) (X3 : BufTy.Contents (Elt F) arg3.view.ty) (X5 : BufTy.Contents (Elt F) arg5.view.ty) (G : BufTy.Contents (Elt F) arg14.view.ty)
    (L : List (View.Piece (Elt F) S3584x2x256 .bf16)) (n : ℕ) (hn : n ≤ 14) (y : S3584x2x256.Idx) :
    arg14.view.read (Elt F) (arg14.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) k0_pay45 k0_pay46 X3 X5 n ++ L)) y
      = if (y 0).val < 128 * n then
          wHalf t (arg3.view.read (Elt F) X3) (arg5.view.read (Elt F) X5) (y 0).val (y 1) (y 2)
        else arg14.view.read (Elt F) (arg14.view.writes (Elt F) G L) y := by
  induction n with
  | zero =>
    rw [if_neg (by omega)]
    rfl
  | succ k ih =>
    have hk : k < k0_t1_loop.trips := by have : k0_t1_loop.trips = 14 := by decide
                                         omega
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) k0_pay45 k0_pay46 X3 X5 ⟨k, hk⟩
    rw [trip1] at e
    rw [e, List.singleton_append, List.cons_append]
    have hy0 : (y 0).val < 3584 := (y 0).isLt
    have hy1 : (y 1).val < 2 := (y 1).isLt
    have hy2 : (y 2).val < 256 := (y 2).isLt
    by_cases h : 128 * k + 0 ≤ (y 0).val ∧ (y 0).val < 128 * k + 0 + 128
    · rw [if_pos (by omega)]
      have hq : (y 0).val / 128 = k := by omega
      refine (View.read_writes_cons_unit_of_mem arg14.view G (k0_off2_inb ⟨k, hk⟩) _ _ y
        (ix3 ⟨(y 0).val % 128, Nat.mod_lt _ (by decide)⟩ (y 1) (y 2)) (k0_off2_eq ⟨k, hk⟩) ?_).trans ?_
      · intro a
        match a with
        | ⟨0, _⟩ => show (y 0).val = 128 * k + (y 0).val % 128
                    omega
        | ⟨1, _⟩ => show (y 1).val = 0 + (y 1).val
                    omega
        | ⟨2, _⟩ => show (y 2).val = 0 + (y 2).val
                    omega
      · unfold wHalf
        rw [hq]
        have hoff : (![256 * k, 0] : Fin 2 → ℕ) = ![256 * k, 0] := rfl
        rw [View.readAt_unit arg3.view X3 _ (k0_off1_eq ⟨k, hk⟩) (by rw [← k0_off1_eq ⟨k, hk⟩]; exact k0_off1_inb ⟨k, hk⟩),
          View.readAt_unit arg5.view X5 _ (k0_off1_eq ⟨k, hk⟩) (by rw [← k0_off1_eq ⟨k, hk⟩]; exact k0_off1_inb ⟨k, hk⟩)]
        rw [rowBlk_window, rowBlk_window]
    · refine (View.read_writes_cons_unit_of_not_mem arg14.view G (k0_off2_inb ⟨k, hk⟩) _ _ y (k0_off2_eq ⟨k, hk⟩) 0 ?_).trans ?_
      · show (y 0).val < 128 * k ∨ 128 * k + 128 ≤ (y 0).val
        omega
      · rw [ih (by omega)]
        by_cases h' : (y 0).val < 128 * k
        · rw [if_pos h', if_pos (by omega)]
        · rw [if_neg h', if_neg (by omega)]

/-- The decoded tile after `n` trips of decode loop 2, over what was stored before. -/
theorem decode2 (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (t : BitVec 32) (X4 : BufTy.Contents (Elt F) arg4.view.ty) (X6 : BufTy.Contents (Elt F) arg6.view.ty) (G : BufTy.Contents (Elt F) arg14.view.ty)
    (L : List (View.Piece (Elt F) S3584x2x256 .bf16)) (n : ℕ) (hn : n ≤ 14) (y : S3584x2x256.Idx) :
    arg14.view.read (Elt F) (arg14.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) (k0_pay51 (iota .tc S8x128 32 [0] iota_S8x128_d0_w32) k0_pay49 0#32) (k0_pay52 (iota .tc S8x128 32 [0] iota_S8x128_d0_w32) k0_pay50) 5#32 X4 X6 n ++ L)) y
      = if 1792 ≤ (y 0).val ∧ (y 0).val < 1792 + 128 * n then
          wHalf t (arg4.view.read (Elt F) X4) (arg6.view.read (Elt F) X6) ((y 0).val - 1792) (y 1) (y 2)
        else arg14.view.read (Elt F) (arg14.view.writes (Elt F) G L) y := by
  induction n with
  | zero =>
    rw [if_neg (by omega)]
    rfl
  | succ k ih =>
    have hk : k < k0_t2_loop.trips := by have : k0_t2_loop.trips = 14 := by decide
                                         omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) (k0_pay51 (iota .tc S8x128 32 [0] iota_S8x128_d0_w32) k0_pay49 0#32) (k0_pay52 (iota .tc S8x128 32 [0] iota_S8x128_d0_w32) k0_pay50) 5#32 X4 X6 ⟨k, hk⟩
    rw [trip2] at e
    rw [e, List.singleton_append, List.cons_append]
    have hy0 : (y 0).val < 3584 := (y 0).isLt
    have hy1 : (y 1).val < 2 := (y 1).isLt
    have hy2 : (y 2).val < 256 := (y 2).isLt
    by_cases h : 128 * k + 1792 ≤ (y 0).val ∧ (y 0).val < 128 * k + 1792 + 128
    · rw [if_pos (by omega)]
      have hq : ((y 0).val - 1792) / 128 = k := by omega
      refine (View.read_writes_cons_unit_of_mem arg14.view G (k0_off4_inb ⟨k, hk⟩) _ _ y
        (ix3 ⟨((y 0).val - 1792) % 128, Nat.mod_lt _ (by decide)⟩ (y 1) (y 2)) (k0_off4_eq ⟨k, hk⟩) ?_).trans ?_
      · intro a
        match a with
        | ⟨0, _⟩ => show (y 0).val = 128 * k + 1792 + ((y 0).val - 1792) % 128
                    omega
        | ⟨1, _⟩ => show (y 1).val = 0 + (y 1).val
                    omega
        | ⟨2, _⟩ => show (y 2).val = 0 + (y 2).val
                    omega
      · unfold wHalf
        rw [hq]
        have hoff : (![256 * k, 0] : Fin 2 → ℕ) = ![256 * k, 0] := rfl
        rw [View.readAt_unit arg4.view X4 _ (k0_off3_eq ⟨k, hk⟩) (by rw [← k0_off3_eq ⟨k, hk⟩]; exact k0_off3_inb ⟨k, hk⟩),
          View.readAt_unit arg6.view X6 _ (k0_off3_eq ⟨k, hk⟩) (by rw [← k0_off3_eq ⟨k, hk⟩]; exact k0_off3_inb ⟨k, hk⟩)]
        rw [rowBlk_window, rowBlk_window]
    · refine (View.read_writes_cons_unit_of_not_mem arg14.view G (k0_off4_inb ⟨k, hk⟩) _ _ y (k0_off4_eq ⟨k, hk⟩) 0 ?_).trans ?_
      · show (y 0).val < 128 * k + 1792 ∨ 128 * k + 1792 + 128 ≤ (y 0).val
        omega
      · rw [ih (by omega)]
        by_cases h' : 1792 ≤ (y 0).val ∧ (y 0).val < 1792 + 128 * k
        · rw [if_pos h', if_pos (by omega)]
        · rw [if_neg h', if_neg (by omega)]

/-- The scratch tile after both decode loops, whatever was there before. -/
theorem decoded (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (t : BitVec 32) (X3 : BufTy.Contents (Elt F) arg3.view.ty) (X5 : BufTy.Contents (Elt F) arg5.view.ty) (X4 : BufTy.Contents (Elt F) arg4.view.ty) (X6 : BufTy.Contents (Elt F) arg6.view.ty) (G : BufTy.Contents (Elt F) arg14.view.ty) :
    arg14.view.read (Elt F) (arg14.view.writes (Elt F) G
        (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) (k0_pay51 (iota .tc S8x128 32 [0] iota_S8x128_d0_w32) k0_pay49 0#32) (k0_pay52 (iota .tc S8x128 32 [0] iota_S8x128_d0_w32) k0_pay50) 5#32 X4 X6 k0_t2_loop.trips
          ++ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 t (iota .tc S8x128 32 [0] iota_S8x128_d0_w32) k0_pay45 k0_pay46 X3 X5 k0_t1_loop.trips))
      = wTile t (arg3.view.read (Elt F) X3) (arg4.view.read (Elt F) X4) (arg5.view.read (Elt F) X5) (arg6.view.read (Elt F) X6) := by
  funext y
  have h1 : k0_t1_loop.trips = 14 := by decide

  have hy0 : (y 0).val < 3584 := (y 0).isLt
  rw [h1, decode2 c i arg1 harg1 arg2 harg2 arg3 harg3 arg4 harg4 arg5 harg5 arg6 harg6 arg7 harg7 arg8 harg8 arg9 harg9 arg10 harg10 arg11 harg11 arg12 harg12 arg13 harg13 arg14 harg14 t X4 X6 G _ 14 le_rfl y]
  unfold wTile
  by_cases h : (y 0).val < 1792
  · rw [if_neg (by omega), if_pos h]
    have := decode1 c i arg1 harg1 arg2 harg2 arg3 harg3 arg4 harg4 arg5 harg5 arg6 harg6 arg7 harg7 arg8 harg8 arg9 harg9 arg10 harg10 arg11 harg11 arg12 harg12 arg13 harg13 arg14 harg14 t X3 X5 G [] 14 le_rfl y
    rw [List.append_nil] at this
    rw [this, if_pos (by omega)]
  · rw [if_pos (by omega), if_neg h]

/-- The running lane sums after `n` trips of the third loop. -/
theorem lanes (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (X9 : BufTy.Contents (Elt F) arg9.view.ty) (X10 : BufTy.Contents (Elt F) arg10.view.ty) (X11 : BufTy.Contents (Elt F) arg11.view.ty) (X12 : BufTy.Contents (Elt F) arg12.view.ty) (G : BufTy.Contents (Elt F) arg13.view.ty) (n : ℕ) (hn : n ≤ 64) (y : S2048x128.Idx) :
    arg13.view.read (Elt F) (arg13.view.writes (Elt F) G (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G n)) y
      = if (y 0).val < 32 * n then cStep (arg12.view.read (Elt F) X12) (arg10.view.read (Elt F) X10) (arg11.view.read (Elt F) X11)
          (arg9.view.read (Elt F) X9) (arg13.view.read (Elt F) G) y
        else arg13.view.read (Elt F) G y := by
  induction n generalizing y with
  | zero =>
    rw [if_neg (by omega)]
    rfl
  | succ k ih =>
    have hk : k < k0_t3_loop.trips := by have : k0_t3_loop.trips = 64 := by decide
                                         omega
    have e := pb_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G ⟨k, hk⟩
    rw [trip3] at e
    rw [e, List.singleton_append]
    have hy0 : (y 0).val < 2048 := (y 0).isLt
    have hy1 : (y 1).val < 128 := (y 1).isLt
    have hb : ∀ a, (![32 * k, 0] : Fin 2 → ℕ) a + S32x256.size a ≤ S2048x256.size a := by
      have := k0_off5_inb ⟨k, hk⟩; rwa [k0_off5_eq ⟨k, hk⟩] at this
    have hb' : ∀ a, (![32 * k, 0] : Fin 2 → ℕ) a + S32x128.size a ≤ S2048x128.size a := by
      have := k0_off6_inb ⟨k, hk⟩; rwa [k0_off6_eq ⟨k, hk⟩] at this
    by_cases h : 32 * k ≤ (y 0).val ∧ (y 0).val < 32 * k + 32
    · rw [if_pos (by omega)]
      have hq : (y 0).val / 32 = k := by omega
      refine (View.read_writes_cons_unit_of_mem arg13.view G (k0_off6_inb ⟨k, hk⟩) _ _ y
        (ix2 ⟨(y 0).val % 32, Nat.mod_lt _ (by decide)⟩ (y 1)) (k0_off6_eq ⟨k, hk⟩) ?_).trans ?_
      · intro a
        match a with
        | ⟨0, _⟩ => show (y 0).val = 32 * k + (y 0).val % 32
                    omega
        | ⟨1, _⟩ => show (y 1).val = 0 + (y 1).val
                    omega
      · unfold cStep
        rw [hq]
        rw [View.readAt_unit arg12.view X12 _ (k0_off5_eq ⟨k, hk⟩) hb, View.readAt_unit arg9.view X9 _ (k0_off5_eq ⟨k, hk⟩) hb,
          View.readAt_unit arg11.view X11 _ (k0_off6_eq ⟨k, hk⟩) hb', View.readAt_unit arg13.view _ _ (k0_off6_eq ⟨k, hk⟩) hb']
        have e1 := part_window (n := 256) (arg12.view.read (Elt F) X12) k hb
        have e2 := part_window (n := 256) (arg9.view.read (Elt F) X9) k hb
        have e3 := part_window (n := 128) (arg11.view.read (Elt F) X11) k hb'
        have e4 := part_window (n := 128) (arg13.view.read (Elt F) (arg13.view.writes (Elt F) G (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G k))) k hb'
        have e5 : part (n := 128) (arg13.view.read (Elt F) (arg13.view.writes (Elt F) G (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G k))) k
            = part (n := 128) (arg13.view.read (Elt F) G) k := by
          funext j
          have hj := idx2_lt0 (n0 := 32) (n1 := 128) j
          refine (ih (by omega) _).trans (if_neg ?_)
          show ¬ (32 * k + (j 0).val) % 2048 < 32 * k
          rw [Nat.mod_eq_of_lt (by omega)]; omega
        have e6 := View.readAt_full arg10.view X10 inb_S1x256_S1x256_0_0
        rw [e1, e2, e3]
        erw [e4]
        erw [e5, e6]
    · refine (View.read_writes_cons_unit_of_not_mem arg13.view G (k0_off6_inb ⟨k, hk⟩) _ _ y (k0_off6_eq ⟨k, hk⟩) 0 ?_).trans ?_
      · show (y 0).val < 32 * k ∨ 32 * k + 32 ≤ (y 0).val
        omega
      · rw [ih (by omega)]
        by_cases h' : (y 0).val < 32 * k
        · rw [if_pos h', if_pos (by omega)]
        · rw [if_neg h', if_neg (by omega)]

/-- The third loop is one step of the running lane sums. -/
theorem laned (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (X9 : BufTy.Contents (Elt F) arg9.view.ty) (X10 : BufTy.Contents (Elt F) arg10.view.ty) (X11 : BufTy.Contents (Elt F) arg11.view.ty) (X12 : BufTy.Contents (Elt F) arg12.view.ty) (G : BufTy.Contents (Elt F) arg13.view.ty) :
    arg13.view.read (Elt F) (arg13.view.writes (Elt F) G (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G k0_t3_loop.trips))
      = cStep (arg12.view.read (Elt F) X12) (arg10.view.read (Elt F) X10) (arg11.view.read (Elt F) X11)
          (arg9.view.read (Elt F) X9) (arg13.view.read (Elt F) G) := by
  funext y
  have h1 : k0_t3_loop.trips = 64 := by decide
  have hy0 : (y 0).val < 2048 := (y 0).isLt
  rw [h1, lanes c i arg1 harg1 arg2 harg2 arg3 harg3 arg4 harg4 arg5 harg5 arg6 harg6 arg7 harg7 arg8 harg8 arg9 harg9 arg10 harg10 arg11 harg11 arg12 harg12 arg13 harg13 arg14 harg14 X9 X10 X11 X12 G 64 le_rfl y, if_pos (by omega)]

end Cert.KernelIdeal.Dh

end
-- ==== Proof.Dh.Run.lean ====
/-
  One grid step of the kernel body: from its eleven input blocks and the running lane sums, the gradient tile and the new running lane sums.
-/
module

public import proofs.«01_k».proof.Proof.Dh.Reads

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The gradient tile of one grid step. -/
def outDh (t : BitVec 32) (x0 x1 : Vec F S1024x3584 .i32) (x2 x3 : Vec F S3584x128 .i8) (x4 x5 : Vec F S3584x128 .f32)
    (x6 : Vec F S2048x128 .bf16) (x7 : Vec F S128x256 .bf16) : Vec F S2048x256 .f32 :=
  dhTile x0 x1 x6 x7 (wTile t x2 x3 x4 x5)

/-- The running lane sums after one grid step: reset at the first step, finished at the last. -/
def outC (t : BitVec 32) (dh : Vec F S2048x256 .f32) (x8 : Vec F S2048x256 .bf16) (x9 : Vec F S1x256 .f32) (x10 : Vec F S2048x128 .f32)
    (x12 : Vec F S2048x128 .f32) : Vec F S2048x128 .f32 :=
  if Scalar.cmpi .ne (Scalar.extui (Scalar.cmpi .eq t 31#32)) 0#32 = 1#1 then
    k0_pay4 (cStep dh x9 x10 x8 (if Scalar.cmpi .ne (Scalar.extui (Scalar.cmpi .eq t 0#32)) 0#32 = 1#1 then k0_pay2 else x12))
  else cStep dh x9 x10 x8 (if Scalar.cmpi .ne (Scalar.extui (Scalar.cmpi .eq t 0#32)) 0#32 = 1#1 then k0_pay2 else x12)

theorem readAt_window {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

set_option maxHeartbeats 1000000 in
/-- One grid step. -/
theorem run (c : Dev nD) (i : grid0.Coords) (arg1 : Memref sig .tc .vmem S1024x3584 .i32) (harg1 : arg1.IsWhole) (arg2 : Memref sig .tc .vmem S1024x3584 .i32) (harg2 : arg2.IsWhole) (arg3 : Memref sig .tc .vmem S3584x128 .i8) (harg3 : arg3.IsWhole) (arg4 : Memref sig .tc .vmem S3584x128 .i8) (harg4 : arg4.IsWhole) (arg5 : Memref sig .tc .vmem S3584x128 .f32) (harg5 : arg5.IsWhole) (arg6 : Memref sig .tc .vmem S3584x128 .f32) (harg6 : arg6.IsWhole) (arg7 : Memref sig .tc .vmem S2048x128 .bf16) (harg7 : arg7.IsWhole) (arg8 : Memref sig .tc .vmem S128x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x128 .f32) (harg11 : arg11.IsWhole) (arg12 : Memref sig .tc .vmem S2048x256 .f32) (harg12 : arg12.IsWhole) (arg13 : Memref sig .tc .vmem S2048x128 .f32) (harg13 : arg13.IsWhole) (arg14 : Memref sig .tc .vmem S3584x2x256 .bf16) (harg14 : arg14.IsWhole) (x0 : Vec F S1024x3584 .i32) (x1 : Vec F S1024x3584 .i32) (x2 : Vec F S3584x128 .i8) (x3 : Vec F S3584x128 .i8) (x4 : Vec F S3584x128 .f32) (x5 : Vec F S3584x128 .f32) (x6 : Vec F S2048x128 .bf16) (x7 : Vec F S128x256 .bf16) (x8 : Vec F S2048x256 .bf16) (x9 : Vec F S1x256 .f32) (x10 : Vec F S2048x128 .f32) (x12 : Vec F S2048x128 .f32) :
    ∀ E (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare x12 ∗ (∃ d, owns (c : Thread nD τ) arg14 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outDh (BitVec.ofNat 32 (i 0).val) x0 x1 x2 x3 x4 x5 x6 x7)
            ∗ owns (c : Thread nD τ) arg13 fullShare (outC (BitVec.ofNat 32 (i 0).val) (outDh (BitVec.ofNat 32 (i 0).val) x0 x1 x2 x3 x4 x5 x6 x7) x8 x9 x10 x12) ∗ (∃ d, owns (c : Thread nD τ) arg14 fullShare d)) -∗ K ⟨⟩))
        ⊢ wp frame (wpE (defs₀ (F := F)) Variants.none c none) E (cc0_dh i arg1 harg1 arg2 harg2 arg3 harg3 arg4 harg4 arg5 harg5 arg6 harg6 arg7 harg7 arg8 harg8 arg9 harg9 arg10 harg10 arg11 harg11 arg12 harg12 arg13 harg13 arg14 harg14) K := by
  intro E K
  simp only [cc0_dh_eq_skeleton]; unfold cc0_dh_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  subst hf12
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  have hW := decoded c i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (harg3.unread x2) (harg5.unread x4) (harg4.unread x3) (harg6.unread x5) fs0
  simp only [harg1.read_unread, harg2.read_unread, harg3.read_unread, harg4.read_unread, harg5.read_unread, harg6.read_unread, harg7.read_unread, harg8.read_unread, harg9.read_unread, harg10.read_unread, harg11.read_unread] at hW
  isplitl [H11]
  · iexists _; isplitr; swap; · iexact H11
    ipureintro
    sl_unfold_words
    replace hW : View.read (Elt F) arg14.view (arg14.view.writes (Elt F) fs0
        (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (iota .tc S8x128 32 [0] iota_S8x128_d0_w32) (k0_pay51 (iota .tc S8x128 32 [0] iota_S8x128_d0_w32) k0_pay49 0#32) (k0_pay52 (iota .tc S8x128 32 [0] iota_S8x128_d0_w32) k0_pay50) 5#32 (harg4.unread x3) (harg6.unread x5) (Scf.trips k0_t2_loop.lb k0_t2_loop.ub k0_t2_loop.st)
          ++ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (iota .tc S8x128 32 [0] iota_S8x128_d0_w32) k0_pay45 k0_pay46 (harg3.unread x2) (harg5.unread x4) (Scf.trips k0_t1_loop.lb k0_t1_loop.ub k0_t1_loop.st))) = _ := hW
    generalize arg14.view.writes (Elt F) fs0 _ = S at hW ⊢
    funext y
    have hy0 := idx2_lt0 (n0 := 2048) (n1 := 256) y
    unfold outDh dhTile
    by_cases h : (y 0).val < 1024
    · rw [dif_pos h]
      refine (View.read_writes_cons_unit_of_not_mem arg12.view _ _ _ _ y rfl 0 (.inl h)).trans ?_
      refine (View.read_writes_cons_unit_of_mem arg12.view _ _ _ _ y (ix2 ⟨(y 0).val, h⟩ (y 1)) rfl ?_).trans ?_
      · intro a
        match a with
        | ⟨0, _⟩ => exact (Nat.zero_add _).symm
        | ⟨1, _⟩ => exact (Nat.zero_add _).symm
      · simp only [readAt_window, hW, harg1.read_unread, harg2.read_unread, harg3.read_unread, harg4.read_unread, harg5.read_unread, harg6.read_unread, harg7.read_unread, harg8.read_unread, harg9.read_unread, harg10.read_unread, harg11.read_unread]
        rfl
    · rw [dif_neg h]
      refine (View.read_writes_cons_unit_of_mem arg12.view _ _ _ _ y (ix2 ⟨(y 0).val - 1024, by omega⟩ (y 1)) rfl ?_).trans ?_
      · intro a
        match a with
        | ⟨0, _⟩ => show (y 0).val = 1024 + ((y 0).val - 1024)
                    omega
        | ⟨1, _⟩ => exact (Nat.zero_add _).symm
      · simp only [readAt_window, hW, harg1.read_unread, harg2.read_unread, harg3.read_unread, harg4.read_unread, harg5.read_unread, harg6.read_unread, harg7.read_unread, harg8.read_unread, harg9.read_unread, harg10.read_unread, harg11.read_unread]
        rfl
  isplitl [H12]
  · iexists _; isplitr; swap; · iexact H12
    ipureintro
    unfold run.sl.v489
    generalize hX : arg12.view.writes (Elt F) arg12.view.junk _ = X12
    have hD : View.read (Elt F) arg12.view X12 = outDh (BitVec.ofNat 32 (i 0).val) x0 x1 x2 x3 x4 x5 x6 x7 := by
      rw [← hX]
      sl_unfold_words
      replace hW : View.read (Elt F) arg14.view (arg14.view.writes (Elt F) fs0
          (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (iota .tc S8x128 32 [0] iota_S8x128_d0_w32) (k0_pay51 (iota .tc S8x128 32 [0] iota_S8x128_d0_w32) k0_pay49 0#32) (k0_pay52 (iota .tc S8x128 32 [0] iota_S8x128_d0_w32) k0_pay50) 5#32 (harg4.unread x3) (harg6.unread x5) (Scf.trips k0_t2_loop.lb k0_t2_loop.ub k0_t2_loop.st)
            ++ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) (iota .tc S8x128 32 [0] iota_S8x128_d0_w32) k0_pay45 k0_pay46 (harg3.unread x2) (harg5.unread x4) (Scf.trips k0_t1_loop.lb k0_t1_loop.ub k0_t1_loop.st))) = _ := hW
      generalize arg14.view.writes (Elt F) fs0 _ = S at hW ⊢
      funext y
      have hy0 := idx2_lt0 (n0 := 2048) (n1 := 256) y
      unfold outDh dhTile
      by_cases h : (y 0).val < 1024
      · rw [dif_pos h]
        refine (View.read_writes_cons_unit_of_not_mem arg12.view _ _ _ _ y rfl 0 (.inl h)).trans ?_
        refine (View.read_writes_cons_unit_of_mem arg12.view _ _ _ _ y (ix2 ⟨(y 0).val, h⟩ (y 1)) rfl ?_).trans ?_
        · intro a
          match a with
          | ⟨0, _⟩ => exact (Nat.zero_add _).symm
          | ⟨1, _⟩ => exact (Nat.zero_add _).symm
        · simp only [readAt_window, hW, harg1.read_unread, harg2.read_unread, harg3.read_unread, harg4.read_unread, harg5.read_unread, harg6.read_unread, harg7.read_unread, harg8.read_unread, harg9.read_unread, harg10.read_unread, harg11.read_unread]
          rfl
      · rw [dif_neg h]
        refine (View.read_writes_cons_unit_of_mem arg12.view _ _ _ _ y (ix2 ⟨(y 0).val - 1024, by omega⟩ (y 1)) rfl ?_).trans ?_
        · intro a
          match a with
          | ⟨0, _⟩ => show (y 0).val = 1024 + ((y 0).val - 1024)
                      omega
          | ⟨1, _⟩ => exact (Nat.zero_add _).symm
        · simp only [readAt_window, hW, harg1.read_unread, harg2.read_unread, harg3.read_unread, harg4.read_unread, harg5.read_unread, harg6.read_unread, harg7.read_unread, harg8.read_unread, harg9.read_unread, harg10.read_unread, harg11.read_unread]
          rfl
    rw [← hD]
    generalize hG : (if hc : Scalar.cmpi CmpIPredicate.ne (Scalar.extui (Scalar.cmpi CmpIPredicate.eq (BitVec.ofNat 32 (i 0).val) 0#32)) 0#32 = 1#1 then
      arg13.view.writes (Elt F) f12 [⟨Rect.unit ![0, 0] ![2048, 128] inb_S2048x128_S2048x128_0_0, k0_pay2⟩] else f12) = G
    have hG' : View.read (Elt F) arg13.view G = if Scalar.cmpi CmpIPredicate.ne (Scalar.extui (Scalar.cmpi CmpIPredicate.eq (BitVec.ofNat 32 (i 0).val) 0#32)) 0#32 = 1#1 then k0_pay2 else View.read (Elt F) arg13.view f12 := by
      rw [← hG]
      split
      · exact View.read_writes_full arg13.view f12 inb_S2048x128_S2048x128_0_0 k0_pay2 []
      · rfl
    have hL := laned c i arg1 harg1 arg2 harg2 arg3 harg3 arg4 harg4 arg5 harg5 arg6 harg6 arg7 harg7 arg8 harg8 arg9 harg9 arg10 harg10 arg11 harg11 arg12 harg12 arg13 harg13 arg14 harg14 (harg9.unread x8) (harg10.unread x9) (harg11.unread x10) X12 G
    simp only [harg9.read_unread, harg10.read_unread, harg11.read_unread] at hL
    unfold outC
    rw [← hG', ← hL]
    clear hW hX hD hL hG hG' hf0 hf1 hf2 hf3 hf4 hf5 hf6 hf7 hf8 hf9 hf10
    by_cases hl : Scalar.cmpi CmpIPredicate.ne (Scalar.extui (Scalar.cmpi CmpIPredicate.eq (BitVec.ofNat 32 (i 0).val) 31#32)) 0#32 = 1#1
    · rw [dif_pos hl]
      refine Eq.trans ?_ (if_pos hl).symm
      refine (View.read_writes_full arg13.view G inb_S2048x128_S2048x128_0_0 _ _).trans ?_
      refine congrArg k0_pay4 ?_
      exact View.readAt_full arg13.view _ inb_S2048x128_S2048x128_0_0
    · rw [dif_neg hl]
      exact (if_neg hl).symm
  iexists _, _; isplitr; swap; · iexact HS0
  ipureintro; rfl

end Cert.KernelIdeal.Dh

end
-- ==== Proof.Dh.Launch.lean ====
/-
  The whole launch: what the two result arrays hold at the end, from what the arrays hold when the grid starts.
-/
module

public import proofs.«01_k».proof.Proof.Dh.Run
public import Idealize.ShloMosaic.Lib.Pipeline.FrameBody
public import Idealize.ShloMosaic.Lib.Pipeline.Value
public import proofs.«01_k».proof.Proof.Gen.KernelIdeal.Points

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_first (t : Fin cfg0.N) :
    Scalar.cmpi .ne (Scalar.extui (Scalar.cmpi .eq (BitVec.ofNat 32 (grid0.coords t 0).val) 0#32)) 0#32 = 1#1 ↔ t.val = 0 := by
  have ht : t.val < 32 := Nat.lt_of_lt_of_eq t.isLt N_0
  have e0 : (grid0.coords t 0).val = t.val / 1 % 32 := Pipeline.Grid.coords_val t 0 (by decide) rfl
  rw [e0]
  have e1 : t.val / 1 % 32 = t.val := by omega
  rw [e1]
  generalize t.val = n at ht ⊢
  revert n
  decide +kernel

theorem cond_last (t : Fin cfg0.N) :
    Scalar.cmpi .ne (Scalar.extui (Scalar.cmpi .eq (BitVec.ofNat 32 (grid0.coords t 0).val) 31#32)) 0#32 = 1#1 ↔ t.val = 31 := by
  have ht : t.val < 32 := Nat.lt_of_lt_of_eq t.isLt N_0
  have e0 : (grid0.coords t 0).val = t.val / 1 % 32 := Pipeline.Grid.coords_val t 0 (by decide) rfl
  rw [e0]
  have e1 : t.val / 1 % 32 = t.val := by omega
  rw [e1]
  generalize t.val = n at ht ⊢
  revert n
  decide +kernel

/-- The gradient tile of point `t`. -/
def tileDh (c : Dev nD) (t : Fin cfg0.N) : Vec F S2048x256 .f32 :=
  outDh (BitVec.ofNat 32 (grid0.coords t 0).val) (iblk m c 0 t) (iblk m c 1 t) (iblk m c 2 t) (iblk m c 3 t) (iblk m c 4 t) (iblk m c 5 t)
    (iblk m c 6 t) (iblk m c 7 t)

/-- The lane sums after point `t`, from those before it. -/
def tileC (c : Dev nD) (t : Fin cfg0.N) (g : Vec F S2048x128 .f32) : Vec F S2048x128 .f32 :=
  outC (BitVec.ofNat 32 (grid0.coords t 0).val) (tileDh m c t) (iblk m c 8 t) (iblk m c 9 t) (iblk m c 10 t) g

/-- The lane sums after point `n`. -/
def accC (c : Dev nD) : (n : ℕ) → n < cfg0.N → Vec F S2048x128 .f32
  | 0, h => tileC m c ⟨0, h⟩ k0_pay2
  | n + 1, h => tileC m c ⟨n + 1, h⟩ (accC c n (Nat.lt_of_succ_lt h))

theorem accC_pos (c : Dev nD) (t : Fin cfg0.N) (h : t.val ≠ 0) :
    accC m c t.val t.isLt = tileC m c t (accC m c (t.val - 1) (Nat.lt_of_le_of_lt (Nat.sub_le _ _) t.isLt)) := by
  obtain ⟨n, hn⟩ := t
  cases n with
  | zero => exact absurd rfl h
  | succ k => rfl

theorem accC_zero (c : Dev nD) (t : Fin cfg0.N) (h : t.val = 0) (g : Vec F S2048x128 .f32) : tileC m c t g = accC m c t.val t.isLt := by
  have e : accC m c t.val t.isLt = tileC m c t k0_pay2 := by
    obtain ⟨n, hn⟩ := t
    cases n with
    | zero => rfl
    | succ k => exact absurd h (Nat.succ_ne_zero k)
  rw [e]
  unfold tileC outC
  rw [if_pos ((cond_first t).mpr h), if_pos ((cond_first t).mpr h)]

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileDh m c t
    | ⟨12, _⟩ => accC m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = tileDh m c t := by dsimp only [dats]
theorem after0_12 (c : Dev nD) (t : Fin cfg0.N) : (dats m 0 c).after 12 t = accC m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_12 (c : Dev nD) (t : Fin cfg0.N) (h : t.val ≠ 0) (d) :
    (dats m 0 c).before 12 t d = accC m c (t.val - 1) (Nat.lt_of_le_of_lt (Nat.sub_le _ _) t.isLt) := by
  have hN : t.val < 32 := Nat.lt_of_lt_of_eq t.isLt N_0
  rw [Dat.before_out_kept _ 12 rfl t h (Bool.eq_false_iff.mpr fun h' => by have := (flush0_12 _).mp h'; dsimp only at this; omega)
    (fun _ => rfl) (fun _ _ => rfl)]
  dsimp only [dats]

/-- What one point leaves in the lane sums, from what it finds there. -/
theorem tileC_before (c : Dev nD) (t : Fin cfg0.N) (d) : tileC m c t ((dats m 0 c).before 12 t d) = accC m c t.val t.isLt := by
  by_cases h : t.val = 0
  · exact accC_zero m c t h _
  · rw [accC_pos m c t h, before0_12 m c t h]

abbrev ms0_0 (t : Fin cfg0.N) : Memref sig .tc .vmem S1024x3584 .i32 := win0_0.stage (cfg0.slots t 0)
abbrev ms0_1 (t : Fin cfg0.N) : Memref sig .tc .vmem S1024x3584 .i32 := win0_1.stage (cfg0.slots t 1)
abbrev ms0_2 (t : Fin cfg0.N) : Memref sig .tc .vmem S3584x128 .i8 := win0_2.stage (cfg0.slots t 2)
abbrev ms0_3 (t : Fin cfg0.N) : Memref sig .tc .vmem S3584x128 .i8 := win0_3.stage (cfg0.slots t 3)
abbrev ms0_4 (t : Fin cfg0.N) : Memref sig .tc .vmem S3584x128 .f32 := win0_4.stage (cfg0.slots t 4)
abbrev ms0_5 (t : Fin cfg0.N) : Memref sig .tc .vmem S3584x128 .f32 := win0_5.stage (cfg0.slots t 5)
abbrev ms0_6 (t : Fin cfg0.N) : Memref sig .tc .vmem S2048x128 .bf16 := win0_6.stage (cfg0.slots t 6)
abbrev ms0_7 (t : Fin cfg0.N) : Memref sig .tc .vmem S128x256 .bf16 := win0_7.stage (cfg0.slots t 7)
abbrev ms0_8 (t : Fin cfg0.N) : Memref sig .tc .vmem S2048x256 .bf16 := win0_8.stage (cfg0.slots t 8)
abbrev ms0_9 (t : Fin cfg0.N) : Memref sig .tc .vmem S1x256 .f32 := win0_9.stage (cfg0.slots t 9)
abbrev ms0_10 (t : Fin cfg0.N) : Memref sig .tc .vmem S2048x128 .f32 := win0_10.stage (cfg0.slots t 10)
abbrev ms0_11 (t : Fin cfg0.N) : Memref sig .tc .vmem S2048x256 .f32 := win0_11.stage (cfg0.slots t 11)
abbrev ms0_12 (t : Fin cfg0.N) : Memref sig .tc .vmem S2048x128 .f32 := win0_12.stage (cfg0.slots t 12)
abbrev scM0_0 : Memref sig .tc .vmem S3584x2x256 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← tileC_before m c t d12]
  unfold tileC tileDh
  iapply ((run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Dh

end
-- ==== Proof.Dh.Nibble.lean ====
/-
  The values of 256 rows of codes, at an index: the sixteen-value table at one half of a byte.
-/
module

public import proofs.«01_k».proof.Proof.Dh.Tile
public import Idealize.ShloMosaic.Lib.Pointwise
public import Idealize.ShloMosaic.Lib.BitcastFour
public import Idealize.ShloMosaic.Lib.BitcastConvert

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The sixteen values. -/
def level : Fin 16 → EReal :=
  ![Ideal.ofBits .f32 0xBF800000#32, Ideal.ofBits .f32 0xBF3239B1#32, Ideal.ofBits .f32 0xBF066B30#32, Ideal.ofBits .f32 0xBECA32A0#32,
    Ideal.ofBits .f32 0xBE91A24D#32, Ideal.ofBits .f32 0xBE3D353F#32, Ideal.ofBits .f32 0xBDBA7871#32, 0,
    Ideal.ofBits .f32 0x3DA2FAFF#32, Ideal.ofBits .f32 0x3E24CAE3#32, Ideal.ofBits .f32 0x3E7C04DD#32, Ideal.ofBits .f32 0x3EAD033A#32,
    Ideal.ofBits .f32 0x3EE1A4B8#32, Ideal.ofBits .f32 0x3F1007AB#32, Ideal.ofBits .f32 0x3F3913B3#32, 1]

/-- The half of a byte an even (the high one) or an odd column takes. -/
def nib (b : BitVec 8) (p : ℕ) : Fin 16 :=
  if p % 2 = 0 then ⟨b.toNat / 16, by have := b.isLt; omega⟩ else ⟨b.toNat % 16, Nat.mod_lt _ (by decide)⟩

theorem tabLo_at (r : Fin 8) (l : Fin 128) : tabLo (F := Ideal) (ix2 r l) = level ⟨r.val, by omega⟩ := by
  pointwise [tabLo, k0_pay47, k0_pay46]
  fin_cases r <;> rfl

theorem tabHi_at (r : Fin 8) (l : Fin 128) : tabHi (F := Ideal) (ix2 r l) = level ⟨8 + r.val, by omega⟩ := by
  pointwise [tabHi, k0_pay48, k0_pay45]
  fin_cases r <;> rfl

theorem lo_at (g : Fin 32) (r : Fin 8) (l : Fin 128) : k0_pay7 (F := Ideal) tabLo (ix3 g r l) = level ⟨r.val, by omega⟩ := by
  rw [← tabLo_at r l]; pointwise [k0_pay7]

theorem hi_at (g : Fin 32) (r : Fin 8) (l : Fin 128) : k0_pay8 (F := Ideal) tabHi (ix3 g r l) = level ⟨8 + r.val, by omega⟩ := by
  rw [← tabHi_at r l]; pointwise [k0_pay8]

/-- The shift of a lane. -/
theorem shift_at (l : Fin 128) : k0_pay5 (ix2 (0 : Fin 1) l) = if l.val % 2 = 0 then 4#32 else 0#32 := by
  revert l; unfold k0_pay5; decide +kernel

/-- The lanes the codes of half 0 are taken from. -/
def src0 : IVec S1x128 32 := addi
  (select (andi (cmpi .ne k0_pay10 (broadcast S1x128 (Scalar.subi (Scalar.extui (Scalar.cmpi .sgt 2#32 0#32)) (Scalar.extui (Scalar.cmpi .slt 2#32 0#32)))))
      (cmpi .ne (remsi lane1 (broadcast S1x128 2#32)) (broadcast S1x128 0#32)))
    (subi k0_pay9 (broadcast S1x128 1#32)) k0_pay9) (broadcast S1x128 0#32)
/-- The lanes the codes of half 1 are taken from. -/
def src1 : IVec S1x128 32 := addi (select (k0_pay17 lane1) (subi (k0_pay16 lane1) k0_pay18) (k0_pay16 lane1)) (broadcast S1x128 64#32)

theorem src0_at (l : Fin 128) : src0 (ix2 (0 : Fin 1) l) = BitVec.ofNat 32 (l.val / 2) := by
  revert l; unfold src0 k0_pay10 k0_pay9 lane1; decide +kernel
theorem src1_at (l : Fin 128) : src1 (ix2 (0 : Fin 1) l) = BitVec.ofNat 32 (l.val / 2 + 64) := by
  revert l; unfold src1 k0_pay17 k0_pay16 k0_pay18 lane1; decide +kernel

/-- The half bytes the lanes `src` of the codes give. -/
def nibs (cd : IVec S256x128 8) (src : IVec S1x128 32) : IVec S256x128 8 :=
  bitcast S256x128 8 (andi (shrsi (dynamicGather 1 (bitcast S64x128 32 cd bitcasts_S256x128_w8_S64x128_w32)
    (shapeCast S64x128 (shapeCast S64x128x1 (broadcastTo S64x128 (shapeCast S1x128 src shapeCasts_S1x128_S1x128) broadcasts_S1x128_S64x128)
      shapeCasts_S64x128_S64x128x1) shapeCasts_S64x128x1_S64x128))
    (broadcastTo S64x128 k0_pay5 broadcasts_S1x128_S64x128)) (broadcast S64x128 252645135#32)) bitcasts_S64x128_w32_S256x128_w8

/-- The table read at half bytes. -/
def pick (lo hi : FVec Ideal S32x8x128 .f32) (n : IVec S256x128 8) : FVec Ideal S32x8x128 .f32 :=
  have i : IVec S32x8x128 32 := shapeCast S32x8x128 (extsi 32 n natLt_8_32) shapeCasts_S256x128_S32x8x128
  have k : IVec S32x8x128 32 := andi i (broadcast S32x8x128 7#32)
  select (cmpi .sge i (broadcast S32x8x128 8#32))
    (dynamicGather 1 hi (shapeCast S32x8x128 (shapeCast S32x8x128x1 k shapeCasts_S32x8x128_S32x8x128x1) shapeCasts_S32x8x128x1_S32x8x128))
    (dynamicGather 1 lo (shapeCast S32x8x128 (shapeCast S32x8x128x1 k shapeCasts_S32x8x128_S32x8x128x1) shapeCasts_S32x8x128x1_S32x8x128))

theorem val0_eq (cd : Vec Ideal S256x128 .i8) : val0 cd = pick (k0_pay7 tabLo) (k0_pay8 tabHi) (nibs cd src0) := rfl
theorem val1_eq (cd : Vec Ideal S256x128 .i8) : val1 cd = pick (k0_pay7 tabLo) (k0_pay8 tabHi) (nibs cd src1) := rfl

theorem pick_word (lo hi : Fin 8 → EReal) (hlo : ∀ r, lo r = level ⟨r.val, by omega⟩) (hhi : ∀ r, hi r = level ⟨8 + r.val, by omega⟩)
    (b : BitVec 8) (n : Fin 16) (h : b.toNat = n.val) :
    Scalar.select (IntOp.cmpi .sge (BitVec.signExtend 32 b) 8#32)
      (hi ⟨(IntOp.andi (BitVec.signExtend 32 b) 7#32).toNat % 8, Nat.mod_lt _ (by decide)⟩)
      (lo ⟨(IntOp.andi (BitVec.signExtend 32 b) 7#32).toNat % 8, Nat.mod_lt _ (by decide)⟩) = level n := by
  rw [hlo, hhi]
  obtain rfl : b = BitVec.ofNat 8 n.val := BitVec.eq_of_toNat_eq (by rw [h, BitVec.toNat_ofNat]; have := n.isLt; omega)
  fin_cases n <;> rfl

set_option maxHeartbeats 2000000 in
theorem pick_at (m : IVec S256x128 8) (g : Fin 32) (r : Fin 8) (l : Fin 128) (n : Fin 16)
    (h : (m (ix2 ⟨g.val * 8 + r.val, by omega⟩ l)).toNat = n.val) :
    pick (k0_pay7 tabLo) (k0_pay8 tabHi) m (ix3 g r l) = level n := by
  rw [← pick_word (fun r => k0_pay7 (F := Ideal) tabLo (ix3 g r l)) (fun r => k0_pay8 (F := Ideal) tabHi (ix3 g r l)) (fun r => lo_at g r l)
    (fun r => hi_at g r l) _ n h]
  generalize k0_pay7 (F := Ideal) tabLo = lo
  generalize k0_pay8 (F := Ideal) tabHi = hi
  pointwise [pick]

theorem word_bit (cd : IVec S256x128 8) (a : Fin 64) (l : Fin 128) (q : ℕ) (hq : q < 32) :
    (bitcast S64x128 32 cd bitcasts_S256x128_w8_S64x128_w32 (ix2 a l)).getLsbD q
      = (cd (ix2 ⟨4 * a.val + q / 8, by omega⟩ l)).getLsbD (q % 8) :=
  bitcast_8_32_getLsbD_ix2 cd bitcasts_S256x128_w8_S64x128_w32 a l q hq ⟨4 * a.val + q / 8, by omega⟩ rfl

theorem byte_bit (w : IVec S64x128 32) (R : Fin 256) (l : Fin 128) (q : ℕ) (hq : q < 8) :
    (bitcast S256x128 8 w bitcasts_S64x128_w32_S256x128_w8 (ix2 R l)).getLsbD q
      = (w (ix2 ⟨R.val / 4, by omega⟩ l)).getLsbD (8 * (R.val % 4) + q) := by
  rw [bitcast_getLsbD w bitcasts_S64x128_w32_S256x128_w8 (ix2 R l) q hq (by decide)]
  have hr : (S256x128 : Shape).row (ix2 R l) = R.val := rfl
  have e : (S256x128.row (ix2 R l) * 8 + q) % 32 = 8 * (R.val % 4) + q := by rw [hr]; omega
  rw [e]
  congr 2
  funext c
  match c with
  | ⟨0, _⟩ => exact Fin.ext ((Shape.Bitcasts.srcIdx_row _ _ _ _ ⟨0, Nat.zero_lt_two⟩ rfl).trans (by rw [hr]; show _ = R.val / 4; omega))
  | ⟨1, _⟩ => exact Fin.ext (Shape.Bitcasts.srcIdx_other _ _ _ _ ⟨1, Nat.one_lt_two⟩ (by show ¬ 1 + 2 = 2; omega))

/-- What a half byte is, bit by bit. -/
theorem nib_of_bits (b c : BitVec 8) (p : ℕ)
    (h : ∀ q, q < 8 → c.getLsbD q = (decide (q < 4) && b.getLsbD (if p % 2 = 0 then q + 4 else q))) : c.toNat = (nib b p).val := by
  unfold nib
  by_cases hp : p % 2 = 0
  · rw [if_pos hp]
    simp only [hp, if_true] at h
    have e : c = b >>> 4 := by
      apply BitVec.eq_of_getLsbD_eq
      intro q hq
      rw [h q hq, BitVec.getLsbD_ushiftRight, Nat.add_comm 4 q]
      by_cases h4 : q < 4
      · simp [h4]
      · simp [h4, BitVec.getLsbD_of_ge b (q + 4) (by omega)]
    rw [e, BitVec.toNat_ushiftRight, Nat.shiftRight_eq_div_pow]
  · rw [if_neg hp]
    simp only [hp, if_false] at h
    have e : c = b &&& 15#8 := by
      apply BitVec.eq_of_getLsbD_eq
      intro q hq
      rw [h q hq, BitVec.getLsbD_and]
      have : q < 8 := hq
      interval_cases q <;> simp
    rw [e, BitVec.toNat_and]
    exact Nat.and_two_pow_sub_one_eq_mod b.toNat 4

theorem shr_bit (x : BitVec 32) (p k q : ℕ) (hk : k < 4) (hq : q < 8) :
    (IntOp.andi (IntOp.shrsi .vector x (if p % 2 = 0 then 4#32 else 0#32)) 252645135#32).getLsbD (8 * k + q)
      = (decide (q < 4) && x.getLsbD (8 * k + (if p % 2 = 0 then q + 4 else q))) := by
  have hm : (252645135#32 : BitVec 32).getLsbD (8 * k + q) = decide (q < 4) := by
    interval_cases k <;> interval_cases q <;> rfl
  unfold IntOp.andi
  rw [BitVec.getLsbD_and, hm, Bool.and_comm]
  by_cases h4 : q < 4
  · have hs : (IntOp.shrsi .vector x (if p % 2 = 0 then 4#32 else 0#32)).getLsbD (8 * k + q) = x.getLsbD (8 * k + (if p % 2 = 0 then q + 4 else q)) := by
      by_cases hp : p % 2 = 0
      · rw [if_pos hp, if_pos hp]
        unfold IntOp.shrsi
        rw [if_pos (by decide), BitVec.sshiftRight', BitVec.getLsbD_sshiftRight]
        have e1 : decide (32 ≤ 8 * k + q) = false := by simp; omega
        have e2 : (4#32 : BitVec 32).toNat + (8 * k + q) < 32 := by show 4 + _ < 32; omega
        rw [e1, if_pos e2]
        show (!false && x.getLsbD (4 + (8 * k + q))) = _
        rw [show 4 + (8 * k + q) = 8 * k + (q + 4) by omega]; rfl
      · rw [if_neg hp, if_neg hp]
        unfold IntOp.shrsi
        rw [if_pos (by decide), BitVec.sshiftRight']
        show (x.sshiftRight 0).getLsbD _ = _
        rw [BitVec.sshiftRight_zero]
    rw [hs]
  · simp [h4]

set_option maxHeartbeats 2000000 in
theorem nibs_at (cd : IVec S256x128 8) (src : IVec S1x128 32) (R : Fin 256) (l s : Fin 128) (hs : src (ix2 (0 : Fin 1) l) = BitVec.ofNat 32 s.val) :
    (nibs cd src (ix2 R l)).toNat = (nib (cd (ix2 R s)) l.val).val := by
  apply nib_of_bits
  intro q hq
  unfold nibs
  rw [byte_bit _ R l q hq]
  have hw : ∀ a : Fin 64, (andi (shrsi (dynamicGather 1 (bitcast S64x128 32 cd bitcasts_S256x128_w8_S64x128_w32)
      (shapeCast S64x128 (shapeCast S64x128x1 (broadcastTo S64x128 (shapeCast S1x128 src shapeCasts_S1x128_S1x128) broadcasts_S1x128_S64x128)
        shapeCasts_S64x128_S64x128x1) shapeCasts_S64x128x1_S64x128))
      (broadcastTo S64x128 k0_pay5 broadcasts_S1x128_S64x128)) (broadcast S64x128 252645135#32)) (ix2 a l)
      = IntOp.andi (IntOp.shrsi .vector (bitcast S64x128 32 cd bitcasts_S256x128_w8_S64x128_w32 (ix2 a s)) (if l.val % 2 = 0 then 4#32 else 0#32)) 252645135#32 := by
    intro a
    rw [← shift_at l]
    generalize bitcast S64x128 32 cd bitcasts_S256x128_w8_S64x128_w32 = w
    generalize k0_pay5 = sh
    have e : (⟨(src (ix2 (0 : Fin 1) l)).toNat % 128, Nat.mod_lt _ (by decide)⟩ : Fin 128) = s := Fin.ext (by
      show (src (ix2 (0 : Fin 1) l)).toNat % 128 = s.val
      rw [hs, BitVec.toNat_ofNat]; have := s.isLt; omega)
    rw [← e]
    pointwise
  rw [hw, shr_bit _ _ _ _ (Nat.mod_lt _ (by decide)) hq]
  by_cases h4 : q < 4
  · rw [word_bit _ _ _ _ (by split <;> omega)]
    have e1 : 4 * (R.val / 4) + (8 * (R.val % 4) + (if l.val % 2 = 0 then q + 4 else q)) / 8 = R.val := by split <;> omega
    have e2 : (8 * (R.val % 4) + (if l.val % 2 = 0 then q + 4 else q)) % 8 = (if l.val % 2 = 0 then q + 4 else q) := by split <;> omega
    simp only [e1, e2]
  · simp [h4]

theorem val0_at (cd : Vec Ideal S256x128 .i8) (g : Fin 32) (r : Fin 8) (l : Fin 128) :
    val0 cd (ix3 g r l) = level (nib (cd (ix2 ⟨g.val * 8 + r.val, by omega⟩ ⟨l.val / 2, by omega⟩)) l.val) := by
  rw [val0_eq]
  exact pick_at _ g r l _ (nibs_at cd src0 _ l ⟨l.val / 2, by omega⟩ (src0_at l))

theorem val1_at (cd : Vec Ideal S256x128 .i8) (g : Fin 32) (r : Fin 8) (l : Fin 128) :
    val1 cd (ix3 g r l) = level (nib (cd (ix2 ⟨g.val * 8 + r.val, by omega⟩ ⟨l.val / 2 + 64, by omega⟩)) l.val) := by
  rw [val1_eq]
  exact pick_at _ g r l _ (nibs_at cd src1 _ l ⟨l.val / 2 + 64, by omega⟩ (src1_at l))

end Cert.KernelIdeal.Dh

end
-- ==== Proof.Dh.Decode.lean ====
/-
  The decoded tile at an index: a table value times a block maximum.
-/
module

public import proofs.«01_k».proof.Proof.Dh.Nibble

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block numbers of the lanes, within half a tile. -/
def blk0 : IVec S1x128 32 :=
  select (andi (cmpi .ne (subi (k0_pay13 lane1) (extui 32 (k0_pay14 lane1) natLt_1_32))
      (broadcast S1x128 (Scalar.subi (Scalar.extui (Scalar.cmpi .sgt 64#32 0#32)) (Scalar.extui (Scalar.cmpi .slt 64#32 0#32)))))
      (cmpi .ne (remsi lane1 (broadcast S1x128 64#32)) (broadcast S1x128 0#32)))
    (subi (k0_pay12 lane1) (broadcast S1x128 1#32)) (k0_pay12 lane1)
/-- The same, for the other half. -/
def blk1 : IVec S1x128 32 :=
  select (andi (k0_pay21 lane1) (cmpi .ne (k0_pay22 lane1) k0_pay23)) (subi (k0_pay20 lane1) (broadcast S1x128 1#32)) (k0_pay20 lane1)

theorem blk0_at (l : Fin 128) : blk0 (ix2 (0 : Fin 1) l) = BitVec.ofNat 32 (l.val / 64) := by
  revert l; unfold blk0 k0_pay12 k0_pay13 k0_pay14 lane1; decide +kernel
theorem blk1_at (l : Fin 128) : blk1 (ix2 (0 : Fin 1) l) = BitVec.ofNat 32 (l.val / 64) := by
  revert l; unfold blk1 k0_pay20 k0_pay21 k0_pay22 k0_pay23 lane1; decide +kernel

/-- Values scaled by the block maxima of the lanes. -/
def scaled (am : Vec Ideal S256x128 .f32) (v : FVec Ideal S32x8x128 .f32) (first : BitVec 32) (blk : IVec S1x128 32) : FVec Ideal S256x128 .bf16 :=
  truncf .bf16 (mulf (shapeCast S256x128 v shapeCasts_S32x8x128_S256x128)
    (dynamicGather 1 am (shapeCast S256x128 (shapeCast S256x128x1 (broadcastTo S256x128
      (shapeCast S1x128 (addi (broadcast S1x128 first) blk) shapeCasts_S1x128_S1x128) broadcasts_S1x128_S256x128)
      shapeCasts_S256x128_S256x128x1) shapeCasts_S256x128x1_S256x128))) bitsLt_bf16_f32

theorem sc0_eq (t : BitVec 32) (cd : Vec Ideal S256x128 .i8) (am : Vec Ideal S256x128 .f32) :
    sc0 t cd am = scaled am (val0 cd) (Scalar.addi (Scalar.muli 4#32 t) 0#32) blk0 := rfl

theorem decBlk_eq (t : BitVec 32) (cd : Vec Ideal S256x128 .i8) (am : Vec Ideal S256x128 .f32) :
    decBlk t cd am = (interleaveRows S128x2x256
      (shapeCast S128x1x256 (rowsOfParity 0 S128x256 (concatenate S256x256 1 [⟨S256x128, sc0 t cd am⟩,
        ⟨S256x128, scaled am (val1 cd) (Scalar.addi (Scalar.muli 4#32 t) 2#32) blk1⟩] concatenates_S256x128_S256x128_S256x256_d1)
        bitcasts_S256x256_w16_S128x256_w32) shapeCasts_S128x256_S128x1x256)
      (shapeCast S128x1x256 (rowsOfParity 1 S128x256 (concatenate S256x256 1 [⟨S256x128, sc0 t cd am⟩,
        ⟨S256x128, scaled am (val1 cd) (Scalar.addi (Scalar.muli 4#32 t) 2#32) blk1⟩] concatenates_S256x128_S256x128_S256x256_d1)
        bitcasts_S256x256_w16_S128x256_w32) shapeCasts_S128x256_S128x1x256) bitcasts_S128x2x256_w16_S128x1x256_w32 : S128x2x256.Idx → EReal) := rfl

set_option maxHeartbeats 2000000 in
theorem scaled_at (am : Vec Ideal S256x128 .f32) (v : FVec Ideal S32x8x128 .f32) (first : BitVec 32) (blk : IVec S1x128 32) (R : Fin 256)
    (l k : Fin 128) (hk : (first + blk (ix2 (0 : Fin 1) l)).toNat % 128 = k.val) :
    scaled am v first blk (ix2 R l) = v (ix3 (⟨R.val / 8, by omega⟩ : Fin 32) (⟨R.val % 8, by omega⟩ : Fin 8) l) * am (ix2 R k) := by
  have e : (⟨(IntOp.addi first (blk (ix2 (0 : Fin 1) l))).toNat % 128, Nat.mod_lt _ (by decide)⟩ : Fin 128) = k := Fin.ext hk
  rw [← e]
  pointwise [scaled]

theorem first_word (t : Fin 32) (o : Fin 3) (k : Fin 2) :
    ((Scalar.addi (Scalar.muli 4#32 (BitVec.ofNat 32 t.val)) (BitVec.ofNat 32 o.val) : BitVec 32) + BitVec.ofNat 32 k.val).toNat % 128 = 4 * t.val + o.val + k.val := by
  revert t o k; decide +kernel

theorem split8 (R : Fin 256) : (⟨(⟨R.val / 8, by omega⟩ : Fin 32).val * 8 + (⟨R.val % 8, by omega⟩ : Fin 8).val, by have := R.isLt; omega⟩ : Fin 256) = R :=
  Fin.ext (by show R.val / 8 * 8 + R.val % 8 = R.val; omega)

/-- The two halves side by side, at row `R` and column `b` of the tile. -/
theorem halves_at (t : Fin 32) (cd : Vec Ideal S256x128 .i8) (am : Vec Ideal S256x128 .f32) (R : Fin 256) (b : Fin 256) :
    (if h : b.val < 128 then sc0 (BitVec.ofNat 32 t.val) cd am (ix2 R ⟨b.val, h⟩)
      else scaled am (val1 cd) (Scalar.addi (Scalar.muli 4#32 (BitVec.ofNat 32 t.val)) 2#32) blk1 (ix2 R ⟨b.val - 128, by omega⟩))
      = level (nib (cd (ix2 R ⟨b.val / 2, by omega⟩)) b.val) * am (ix2 R ⟨4 * t.val + b.val / 64, by omega⟩) := by
  by_cases h : b.val < 128
  · rw [dif_pos h, sc0_eq]
    rw [scaled_at am (val0 cd) _ blk0 R ⟨b.val, h⟩ ⟨4 * t.val + b.val / 64, by omega⟩ (by
      rw [blk0_at]; exact (first_word t 0 ⟨b.val / 64, by omega⟩).trans (by show 4 * t.val + 0 + b.val / 64 = 4 * t.val + b.val / 64; omega))]
    rw [val0_at, split8]
  · rw [dif_neg h]
    rw [scaled_at am (val1 cd) _ blk1 R ⟨b.val - 128, by omega⟩ ⟨4 * t.val + b.val / 64, by omega⟩ (by
      rw [blk1_at]; exact (first_word t 2 ⟨(b.val - 128) / 64, by omega⟩).trans (by show 4 * t.val + 2 + (b.val - 128) / 64 = 4 * t.val + b.val / 64; omega))]
    rw [val1_at, split8]
    have e : (⟨(⟨b.val - 128, by omega⟩ : Fin 128).val / 2 + 64, by show (b.val - 128) / 2 + 64 < 128; omega⟩ : Fin 128) = ⟨b.val / 2, by omega⟩ :=
      Fin.ext (by show (b.val - 128) / 2 + 64 = b.val / 2; omega)
    have e2 : nib (cd (ix2 R ⟨b.val / 2, by omega⟩)) (⟨b.val - 128, by omega⟩ : Fin 128).val = nib (cd (ix2 R ⟨b.val / 2, by omega⟩)) b.val := by
      unfold nib
      show (if (b.val - 128) % 2 = 0 then _ else _) = _
      rw [show (b.val - 128) % 2 = b.val % 2 by omega]
    rw [e, e2]

set_option maxHeartbeats 2000000 in
theorem decBlk_at (t : Fin 32) (cd : Vec Ideal S256x128 .i8) (am : Vec Ideal S256x128 .f32) (r : Fin 128) (a : Fin 2) (b : Fin 256) :
    decBlk (BitVec.ofNat 32 t.val) cd am (ix3 r a b)
      = level (nib (cd (ix2 (⟨2 * r.val + a.val, by omega⟩ : Fin 256) (⟨b.val / 2, by omega⟩ : Fin 128))) b.val)
        * am (ix2 (⟨2 * r.val + a.val, by omega⟩ : Fin 256) (⟨4 * t.val + b.val / 64, by omega⟩ : Fin 128)) := by
  rw [← halves_at t cd am ⟨2 * r.val + a.val, by omega⟩ b, decBlk_eq]
  generalize sc0 (BitVec.ofNat 32 t.val) cd am = x
  generalize scaled am (val1 cd) (Scalar.addi (Scalar.muli 4#32 (BitVec.ofNat 32 t.val)) 2#32) blk1 = y
  fin_cases a
  · pointwise

  · pointwise

end Cert.KernelIdeal.Dh

end
-- ==== Proof.Dh.Sums.lean ====
/-
  One column tile of the gradient at an index: three sums of products.
-/
module

public import proofs.«01_k».proof.Proof.Dh.Decode

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A weight at row `f` and column `b` of tile `t`. -/
def wAt (t : Fin 32) (cd : S3584x128.Idx → BitVec 8) (am : S3584x128.Idx → EReal) (f : Fin 3584) (b : Fin 256) : EReal :=
  level (nib (cd (ix2 f (⟨b.val / 2, by omega⟩ : Fin 128))) b.val) * am (ix2 f (⟨4 * t.val + b.val / 64, by omega⟩ : Fin 128))

/-- The lower or the upper half of a word as a number. -/
def half (w : BitVec 32) (p : ℕ) : EReal := Ideal.ofBits .bf16 (w.extractLsb' (p % 2 * 16) 16)

theorem wHalf_at (t : Fin 32) (cd : Vec Ideal S3584x128 .i8) (am : Vec Ideal S3584x128 .f32) (n : ℕ) (hn : n < 1792) (a : Fin 2) (b : Fin 256) :
    wHalf (BitVec.ofNat 32 t.val) cd am n a b = wAt t cd am ⟨2 * n + a.val, by omega⟩ b := by
  unfold wHalf
  refine (decBlk_at t (rowBlk cd (n / 128)) (rowBlk am (n / 128)) ⟨n % 128, Nat.mod_lt _ (by decide)⟩ a b).trans ?_
  have e : (⟨(256 * (n / 128) + (2 * (n % 128) + a.val)) % 3584, Nat.mod_lt _ (by decide)⟩ : Fin 3584) = ⟨2 * n + a.val, by omega⟩ :=
    Fin.ext (by show (256 * (n / 128) + (2 * (n % 128) + a.val)) % 3584 = 2 * n + a.val; omega)
  unfold wAt
  rw [← e]
  rfl

theorem wTile_gate (t : Fin 32) (cg cu : Vec Ideal S3584x128 .i8) (ag au : Vec Ideal S3584x128 .f32) (n : Fin 3584) (h : n.val < 1792) (a : Fin 2)
    (b : Fin 256) : wTile (BitVec.ofNat 32 t.val) cg cu ag au (ix3 n a b) = wAt t cg ag ⟨2 * n.val + a.val, by omega⟩ b := by
  refine (if_pos h).trans ?_
  exact wHalf_at t cg ag n.val h a b

theorem wTile_up (t : Fin 32) (cg cu : Vec Ideal S3584x128 .i8) (ag au : Vec Ideal S3584x128 .f32) (n : Fin 3584) (h : ¬n.val < 1792) (a : Fin 2)
    (b : Fin 256) : wTile (BitVec.ofNat 32 t.val) cg cu ag au (ix3 n a b) = wAt t cu au ⟨2 * (n.val - 1792) + a.val, by omega⟩ b := by
  refine (if_neg h).trans ?_
  exact wHalf_at t cu au (n.val - 1792) (by omega) a b

theorem interleave_at (v : Vec Ideal S128x2x256 .bf16) (k b : Fin 256) :
    interleaveRows S256x256 (shapeCast S128x256 (rowsOfParity 0 S128x1x256 v bitcasts_S128x2x256_w16_S128x1x256_w32) shapeCasts_S128x1x256_S128x256)
      (shapeCast S128x256 (rowsOfParity 1 S128x1x256 v bitcasts_S128x2x256_w16_S128x1x256_w32) shapeCasts_S128x1x256_S128x256) bitcasts_S256x256_w16_S128x256_w32 (ix2 k b)
      = v (ix3 (⟨k.val / 2, by omega⟩ : Fin 128) (⟨k.val % 2, Nat.mod_lt _ (by decide)⟩ : Fin 2) b) := by
  have h2 : k.val % 2 = 0 ∨ k.val % 2 = 1 := by omega
  rcases h2 with h | h
  · simp only [h]
    pointwise
    simp only [h, ↓reduceIte]
  · simp only [h]
    pointwise
    simp only [h, one_ne_zero, ↓reduceIte]

theorem wRows_at (w : Vec Ideal S3584x2x256 .bf16) (q : Fin 28) (k b : Fin 256) :
    wRows w q (ix2 k b) = w (ix3 (⟨128 * q.val + k.val / 2, by omega⟩ : Fin 3584) (⟨k.val % 2, Nat.mod_lt _ (by decide)⟩ : Fin 2) b) := by
  refine (interleave_at _ k b).trans ?_
  unfold VecWindow.window
  congr 1
  funext d
  match d with
  | ⟨0, _⟩ => exact Fin.ext (by show 128 * q.val + 1 * (k.val / 2) = 128 * q.val + k.val / 2; omega)
  | ⟨1, _⟩ => exact Fin.ext (by show 0 + 1 * (k.val % 2) = k.val % 2; omega)
  | ⟨2, _⟩ => exact Fin.ext (by show 0 + 1 * b.val = b.val; omega)

theorem xRows_at (x : Vec Ideal S1024x3584 .i32) (b : Fin 2) (q : Fin 14) (r : Fin 1024) (k : Fin 256) :
    xRows x b q (ix2 r k) = half (x (ix2 (⟨512 * b.val + r.val / 2, by omega⟩ : Fin 1024) (⟨256 * q.val + k.val, by omega⟩ : Fin 3584))) r.val := by
  unfold xRows half
  show Ideal.ofBits .bf16 (bitcast S1024x256 16 _ bitcasts_S512x256_w32_S1024x256_w16 (ix2 r k)) = _
  rw [bitcast_32_16]
  have hr : (S1024x256 : Shape).row (ix2 r k) = r.val := rfl
  have e : 16 * (S1024x256.row (ix2 r k) % 2) = r.val % 2 * 16 := by rw [hr]; omega
  rw [e]
  congr 2
  unfold VecWindow.window
  congr 1
  funext c
  match c with
  | ⟨0, _⟩ => exact Fin.ext (by
      show 512 * b.val + 1 * (Shape.Bitcasts.srcIdx bitcasts_S512x256_w32_S1024x256_w16 (ix2 r k) _ _ ⟨0, Nat.zero_lt_two⟩).val = 512 * b.val + r.val / 2
      rw [Shape.Bitcasts.srcIdx_row bitcasts_S512x256_w32_S1024x256_w16 (ix2 r k) _ _ ⟨0, Nat.zero_lt_two⟩ rfl, hr]; omega)
  | ⟨1, _⟩ => exact Fin.ext (by
      show 256 * q.val + 1 * (Shape.Bitcasts.srcIdx bitcasts_S512x256_w32_S1024x256_w16 (ix2 r k) _ _ ⟨1, Nat.one_lt_two⟩).val = 256 * q.val + k.val
      rw [Shape.Bitcasts.srcIdx_other bitcasts_S512x256_w32_S1024x256_w16 (ix2 r k) _ _ ⟨1, Nat.one_lt_two⟩ (by show ¬ 1 + 2 = 2; omega)]
      show 256 * q.val + 1 * k.val = 256 * q.val + k.val
      omega)

theorem dotK_at (dg du : Vec Ideal S1024x3584 .i32) (w : Vec Ideal S3584x2x256 .bf16) (b : Fin 2) (q : Fin 28) (r : Fin 1024) (n : Fin 256) :
    dotK dg du w b q (ix2 r n) = ∑ k : Fin 256, (if h : q.val < 14 then xRows dg b ⟨q.val, h⟩ else xRows du b ⟨q.val - 14, by omega⟩) (ix2 r k)
      * wRows w q (ix2 k n) := by
  unfold dotK
  generalize (if h : q.val < 14 then xRows dg b ⟨q.val, h⟩ else xRows du b ⟨q.val - 14, by omega⟩) = x
  generalize wRows w q = y
  pointwise

theorem adapter_at (x : FVec Ideal S1024x128 .bf16) (y : FVec Ideal S128x256 .bf16) (r : Fin 1024) (n : Fin 256) :
    matmul dot_S1024x128_S128x256_S1024x256_1_0_0_1_n_n none x (shapeCast S128x256 y shapeCasts_S128x256_S128x256) (constant S1024x256 .f32 0x00000000#32) (ix2 r n)
      = ∑ k : Fin 128, x (ix2 r k) * y (ix2 k n) := by
  pointwise

theorem dotA_at (dz : Vec Ideal S2048x128 .bf16) (ap : Vec Ideal S128x256 .bf16) (b : Fin 2) (r : Fin 1024) (n : Fin 256) :
    dotA dz ap b (ix2 r n) = ∑ k : Fin 128, dz (ix2 (⟨1024 * b.val + r.val, by omega⟩ : Fin 2048) k) * ap (ix2 k n) := by
  refine (adapter_at _ _ r n).trans ?_
  refine Finset.sum_congr rfl fun k _ => ?_
  unfold VecWindow.window
  congr 1
  · congr 1
    funext d
    match d with
    | ⟨0, _⟩ => exact Fin.ext (by show 1024 * b.val + 1 * r.val = 1024 * b.val + r.val; omega)
    | ⟨1, _⟩ => exact Fin.ext (by show 0 + 1 * k.val = k.val; omega)
  · congr 1
    funext d
    match d with
    | ⟨0, _⟩ => exact Fin.ext (by show 0 + 1 * k.val = k.val; omega)
    | ⟨1, _⟩ => exact Fin.ext (by show 0 + 1 * n.val = n.val; omega)

/-- The running sum is the adapter product and a sum over the tiles before. -/
theorem chain_sum (dg du : Vec Ideal S1024x3584 .i32) (dz : Vec Ideal S2048x128 .bf16) (ap : Vec Ideal S128x256 .bf16) (w : Vec Ideal S3584x2x256 .bf16) (b : Fin 2)
    (j : S1024x256.Idx) (n : ℕ) : chain dg du dz ap w b n j
      = dotA dz ap b j + ∑ q ∈ Finset.range n, dotK dg du w b ⟨q % 28, Nat.mod_lt _ (by decide)⟩ j := by
  induction n with
  | zero => rw [Finset.sum_range_zero, add_zero]; rfl
  | succ n ih => rw [Finset.sum_range_succ, ← add_assoc, ← ih]; rfl

theorem chain_at (dg du : Vec Ideal S1024x3584 .i32) (dz : Vec Ideal S2048x128 .bf16) (ap : Vec Ideal S128x256 .bf16) (t : Fin 32)
    (cg cu : Vec Ideal S3584x128 .i8) (ag au : Vec Ideal S3584x128 .f32) (b : Fin 2) (r : Fin 1024) (n : Fin 256) :
    chain dg du dz ap (wTile (BitVec.ofNat 32 t.val) cg cu ag au) b 28 (ix2 r n)
      = (∑ k : Fin 128, dz (ix2 (⟨1024 * b.val + r.val, by omega⟩ : Fin 2048) k) * ap (ix2 k n))
        + ((∑ f : Fin 3584, half (dg (ix2 (⟨512 * b.val + r.val / 2, by omega⟩ : Fin 1024) f)) r.val * wAt t cg ag f n)
          + (∑ f : Fin 3584, half (du (ix2 (⟨512 * b.val + r.val / 2, by omega⟩ : Fin 1024) f)) r.val * wAt t cu au f n)) := by
  have hg : ∀ q : Fin 14, dotK dg du (wTile (BitVec.ofNat 32 t.val) cg cu ag au) b ⟨q.val, by omega⟩ (ix2 r n)
      = ∑ k : Fin 256, half (dg (ix2 (⟨512 * b.val + r.val / 2, by omega⟩ : Fin 1024) (⟨q.val * 256 + k.val, by omega⟩ : Fin 3584))) r.val
        * wAt t cg ag ⟨q.val * 256 + k.val, by omega⟩ n := by
    intro q
    rw [dotK_at]
    refine Finset.sum_congr rfl fun k _ => ?_
    rw [dif_pos (show q.val < 14 from q.isLt), xRows_at, wRows_at, wTile_gate _ _ _ _ _ _ (by show 128 * q.val + k.val / 2 < 1792; omega)]
    have e1 : (⟨256 * q.val + k.val, by omega⟩ : Fin 3584) = ⟨q.val * 256 + k.val, by omega⟩ := Fin.ext (by show 256 * q.val + k.val = q.val * 256 + k.val; omega)
    have e2 : (⟨2 * (128 * q.val + k.val / 2) + k.val % 2, by omega⟩ : Fin 3584) = ⟨q.val * 256 + k.val, by omega⟩ :=
      Fin.ext (by show 2 * (128 * q.val + k.val / 2) + k.val % 2 = q.val * 256 + k.val; omega)
    exact congrArg₂ (fun u v => half (dg (ix2 (⟨512 * b.val + r.val / 2, by omega⟩ : Fin 1024) u)) r.val * wAt t cg ag v n) e1 e2
  have hu : ∀ q : Fin 14, dotK dg du (wTile (BitVec.ofNat 32 t.val) cg cu ag au) b ⟨14 + q.val, by omega⟩ (ix2 r n)
      = ∑ k : Fin 256, half (du (ix2 (⟨512 * b.val + r.val / 2, by omega⟩ : Fin 1024) (⟨q.val * 256 + k.val, by omega⟩ : Fin 3584))) r.val
        * wAt t cu au ⟨q.val * 256 + k.val, by omega⟩ n := by
    intro q
    rw [dotK_at]
    refine Finset.sum_congr rfl fun k _ => ?_
    rw [dif_neg (show ¬(14 + q.val < 14) by omega), xRows_at, wRows_at, wTile_up _ _ _ _ _ _ (by show ¬128 * (14 + q.val) + k.val / 2 < 1792; omega)]
    have e1 : (⟨256 * (14 + q.val - 14) + k.val, by omega⟩ : Fin 3584) = ⟨q.val * 256 + k.val, by omega⟩ :=
      Fin.ext (by show 256 * (14 + q.val - 14) + k.val = q.val * 256 + k.val; omega)
    have e2 : (⟨2 * (128 * (14 + q.val) + k.val / 2 - 1792) + k.val % 2, by omega⟩ : Fin 3584) = ⟨q.val * 256 + k.val, by omega⟩ :=
      Fin.ext (by show 2 * (128 * (14 + q.val) + k.val / 2 - 1792) + k.val % 2 = q.val * 256 + k.val; omega)
    exact congrArg₂ (fun u v => half (du (ix2 (⟨512 * b.val + r.val / 2, by omega⟩ : Fin 1024) u)) r.val * wAt t cu au v n) e1 e2
  rw [chain_sum, dotA_at]
  congr 1
  rw [← Fin.sum_univ_eq_sum_range (fun q => dotK dg du (wTile (BitVec.ofNat 32 t.val) cg cu ag au) b ⟨q % 28, Nat.mod_lt _ (by decide)⟩ (ix2 r n)) 28,
    Fin.sum_univ_tiles 14 256 rfl (fun f : Fin 3584 => half (dg (ix2 (⟨512 * b.val + r.val / 2, by omega⟩ : Fin 1024) f)) r.val * wAt t cg ag f n),
    Fin.sum_univ_tiles 14 256 rfl (fun f : Fin 3584 => half (du (ix2 (⟨512 * b.val + r.val / 2, by omega⟩ : Fin 1024) f)) r.val * wAt t cu au f n),
    Fin.sum_univ_two_halves 14 14 rfl]
  congr 1
  · refine Finset.sum_congr rfl fun q _ => ?_
    rw [← hg q]
    exact congrArg (fun u => dotK dg du (wTile (BitVec.ofNat 32 t.val) cg cu ag au) b u (ix2 r n)) (Fin.ext (Nat.mod_eq_of_lt (by show q.val < 28; omega)))
  · refine Finset.sum_congr rfl fun q _ => ?_
    rw [← hu q]
    exact congrArg (fun u => dotK dg du (wTile (BitVec.ofNat 32 t.val) cg cu ag au) b u (ix2 r n)) (Fin.ext (Nat.mod_eq_of_lt (by show 14 + q.val < 28; omega)))

/-- One column tile of the gradient, at row `s` and column `n`. -/
theorem dhTile_at (dg du : Vec Ideal S1024x3584 .i32) (dz : Vec Ideal S2048x128 .bf16) (ap : Vec Ideal S128x256 .bf16) (t : Fin 32)
    (cg cu : Vec Ideal S3584x128 .i8) (ag au : Vec Ideal S3584x128 .f32) (s : Fin 2048) (n : Fin 256) :
    dhTile dg du dz ap (wTile (BitVec.ofNat 32 t.val) cg cu ag au) (ix2 s n)
      = (∑ k : Fin 128, dz (ix2 s k) * ap (ix2 k n))
        + ((∑ f : Fin 3584, half (dg (ix2 (⟨s.val / 2, by omega⟩ : Fin 1024) f)) s.val * wAt t cg ag f n)
          + (∑ f : Fin 3584, half (du (ix2 (⟨s.val / 2, by omega⟩ : Fin 1024) f)) s.val * wAt t cu au f n)) := by
  by_cases h : s.val < 1024
  · refine (dif_pos h).trans ?_
    refine (chain_at dg du dz ap t cg cu ag au 0 ⟨s.val, h⟩ n).trans ?_
    have e1 : (⟨1024 * (0 : Fin 2).val + s.val, by show 1024 * 0 + s.val < 2048; omega⟩ : Fin 2048) = s := Fin.ext (by show 1024 * 0 + s.val = s.val; omega)
    have e2 : (⟨512 * (0 : Fin 2).val + s.val / 2, by show 512 * 0 + s.val / 2 < 1024; omega⟩ : Fin 1024) = ⟨s.val / 2, by omega⟩ :=
      Fin.ext (by show 512 * 0 + s.val / 2 = s.val / 2; omega)
    simp only [e1, e2]
  · refine (dif_neg h).trans ?_
    refine (chain_at dg du dz ap t cg cu ag au 1 ⟨s.val - 1024, by omega⟩ n).trans ?_
    have e1 : (⟨1024 * (1 : Fin 2).val + (s.val - 1024), by show 1024 * 1 + (s.val - 1024) < 2048; omega⟩ : Fin 2048) = s :=
      Fin.ext (by show 1024 * 1 + (s.val - 1024) = s.val; omega)
    have e2 : (⟨512 * (1 : Fin 2).val + (s.val - 1024) / 2, by show 512 * 1 + (s.val - 1024) / 2 < 1024; omega⟩ : Fin 1024) = ⟨s.val / 2, by omega⟩ :=
      Fin.ext (by show 512 * 1 + (s.val - 1024) / 2 = s.val / 2; omega)
    have e3 : ∀ w, half w (s.val - 1024) = half w s.val := fun w => by unfold half; rw [show (s.val - 1024) % 2 = s.val % 2 by omega]
    simp only [e1, e2, e3]

end Cert.KernelIdeal.Dh

end
-- ==== Proof.Dh.Arrays.lean ====
/-
  The blocks the grid reads and the two arrays it leaves, at an index; the run of the whole program.
-/
module

public import proofs.«01_k».proof.Proof.Dh.Launch
public import proofs.«01_k».proof.Proof.Dh.Sums
public import Idealize.ShloMosaic.Lib.Pipeline.ValueKit
public import Idealize.ShloMosaic.Lib.Quiescent

@[expose] public section

set_option maxRecDepth 16384

noncomputable section

namespace Cert.KernelIdeal.Dh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The point with number `n`. -/
def pt (n : Fin 32) : Fin cfg0.N := ⟨n.val, by rw [show cfg0.N = 32 from N_0]; exact n.isLt⟩

theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, t.val] := (by decide +kernel : ∀ t : Fin grid0.N, win0_2.index t = ![0, t.val])
theorem index_3 : ∀ t : Fin cfg0.N, win0_3.index t = ![0, t.val] := (by decide +kernel : ∀ t : Fin grid0.N, win0_3.index t = ![0, t.val])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, t.val] := (by decide +kernel : ∀ t : Fin grid0.N, win0_7.index t = ![0, t.val])
theorem index_8 : ∀ t : Fin cfg0.N, win0_8.index t = ![0, t.val] := (by decide +kernel : ∀ t : Fin grid0.N, win0_8.index t = ![0, t.val])
theorem index_9 : ∀ t : Fin cfg0.N, win0_9.index t = ![0, t.val] := (by decide +kernel : ∀ t : Fin grid0.N, win0_9.index t = ![0, t.val])
theorem index_10 : ∀ t : Fin cfg0.N, win0_10.index t = ![0, 0] := (by decide +kernel : ∀ t : Fin grid0.N, win0_10.index t = ![0, 0])
theorem index_11 : ∀ t : Fin cfg0.N, win0_11.index t = ![0, t.val] := (by decide +kernel : ∀ t : Fin grid0.N, win0_11.index t = ![0, t.val])
theorem index_12 : ∀ t : Fin cfg0.N, win0_12.index t = ![0, 0] := (by decide +kernel : ∀ t : Fin grid0.N, win0_12.index t = ![0, 0])

theorem iblk_0 (c : Dev nD) (t : Fin cfg0.N) : (iblk m c 0 t : Vec F S1024x3584 .i32) = V m c main_arg0 := by
  funext j
  show V m c main_arg0 (((cfg0.win 0).blk t).view.emb j) = V m c main_arg0 j
  congr 1
  blk_ext [index_0 t]

theorem iblk_1 (c : Dev nD) (t : Fin cfg0.N) : (iblk m c 1 t : Vec F S1024x3584 .i32) = V m c main_arg1 := by
  funext j
  show V m c main_arg1 (((cfg0.win 1).blk t).view.emb j) = V m c main_arg1 j
  congr 1
  blk_ext [index_1 t]

theorem iblk_4 (c : Dev nD) (t : Fin cfg0.N) : (iblk m c 4 t : Vec F S3584x128 .f32) = V m c main_arg4 := by
  funext j
  show V m c main_arg4 (((cfg0.win 4).blk t).view.emb j) = V m c main_arg4 j
  congr 1
  blk_ext [index_4 t]

theorem iblk_5 (c : Dev nD) (t : Fin cfg0.N) : (iblk m c 5 t : Vec F S3584x128 .f32) = V m c main_arg5 := by
  funext j
  show V m c main_arg5 (((cfg0.win 5).blk t).view.emb j) = V m c main_arg5 j
  congr 1
  blk_ext [index_5 t]

theorem iblk_6 (c : Dev nD) (t : Fin cfg0.N) : (iblk m c 6 t : Vec F S2048x128 .bf16) = V m c main_arg6 := by
  funext j
  show V m c main_arg6 (((cfg0.win 6).blk t).view.emb j) = V m c main_arg6 j
  congr 1
  blk_ext [index_6 t]

theorem iblk_10 (c : Dev nD) (t : Fin cfg0.N) : (iblk m c 10 t : Vec F S2048x128 .f32) = V m c main_v1 := by
  funext j
  show V m c main_v1 (((cfg0.win 10).blk t).view.emb j) = V m c main_v1 j
  congr 1
  blk_ext [index_10 t]

theorem iblk_2 (c : Dev nD) (t : Fin 32) (x : Fin 3584) (y : Fin 128) : (iblk m c 2 (pt t) : Vec F S3584x128 .i8) (ix2 x y)
    = (V m c main_arg2 : Vec F S3584x4096 .i8) (ix2 x (⟨128 * t.val + y.val, by omega⟩ : Fin 4096)) := by
  show V m c main_arg2 (((cfg0.win 2).blk (pt t)).view.emb (ix2 x y)) = _
  congr 1
  funext a
  match a with
  | ⟨0, _⟩ => exact Fin.ext (by show win0_2.index (pt t) 0 * 3584 + 1 * x.val = x.val; rw [index_2]; show 0 * 3584 + 1 * x.val = x.val; omega)
  | ⟨1, _⟩ => exact Fin.ext (by show win0_2.index (pt t) 1 * 128 + 1 * y.val = 128 * t.val + y.val; rw [index_2]; show t.val * 128 + 1 * y.val = 128 * t.val + y.val; omega)

theorem iblk_3 (c : Dev nD) (t : Fin 32) (x : Fin 3584) (y : Fin 128) : (iblk m c 3 (pt t) : Vec F S3584x128 .i8) (ix2 x y)
    = (V m c main_arg3 : Vec F S3584x4096 .i8) (ix2 x (⟨128 * t.val + y.val, by omega⟩ : Fin 4096)) := by
  show V m c main_arg3 (((cfg0.win 3).blk (pt t)).view.emb (ix2 x y)) = _
  congr 1
  funext a
  match a with
  | ⟨0, _⟩ => exact Fin.ext (by show win0_3.index (pt t) 0 * 3584 + 1 * x.val = x.val; rw [index_3]; show 0 * 3584 + 1 * x.val = x.val; omega)
  | ⟨1, _⟩ => exact Fin.ext (by show win0_3.index (pt t) 1 * 128 + 1 * y.val = 128 * t.val + y.val; rw [index_3]; show t.val * 128 + 1 * y.val = 128 * t.val + y.val; omega)

theorem iblk_7 (c : Dev nD) (t : Fin 32) (x : Fin 128) (y : Fin 256) : (iblk m c 7 (pt t) : Vec F S128x256 .bf16) (ix2 x y)
    = (V m c main_v0 : Vec F S128x8192 .bf16) (ix2 x (⟨256 * t.val + y.val, by omega⟩ : Fin 8192)) := by
  show V m c main_v0 (((cfg0.win 7).blk (pt t)).view.emb (ix2 x y)) = _
  congr 1
  funext a
  match a with
  | ⟨0, _⟩ => exact Fin.ext (by show win0_7.index (pt t) 0 * 128 + 1 * x.val = x.val; rw [index_7]; show 0 * 128 + 1 * x.val = x.val; omega)
  | ⟨1, _⟩ => exact Fin.ext (by show win0_7.index (pt t) 1 * 256 + 1 * y.val = 256 * t.val + y.val; rw [index_7]; show t.val * 256 + 1 * y.val = 256 * t.val + y.val; omega)

theorem iblk_8 (c : Dev nD) (t : Fin 32) (x : Fin 2048) (y : Fin 256) : (iblk m c 8 (pt t) : Vec F S2048x256 .bf16) (ix2 x y)
    = (V m c main_arg9 : Vec F S2048x8192 .bf16) (ix2 x (⟨256 * t.val + y.val, by omega⟩ : Fin 8192)) := by
  show V m c main_arg9 (((cfg0.win 8).blk (pt t)).view.emb (ix2 x y)) = _
  congr 1
  funext a
  match a with
  | ⟨0, _⟩ => exact Fin.ext (by show win0_8.index (pt t) 0 * 2048 + 1 * x.val = x.val; rw [index_8]; show 0 * 2048 + 1 * x.val = x.val; omega)
  | ⟨1, _⟩ => exact Fin.ext (by show win0_8.index (pt t) 1 * 256 + 1 * y.val = 256 * t.val + y.val; rw [index_8]; show t.val * 256 + 1 * y.val = 256 * t.val + y.val; omega)

theorem iblk_9 (c : Dev nD) (t : Fin 32) (x : Fin 1) (y : Fin 256) : (iblk m c 9 (pt t) : Vec F S1x256 .f32) (ix2 x y)
    = (V m c main_arg10 : Vec F S1x8192 .f32) (ix2 x (⟨256 * t.val + y.val, by omega⟩ : Fin 8192)) := by
  show V m c main_arg10 (((cfg0.win 9).blk (pt t)).view.emb (ix2 x y)) = _
  congr 1
  funext a
  match a with
  | ⟨0, _⟩ => exact Fin.ext (by show win0_9.index (pt t) 0 * 1 + 1 * x.val = x.val; rw [index_9]; show 0 * 1 + 1 * x.val = x.val; omega)
  | ⟨1, _⟩ => exact Fin.ext (by show win0_9.index (pt t) 1 * 256 + 1 * y.val = 256 * t.val + y.val; rw [index_9]; show t.val * 256 + 1 * y.val = 256 * t.val + y.val; omega)

/-- The adapter factors are stacked before the grid starts. -/
theorem V_pair (c : Dev nD) : (V m c main_v0 : Vec F S128x8192 .bf16)
    = concatenate S128x8192 0 [⟨S64x8192, m ((c : Thread nD τ).loc main_arg7)⟩, ⟨S64x8192, m ((c : Thread nD τ).loc main_arg8)⟩] concatenates_S64x8192_S64x8192_S128x8192_d0 := by
  show StableHlo.after hostOps0 _ (Proc.devRef .tc main_v0) = _
  after_results
  try rfl

/-- The row factors are repeated over the lanes before the grid starts. -/
theorem V_rstd (c : Dev nD) : (V m c main_v1 : Vec F S2048x128 .f32)
    = broadcastInDim S2048x128 ![0, 1] bcast_S2048x1_S2048x128_0_1 (m ((c : Thread nD τ).loc main_arg11)) := by
  show StableHlo.after hostOps0 _ (Proc.devRef .tc main_v1) = _
  after_results
  try rfl

/-- The gradient array: its columns come tile by tile. -/
def dhArr (c : Dev nD) : Vec F S2048x8192 .f32 := fun y =>
  tileDh m c (pt ⟨(y 1).val / 256, by have := (y 1).isLt; show (y 1).val / 256 < 32; have h : (y 1).val < 8192 := this; omega⟩)
    (ix2 (⟨(y 0).val, (y 0).isLt⟩ : Fin 2048) (⟨(y 1).val % 256, Nat.mod_lt _ (by decide)⟩ : Fin 256))

theorem dhArr_at (c : Dev nD) (s : Fin 2048) (t : Fin 32) (n : Fin 256) :
    dhArr m c (ix2 s (⟨256 * t.val + n.val, by omega⟩ : Fin 8192)) = tileDh m c (pt t) (ix2 s n) := by
  show tileDh m c (pt ⟨(256 * t.val + n.val) / 256, _⟩) (ix2 (⟨s.val, _⟩ : Fin 2048) (⟨(256 * t.val + n.val) % 256, _⟩ : Fin 256)) = _
  have e1 : (256 * t.val + n.val) / 256 = t.val := by omega
  have e2 : (256 * t.val + n.val) % 256 = n.val := by omega
  simp only [e1, e2]

/-- What is in the gradient array at the end. -/
theorem final_dh (c : Dev nD) : (dats m 0 c).arrAt 11 cfg0.N = dhArr m c := by
  refine (dats m 0 c).arrAt_eq_of_covers 11 _ (by decide +kernel) fun t hf y => ?_
  have hy0 : (y 0).val < 2048 := (y 0).isLt
  have hy1 : (y 1).val < 256 := (y 1).isLt
  have ht : t.val < 32 := Nat.lt_of_lt_of_eq t.isLt N_0
  have e0 : (((cfg0.win 11).blk t).view.emb y (0 : Fin 2)).val = (y 0).val := by
    show win0_11.index t 0 * 2048 + 1 * (y 0).val = (y 0).val
    rw [index_11]; show 0 * 2048 + 1 * (y 0).val = (y 0).val; omega
  have e1 : (((cfg0.win 11).blk t).view.emb y (1 : Fin 2)).val = 256 * t.val + (y 1).val := by
    show win0_11.index t 1 * 256 + 1 * (y 1).val = _
    rw [index_11]; show t.val * 256 + 1 * (y 1).val = 256 * t.val + (y 1).val; omega
  have e : ((cfg0.win 11).blk t).view.emb y = ix2 (⟨(y 0).val, hy0⟩ : Fin 2048) (⟨256 * t.val + (y 1).val, by omega⟩ : Fin 8192) := by
    funext a
    match a with
    | ⟨0, _⟩ => exact Fin.ext e0
    | ⟨1, _⟩ => exact Fin.ext e1
  rw [e]
  refine Eq.trans ?_ (dhArr_at m c ⟨(y 0).val, hy0⟩ ⟨t.val, ht⟩ ⟨(y 1).val, hy1⟩).symm
  show (dats m 0 c).after 11 t _ = tileDh m c t _
  rw [after0_11]
  congr 1
  funext a
  match a with
  | ⟨0, _⟩ => rfl
  | ⟨1, _⟩ => rfl

/-- What is in the array of row means at the end. -/
theorem final_c (c : Dev nD) : (dats m 0 c).arrAt 12 cfg0.N = accC m c 31 (pt 31).isLt := by
  refine (dats m 0 c).arrAt_eq_of_after_last 12 (pt 31) (by decide +kernel) _ fun j => ?_
  show (dats m 0 c).after 12 (pt 31) _ = _
  rw [after0_12]
  rfl

/-- What the run leaves: both results and the twelve arguments. -/
theorem post (r : PUnit × MemSt nD τ sig (Elt F)) (h : Pipeline.FramePost cfgs (dats m) 0 (V m) r) (c : Dev nD) :
    r.2.mem ((c.tc : Thread nD τ).loc main_v2_0) = dhArr m c
      ∧ r.2.mem ((c.tc : Thread nD τ).loc main_v2_1) = accC m c 31 (pt 31).isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 11).trans (final_dh m c), ((h c).1 12).trans (final_c m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 8).trans (((dats m 0 c).arrAt_in 8 rfl _).trans ((A_eq m c 8).trans (V_main_arg9 m c))),
    ((h c).1 9).trans (((dats m 0 c).arrAt_in 9 rfl _).trans ((A_eq m c 9).trans (V_main_arg10 m c))),
    ((h c).2 main_arg11 (Pipeline.mem_restRefs_of main_arg11 (by decide) (by decide))).trans (V_main_arg11 m c)⟩

theorem run_arrays : θ_run defs (onTc (τ := τ) (main (F := F))) ⟨m, fun _ => 0, ρ⟩ (fun r => ∀ c : Dev nD,
    r.2.mem ((c.tc : Thread nD τ).loc main_v2_0) = dhArr m c
      ∧ r.2.mem ((c.tc : Thread nD τ).loc main_v2_1) = accC m c 31 (pt 31).isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => post m r h c) (run_main m ρ)

/-- The arguments are unchanged and no semaphore is left raised. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => (post m r h.1 c).2.2, h.2⟩) (run_main_quiescent m ρ)

end Cert.KernelIdeal.Dh

end
-- ==== Proof.Dh.Ref.lean ====
/-
  The reference at an index: the table, the weights, the two products, the interleaved columns and the row means.
-/
module

public import proofs.«01_k».proof.Proof.Dh.Sums
public import proofs.«01_k».proof.Proof.Gen.ReferenceIdeal.Run
public import Idealize.ShloMosaic.Lib.Pointwise

@[expose] public section

set_option maxRecDepth 16384

noncomputable section

namespace Cert.ReferenceIdeal.Ref

open Cert.ReferenceIdeal Cert.ReferenceIdeal.Gen Cert.KernelIdeal.Dh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A weight at row `f` and column `n`. -/
def weight (cd : (⟨2, ![3584, 4096]⟩ : Shape).Idx → BitVec 8) (am : (⟨2, ![3584, 128]⟩ : Shape).Idx → EReal) (f : Fin 3584) (n : Fin 8192) : EReal :=
  level (nib (cd (ix2 f (⟨n.val / 2, by omega⟩ : Fin 4096))) n.val) * am (ix2 f (⟨n.val / 64, by omega⟩ : Fin 128))

/-- Whether a bit of each word is set. -/
def bit (v : IVec S128x32x3584 32) (k : BitVec 32) : IVec S128x32x3584 1 :=
  cmpi .ne (andi v (broadcastInDim S128x32x3584 ![] bcast_S_S128x32x3584 (constantI S_ 32 k))) (broadcastInDim S128x32x3584 ![] bcast_S_S128x32x3584 (constantI S_ 32 0#32))

/-- The table, by the four bits of the code. -/
def table (v : IVec S128x32x3584 32) : FVec Ideal S128x32x3584 .f32 :=
  (select (bit v 1#32) (select (bit v 2#32) (select (bit v 4#32) (select (bit v 8#32) (broadcastInDim S128x32x3584 ![] bcast_S_S128x32x3584 (constant S_ .f32 0x3F800000#32)) (broadcastInDim S128x32x3584 ![] bcast_S_S128x32x3584 (constant S_ .f32 0x00000000#32))) (select (bit v 8#32) (broadcastInDim S128x32x3584 ![] bcast_S_S128x32x3584 (constant S_ .f32 0x3EAD033A#32)) (broadcastInDim S128x32x3584 ![] bcast_S_S128x32x3584 (constant S_ .f32 0xBECA32A0#32)))) (select (bit v 4#32) (select (bit v 8#32) (broadcastInDim S128x32x3584 ![] bcast_S_S128x32x3584 (constant S_ .f32 0x3F1007AB#32)) (broadcastInDim S128x32x3584 ![] bcast_S_S128x32x3584 (constant S_ .f32 0xBE3D353F#32))) (select (bit v 8#32) (broadcastInDim S128x32x3584 ![] bcast_S_S128x32x3584 (constant S_ .f32 0x3E24CAE3#32)) (broadcastInDim S128x32x3584 ![] bcast_S_S128x32x3584 (constant S_ .f32 0xBF3239B1#32))))) (select (bit v 2#32) (select (bit v 4#32) (select (bit v 8#32) (broadcastInDim S128x32x3584 ![] bcast_S_S128x32x3584 (constant S_ .f32 0x3F3913B3#32)) (broadcastInDim S128x32x3584 ![] bcast_S_S128x32x3584 (constant S_ .f32 0xBDBA7871#32))) (select (bit v 8#32) (broadcastInDim S128x32x3584 ![] bcast_S_S128x32x3584 (constant S_ .f32 0x3E7C04DD#32)) (broadcastInDim S128x32x3584 ![] bcast_S_S128x32x3584 (constant S_ .f32 0xBF066B30#32)))) (select (bit v 4#32) (select (bit v 8#32) (broadcastInDim S128x32x3584 ![] bcast_S_S128x32x3584 (constant S_ .f32 0x3EE1A4B8#32)) (broadcastInDim S128x32x3584 ![] bcast_S_S128x32x3584 (constant S_ .f32 0xBE91A24D#32))) (select (bit v 8#32) (broadcastInDim S128x32x3584 ![] bcast_S_S128x32x3584 (constant S_ .f32 0x3DA2FAFF#32)) (broadcastInDim S128x32x3584 ![] bcast_S_S128x32x3584 (constant S_ .f32 0xBF800000#32))))))

/-- The bytes, 32 of them to a block of the column. -/
def bytes (cd : Vec Ideal S3584x4096 .i8) : IVec S128x32x3584 32 :=
  extui 32 (shapeCast _ (transpose S4096x3584 [1, 0] cd transposes_S3584x4096_S4096x3584_1_0) shapeCasts_S4096x3584_S128x32x3584) natLt_8_32

/-- The upper and the lower half of each byte. -/
def upper (cd : Vec Ideal S3584x4096 .i8) : IVec S128x32x3584 32 :=
  Host.shrsi (bytes cd) (broadcastInDim S128x32x3584 ![] bcast_S_S128x32x3584 (constantI S_ 32 4#32))
def lower (cd : Vec Ideal S3584x4096 .i8) : IVec S128x32x3584 32 :=
  andi (bytes cd) (broadcastInDim S128x32x3584 ![] bcast_S_S128x32x3584 (constantI S_ 32 15#32))

/-- The weights of every second column. -/
def weights (v : IVec S128x32x3584 32) (am : Vec Ideal S3584x128 .f32) : FVec Ideal S4096x3584 .bf16 :=
  shapeCast _ (truncf .bf16 (mulf (table v) (broadcastInDim S128x32x3584 ![0, 1, 2] bcast_S128x1x3584_S128x32x3584_0_1_2
    (broadcastInDim S128x1x3584 ![0, 2] bcast_S128x3584_S128x1x3584_0_2 (transpose S128x3584 [1, 0] am transposes_S3584x128_S128x3584_1_0)))) bitsLt_bf16_f32)
    shapeCasts_S128x32x3584_S4096x3584

/-- The rows held in pairs in the words. -/
def rows (x : Vec Ideal S1024x3584 .i32) : FVec Ideal S2048x3584 .bf16 :=
  shapeCast _ (transpose S1024x2x3584 [0, 2, 1] (bitcastToFloat (F := Ideal) .bf16 (Host.bitcastConvertNarrow S1024x3584x2 16 x splits_S1024x3584_w32_S1024x3584x2_w16)) transposes_S1024x3584x2_S1024x2x3584_0_2_1) shapeCasts_S1024x2x3584_S2048x3584

/-- The two products for every second column. -/
def products (g u : FVec Ideal S2048x3584 .bf16) (wg wu : FVec Ideal S4096x3584 .bf16) : FVec Ideal S2048x4096 .f32 :=
  addf (Host.dotGeneral dot_S2048x3584_S4096x3584_S2048x4096_1_1_0_0_n_n none g wg) (Host.dotGeneral dot_S2048x3584_S4096x3584_S2048x4096_1_1_0_0_n_n none u wu)

theorem res_even (V0 : Valuation τ sig (Elt Ideal)) : Value.res_main_v172 V0
    = products (rows (V0 (Proc.devRef .tc main_arg0))) (rows (V0 (Proc.devRef .tc main_arg1)))
        (weights (upper (V0 (Proc.devRef .tc main_arg2))) (V0 (Proc.devRef .tc main_arg4)))
        (weights (upper (V0 (Proc.devRef .tc main_arg3))) (V0 (Proc.devRef .tc main_arg5))) := rfl

theorem res_odd (V0 : Valuation τ sig (Elt Ideal)) : Value.res_main_v177 V0
    = products (rows (V0 (Proc.devRef .tc main_arg0))) (rows (V0 (Proc.devRef .tc main_arg1)))
        (weights (lower (V0 (Proc.devRef .tc main_arg2))) (V0 (Proc.devRef .tc main_arg4)))
        (weights (lower (V0 (Proc.devRef .tc main_arg3))) (V0 (Proc.devRef .tc main_arg5))) := rfl

theorem bit_at (v : IVec S128x32x3584 32) (k : BitVec 32) (a : Fin 128) (b : Fin 32) (f : Fin 3584) :
    bit v k (ix3 a b f) = if v (ix3 a b f) &&& k = 0#32 then 0#1 else 1#1 := by
  pointwise [bit]
  show BitVec.ofBool (v (ix3 a b f) &&& k != 0#32) = _
  by_cases h : v (ix3 a b f) &&& k = 0#32
  · rw [if_pos h, h]; rfl
  · rw [if_neg h, bne_iff_ne.mpr h]; rfl

set_option maxHeartbeats 2000000 in
theorem table_at (v : IVec S128x32x3584 32) (a : Fin 128) (b : Fin 32) (f : Fin 3584) (w : Fin 16) (h : v (ix3 a b f) = BitVec.ofNat 32 w.val) :
    table v (ix3 a b f) = level w := by
  have e1 := bit_at v 1#32 a b f
  have e2 := bit_at v 2#32 a b f
  have e4 := bit_at v 4#32 a b f
  have e8 := bit_at v 8#32 a b f
  rw [h] at e1 e2 e4 e8
  unfold table
  generalize bit v 1#32 = b1 at e1 ⊢
  generalize bit v 2#32 = b2 at e2 ⊢
  generalize bit v 4#32 = b4 at e4 ⊢
  generalize bit v 8#32 = b8 at e8 ⊢
  pointwise
  rw [e1, e2, e4, e8]
  clear e1 e2 e4 e8 h
  fin_cases w <;> rfl

theorem bytes_at (cd : Vec Ideal S3584x4096 .i8) (a : Fin 128) (b : Fin 32) (f : Fin 3584) :
    bytes cd (ix3 a b f) = (cd (ix2 f (⟨32 * a.val + b.val, by omega⟩ : Fin 4096)) : BitVec 8).setWidth 32 := by
  pointwise [bytes]
  congr 2
  exact congrArg (ix2 f) (Fin.ext (by show a.val * 32 + b.val = 32 * a.val + b.val; omega))

theorem upper_word (w : BitVec 8) : IntOp.shrsi ArithUnit.host (w.setWidth 32) 4#32 = BitVec.ofNat 32 (nib w 0).val := by
  revert w; decide +kernel

theorem lower_word (w : BitVec 8) : IntOp.andi (w.setWidth 32) 15#32 = BitVec.ofNat 32 (nib w 1).val := by
  revert w; decide +kernel

theorem upper_at (cd : Vec Ideal S3584x4096 .i8) (a : Fin 128) (b : Fin 32) (f : Fin 3584) :
    upper cd (ix3 a b f) = BitVec.ofNat 32 (nib (cd (ix2 f (⟨32 * a.val + b.val, by omega⟩ : Fin 4096))) 0).val := by
  have e := bytes_at cd a b f
  unfold upper
  generalize bytes cd = v at e ⊢
  pointwise
  rw [e]
  generalize cd (ix2 f (⟨32 * a.val + b.val, by omega⟩ : Fin 4096)) = w
  exact upper_word w

theorem lower_at (cd : Vec Ideal S3584x4096 .i8) (a : Fin 128) (b : Fin 32) (f : Fin 3584) :
    lower cd (ix3 a b f) = BitVec.ofNat 32 (nib (cd (ix2 f (⟨32 * a.val + b.val, by omega⟩ : Fin 4096))) 1).val := by
  have e := bytes_at cd a b f
  unfold lower
  generalize bytes cd = v at e ⊢
  pointwise
  rw [e]
  generalize cd (ix2 f (⟨32 * a.val + b.val, by omega⟩ : Fin 4096)) = w
  exact lower_word w

theorem weights_at (v : IVec S128x32x3584 32) (am : Vec Ideal S3584x128 .f32) (n : Fin 4096) (f : Fin 3584) :
    weights v am (ix2 n f) = table v (ix3 (⟨n.val / 32, by omega⟩ : Fin 128) (⟨n.val % 32, Nat.mod_lt _ (by decide)⟩ : Fin 32) f) * am (ix2 f (⟨n.val / 32, by omega⟩ : Fin 128)) := by
  unfold weights
  generalize table v = x
  pointwise

theorem rows_at (x : Vec Ideal S1024x3584 .i32) (s : Fin 2048) (f : Fin 3584) :
    rows x (ix2 s f) = half (x (ix2 (⟨s.val / 2, by omega⟩ : Fin 1024) f)) s.val := by
  pointwise [rows]
  unfold half
  congr 3
  funext a
  match a with
  | ⟨0, _⟩ => rfl
  | ⟨1, _⟩ => rfl

theorem products_at (g u : FVec Ideal S2048x3584 .bf16) (wg wu : FVec Ideal S4096x3584 .bf16) (s : Fin 2048) (n : Fin 4096) :
    products g u wg wu (ix2 s n) = (∑ f : Fin 3584, g (ix2 s f) * wg (ix2 n f)) + ∑ f : Fin 3584, u (ix2 s f) * wu (ix2 n f) := by
  pointwise [products]

/-- The value of the gradient at row `s` and column `n`. -/
def dhVal (dg du : (⟨2, ![1024, 3584]⟩ : Shape).Idx → BitVec 32) (cg cu : (⟨2, ![3584, 4096]⟩ : Shape).Idx → BitVec 8) (ag au : (⟨2, ![3584, 128]⟩ : Shape).Idx → EReal)
    (dz : (⟨2, ![2048, 128]⟩ : Shape).Idx → EReal) (ap : (⟨2, ![128, 8192]⟩ : Shape).Idx → EReal) (s : Fin 2048) (n : Fin 8192) : EReal :=
  ((∑ f : Fin 3584, half (dg (ix2 (⟨s.val / 2, by omega⟩ : Fin 1024) f)) s.val * weight cg ag f n)
    + (∑ f : Fin 3584, half (du (ix2 (⟨s.val / 2, by omega⟩ : Fin 1024) f)) s.val * weight cu au f n))
    + ∑ k : Fin 128, dz (ix2 s k) * ap (ix2 k n)

theorem weights_upper (cd : Vec Ideal S3584x4096 .i8) (am : Vec Ideal S3584x128 .f32) (n : Fin 8192) (h : n.val % 2 = 0) (f : Fin 3584) :
    weights (upper cd) am (ix2 (⟨n.val / 2, by omega⟩ : Fin 4096) f) = weight cd am f n := by
  rw [weights_at, table_at _ _ _ _ _ (upper_at cd _ _ f)]
  unfold weight
  have e1 : (⟨32 * (n.val / 2 / 32) + n.val / 2 % 32, by omega⟩ : Fin 4096) = ⟨n.val / 2, by omega⟩ := Fin.ext (by show 32 * (n.val / 2 / 32) + n.val / 2 % 32 = n.val / 2; omega)
  have e2 : (⟨n.val / 2 / 32, by omega⟩ : Fin 128) = ⟨n.val / 64, by omega⟩ := Fin.ext (by show n.val / 2 / 32 = n.val / 64; omega)
  have e3 : ∀ w, nib w n.val = nib w 0 := fun w => by unfold nib; rw [if_pos h, if_pos rfl]
  simp only [e1, e2, e3]

theorem weights_lower (cd : Vec Ideal S3584x4096 .i8) (am : Vec Ideal S3584x128 .f32) (n : Fin 8192) (h : n.val % 2 = 1) (f : Fin 3584) :
    weights (lower cd) am (ix2 (⟨n.val / 2, by omega⟩ : Fin 4096) f) = weight cd am f n := by
  rw [weights_at, table_at _ _ _ _ _ (lower_at cd _ _ f)]
  unfold weight
  have e1 : (⟨32 * (n.val / 2 / 32) + n.val / 2 % 32, by omega⟩ : Fin 4096) = ⟨n.val / 2, by omega⟩ := Fin.ext (by show 32 * (n.val / 2 / 32) + n.val / 2 % 32 = n.val / 2; omega)
  have e2 : (⟨n.val / 2 / 32, by omega⟩ : Fin 128) = ⟨n.val / 64, by omega⟩ := Fin.ext (by show n.val / 2 / 32 = n.val / 64; omega)
  have e3 : ∀ w, nib w n.val = nib w 1 := fun w => by unfold nib; rw [if_neg (by omega), if_neg (by decide)]
  simp only [e1, e2, e3]

/-- Even and odd columns put side by side. -/
def columns (e o : FVec Ideal S2048x4096 .f32) : FVec Ideal S2048x8192 .f32 :=
  shapeCast _ (concatenate S2048x4096x2 2 [⟨S2048x4096x1, (broadcastInDim S2048x4096x1 ![0, 1] bcast_S2048x4096_S2048x4096x1_0_1 e)⟩,
    ⟨S2048x4096x1, (broadcastInDim S2048x4096x1 ![0, 1] bcast_S2048x4096_S2048x4096x1_0_1 o)⟩] concatenates_S2048x4096x1_S2048x4096x1_S2048x4096x2_d2) shapeCasts_S2048x4096x2_S2048x8192

theorem columns_at (e o : FVec Ideal S2048x4096 .f32) (s : Fin 2048) (n : Fin 8192) :
    columns e o (ix2 s n) = if n.val % 2 = 0 then e (ix2 s (⟨n.val / 2, by omega⟩ : Fin 4096)) else o (ix2 s (⟨n.val / 2, by omega⟩ : Fin 4096)) := by
  pointwise [columns]
  rcases (by omega : n.val % 2 = 0 ∨ n.val % 2 = 1) with h | h
  · exact (dif_pos (show n.val % 2 < 1 by omega)).trans (if_pos h).symm
  · exact (dif_neg (show ¬n.val % 2 < 1 by omega)).trans (if_neg (show ¬n.val % 2 = 0 by omega)).symm

/-- The adapter product for the even and for the odd columns. -/
def adapterEven (dz : FVec Ideal S2048x128 .bf16) (ap : FVec Ideal S128x8192 .bf16) : FVec Ideal S2048x4096 .f32 :=
  Host.dotGeneral dot_S2048x128_S128x4096_S2048x4096_1_0_0_1_n_n none dz (Host.slice S128x4096 ![0, 0] ![1, 2] ap slicesBy_S128x8192_S128x4096_0s1_0s2)
def adapterOdd (dz : FVec Ideal S2048x128 .bf16) (ap : FVec Ideal S128x8192 .bf16) : FVec Ideal S2048x4096 .f32 :=
  Host.dotGeneral dot_S2048x128_S128x4096_S2048x4096_1_0_0_1_n_n none dz (Host.slice S128x4096 ![0, 1] ![1, 2] ap slicesBy_S128x8192_S128x4096_0s1_1s2)

theorem adapterEven_at (dz : FVec Ideal S2048x128 .bf16) (ap : FVec Ideal S128x8192 .bf16) (s : Fin 2048) (n : Fin 8192) (h : n.val % 2 = 0) :
    adapterEven dz ap (ix2 s (⟨n.val / 2, by omega⟩ : Fin 4096)) = ∑ k : Fin 128, dz (ix2 s k) * ap (ix2 k n) := by
  pointwise [adapterEven]
  have e : (⟨2 * (n.val / 2), by omega⟩ : Fin 8192) = n := Fin.ext (by show 2 * (n.val / 2) = n.val; omega)
  simp only [e]

theorem adapterOdd_at (dz : FVec Ideal S2048x128 .bf16) (ap : FVec Ideal S128x8192 .bf16) (s : Fin 2048) (n : Fin 8192) (h : n.val % 2 = 1) :
    adapterOdd dz ap (ix2 s (⟨n.val / 2, by omega⟩ : Fin 4096)) = ∑ k : Fin 128, dz (ix2 s k) * ap (ix2 k n) := by
  pointwise [adapterOdd]
  have e : (⟨1 + 2 * (n.val / 2), by omega⟩ : Fin 8192) = n := Fin.ext (by show 1 + 2 * (n.val / 2) = n.val; omega)
  simp only [e]

/-- The gradient as the reference builds it. -/
def grad (V0 : Valuation τ sig (Elt Ideal)) : FVec Ideal S2048x8192 .f32 :=
  columns (addf (Value.res_main_v172 V0) (adapterEven (V0 (Proc.devRef .tc main_arg6)) (Value.res_main_v167 V0)))
    (addf (Value.res_main_v177 V0) (adapterOdd (V0 (Proc.devRef .tc main_arg6)) (Value.res_main_v167 V0)))

theorem add_at (x y : FVec Ideal S2048x4096 .f32) (j : S2048x4096.Idx) : addf x y j = x j + y j := rfl

theorem grad_at (V0 : Valuation τ sig (Elt Ideal)) (s : Fin 2048) (n : Fin 8192) :
    grad V0 (ix2 s n) = dhVal (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (Value.res_main_v167 V0) s n := by
  unfold grad
  rw [columns_at]
  have h2 : n.val % 2 = 0 ∨ n.val % 2 = 1 := by omega
  rcases h2 with h | h
  · rw [if_pos h]
    rw [res_even, add_at, adapterEven_at _ _ _ _ h, products_at]
    simp only [rows_at, weights_upper _ _ n h]
    rfl
  · rw [if_neg (by omega)]
    rw [res_odd, add_at, adapterOdd_at _ _ _ _ h, products_at]
    simp only [rows_at, weights_lower _ _ n h]
    rfl

/-- The row means, over the lanes. -/
def means (dh : FVec Ideal S2048x8192 .f32) (x : Vec Ideal S2048x8192 .bf16) (nw : Vec Ideal S1x8192 .f32) (rstd : Vec Ideal S2048x1 .f32) : FVec Ideal S2048x128 .f32 :=
  broadcastInDim S2048x128 ![0, 1] bcast_S2048x1_S2048x128_0_1 (Host.divf (broadcastInDim S2048x1 ![0] bcast_S2048_S2048x1_0 (Host.reduceAdd (mulf (mulf dh
    (broadcastInDim S2048x8192 ![0, 1] bcast_S1x8192_S2048x8192_0_1 nw)) (mulf (extf .f32 x bitsLt_bf16_f32) (broadcastInDim S2048x8192 ![0, 1] bcast_S2048x1_S2048x8192_0_1 rstd)))
    (constant S_ .f32 0x00000000#32) reducesTo_S2048x8192_S2048_d1 h_S_)) (broadcastInDim S2048x1 ![] bcast_S_S2048x1 (constant S_ .f32 0x46000000#32)))

theorem means_at (dh : FVec Ideal S2048x8192 .f32) (x : Vec Ideal S2048x8192 .bf16) (nw : Vec Ideal S1x8192 .f32) (rstd : Vec Ideal S2048x1 .f32) (s : Fin 2048) (l : Fin 128) :
    means dh x nw rstd (ix2 s l) = Ideal.div (∑ n : Fin 8192, dh (ix2 s n) * nw (ix2 0 n) * (x (ix2 s n) * rstd (ix2 s 0))) (Ideal.ofBits .f32 0x46000000#32) := by
  pointwise [means]

end Cert.ReferenceIdeal.Ref

end
-- ==== Proof.Dh.Value.lean ====
/-
  Both result arrays as sums over the argument arrays.
-/
module

public import proofs.«01_k».proof.Proof.Dh.Arrays
public import proofs.«01_k».proof.Proof.Dh.Ref
public import Idealize.ShloMosaic.Lib.Pointwise

@[expose] public section

set_option maxRecDepth 16384

noncomputable section

namespace Cert.KernelIdeal.Dh

open Cert.KernelIdeal Cert.KernelIdeal.Gen
open Cert.ReferenceIdeal.Ref (weight dhVal)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The gradient at row `s` and column `n`, from the arrays as the grid finds them. -/
def gradAt (c : Dev nD) (s : Fin 2048) (n : Fin 8192) : EReal :=
  dhVal (V m c main_arg0) (V m c main_arg1) (V m c main_arg2) (V m c main_arg3) (V m c main_arg4) (V m c main_arg5) (V m c main_arg6) (V m c main_v0) s n

theorem coords_pt (t : Fin 32) : (grid0.coords (pt t) 0).val = t.val := by
  have e0 : (grid0.coords (pt t) 0).val = t.val / 1 % 32 := Pipeline.Grid.coords_val (pt t) 0 (by decide) rfl
  omega

theorem wAt_weight (t : Fin 32) (cb : S3584x128.Idx → BitVec 8) (cd : S3584x4096.Idx → BitVec 8) (am : S3584x128.Idx → EReal) (f : Fin 3584) (b : Fin 256)
    (h : ∀ k : Fin 128, cb (ix2 f k) = cd (ix2 f (⟨128 * t.val + k.val, by omega⟩ : Fin 4096))) :
    wAt t cb am f b = weight cd am f ⟨256 * t.val + b.val, by omega⟩ := by
  unfold wAt weight
  rw [h]
  have e1 : (⟨128 * t.val + b.val / 2, by omega⟩ : Fin 4096) = ⟨(256 * t.val + b.val) / 2, by omega⟩ := Fin.ext (by show 128 * t.val + b.val / 2 = (256 * t.val + b.val) / 2; omega)
  have e2 : (⟨4 * t.val + b.val / 64, by omega⟩ : Fin 128) = ⟨(256 * t.val + b.val) / 64, by omega⟩ := Fin.ext (by show 4 * t.val + b.val / 64 = (256 * t.val + b.val) / 64; omega)
  have e3 : ∀ w, nib w b.val = nib w (256 * t.val + b.val) := fun w => by unfold nib; rw [show (256 * t.val + b.val) % 2 = b.val % 2 by omega]
  simp only [← e1, ← e2, ← e3]

theorem tileDh_at (c : Dev nD) (t : Fin 32) (s : Fin 2048) (b : Fin 256) :
    tileDh m c (pt t) (ix2 s b) = gradAt m c s ⟨256 * t.val + b.val, by omega⟩ := by
  unfold tileDh outDh
  rw [coords_pt, iblk_0, iblk_1, iblk_4, iblk_5, iblk_6, dhTile_at, add_comm]
  unfold gradAt dhVal
  congr 1
  · congr 1
    · exact Finset.sum_congr rfl fun f _ => congrArg _ (wAt_weight t _ _ _ f b fun k => iblk_2 m c t f k)
    · exact Finset.sum_congr rfl fun f _ => congrArg _ (wAt_weight t _ _ _ f b fun k => iblk_3 m c t f k)
  · exact Finset.sum_congr rfl fun k _ => congrArg _ (iblk_7 m c t k b)

theorem dhArr_val (c : Dev nD) (s : Fin 2048) (n : Fin 8192) : dhArr m c (ix2 s n) = gradAt m c s n := by
  have e : n = ⟨256 * (n.val / 256) + n.val % 256, by omega⟩ := Fin.ext (by show n.val = 256 * (n.val / 256) + n.val % 256; omega)
  have h := dhArr_at m c s ⟨n.val / 256, by omega⟩ ⟨n.val % 256, Nat.mod_lt _ (by decide)⟩
  rw [tileDh_at] at h
  rw [e]
  exact h

theorem pay3_at (d : Vec Ideal S32x256 .f32) (nw : Vec Ideal S1x256 .f32) (r : Vec Ideal S32x128 .f32) (x : Vec Ideal S32x256 .bf16) (g : Vec Ideal S32x128 .f32)
    (i : Fin 32) (l : Fin 128) : k0_pay3 d nw r x g (ix2 i l) = g (ix2 i l)
      + (d (ix2 i (⟨l.val, by omega⟩ : Fin 256)) * nw (ix2 0 (⟨l.val, by omega⟩ : Fin 256)) * (x (ix2 i (⟨l.val, by omega⟩ : Fin 256)) * r (ix2 i l))
        + d (ix2 i (⟨128 + l.val, by omega⟩ : Fin 256)) * nw (ix2 0 (⟨128 + l.val, by omega⟩ : Fin 256)) * (x (ix2 i (⟨128 + l.val, by omega⟩ : Fin 256)) * r (ix2 i l))) := by
  pointwise [k0_pay3]

theorem pay4_at (g : Vec Ideal S2048x128 .f32) (s : Fin 2048) (l : Fin 128) :
    k0_pay4 g (ix2 s l) = Ideal.div (∑ k : Fin 128, g (ix2 s k)) (Ideal.ofBits .f32 0x46000000#32) := by
  pointwise [k0_pay4]

theorem pay2_at (s : Fin 2048) (l : Fin 128) : (k0_pay2 : FVec Ideal S2048x128 .f32) (ix2 s l) = 0 := by
  pointwise [k0_pay2]

theorem cStep_at (d : Vec Ideal S2048x256 .f32) (nw : Vec Ideal S1x256 .f32) (r : Vec Ideal S2048x128 .f32) (x : Vec Ideal S2048x256 .bf16) (g : Vec Ideal S2048x128 .f32)
    (s : Fin 2048) (l : Fin 128) : cStep d nw r x g (ix2 s l) = g (ix2 s l)
      + (d (ix2 s (⟨l.val, by omega⟩ : Fin 256)) * nw (ix2 0 (⟨l.val, by omega⟩ : Fin 256)) * (x (ix2 s (⟨l.val, by omega⟩ : Fin 256)) * r (ix2 s l))
        + d (ix2 s (⟨128 + l.val, by omega⟩ : Fin 256)) * nw (ix2 0 (⟨128 + l.val, by omega⟩ : Fin 256)) * (x (ix2 s (⟨128 + l.val, by omega⟩ : Fin 256)) * r (ix2 s l))) := by
  refine (pay3_at _ nw _ _ _ ⟨s.val % 32, Nat.mod_lt _ (by decide)⟩ l).trans ?_
  have hp : ∀ {α : Type} {n : ℕ} (z : (⟨2, ![2048, n]⟩ : Shape).Idx → α) (k : Fin n),
      part z (s.val / 32) (ix2 (⟨s.val % 32, Nat.mod_lt _ (by decide)⟩ : Fin 32) k) = z (ix2 s k) := by
    intro α n z k
    have e : (⟨(32 * (s.val / 32) + s.val % 32) % 2048, Nat.mod_lt _ (by decide)⟩ : Fin 2048) = s :=
      Fin.ext (by show (32 * (s.val / 32) + s.val % 32) % 2048 = s.val; omega)
    exact congrArg (fun u => z (ix2 u k)) e
  exact congrArg₂ (· + ·) (hp g l) (congrArg₂ (· + ·)
    (congrArg₂ (· * ·) (congrArg (· * _) (hp d _)) (congrArg₂ (· * ·) (hp x _) (hp r l)))
    (congrArg₂ (· * ·) (congrArg (· * _) (hp d _)) (congrArg₂ (· * ·) (hp x _) (hp r l))))

/-- One column's share of a row's mean. -/
def shareOf (dh : S2048x8192.Idx → EReal) (x : S2048x8192.Idx → EReal) (nw : S1x8192.Idx → EReal) (rstd : S2048x1.Idx → EReal) (s : Fin 2048) (n : Fin 8192) : EReal :=
  dh (ix2 s n) * nw (ix2 0 n) * (x (ix2 s n) * rstd (ix2 s 0))

/-- The same for the arrays of a run. -/
def share (c : Dev nD) (s : Fin 2048) (n : Fin 8192) : EReal :=
  shareOf (dhArr m c) (V m c main_arg9) (V m c main_arg10) (m ((c : Thread nD τ).loc main_arg11)) s n

/-- Lane `l`'s share of tile `t`. -/
def lane (c : Dev nD) (s : Fin 2048) (l : Fin 128) (t : Fin 32) : EReal :=
  share m c s ⟨256 * t.val + l.val, by omega⟩ + share m c s ⟨256 * t.val + (128 + l.val), by omega⟩

theorem rstd_at (c : Dev nD) (s : Fin 2048) (l : Fin 128) :
    (V m c main_v1 : Vec Ideal S2048x128 .f32) (ix2 s l) = (m ((c : Thread nD τ).loc main_arg11) : Vec Ideal S2048x1 .f32) (ix2 s 0) := by
  rw [V_rstd]
  generalize (m ((c : Thread nD τ).loc main_arg11) : Vec Ideal S2048x1 .f32) = z
  pointwise

theorem step_at (c : Dev nD) (t : Fin 32) (g : Vec Ideal S2048x128 .f32) (s : Fin 2048) (l : Fin 128) :
    cStep (tileDh m c (pt t)) (iblk m c 9 (pt t)) (iblk m c 10 (pt t)) (iblk m c 8 (pt t)) g (ix2 s l) = g (ix2 s l) + lane m c s l t := by
  refine (cStep_at _ _ _ _ g s l).trans ?_
  rw [iblk_10]
  unfold lane share shareOf
  refine congrArg (g (ix2 s l) + ·) ?_
  exact congrArg₂ (· + ·)
    (congrArg₂ (· * ·) (congrArg₂ (· * ·) ((dhArr_at m c s t _).symm) (iblk_9 m c t 0 _)) (congrArg₂ (· * ·) (iblk_8 m c t s _) (rstd_at m c s l)))
    (congrArg₂ (· * ·) (congrArg₂ (· * ·) ((dhArr_at m c s t _).symm) (iblk_9 m c t 0 _)) (congrArg₂ (· * ·) (iblk_8 m c t s _) (rstd_at m c s l)))

theorem accC_first (c : Dev nD) (h : 0 < cfg0.N) : accC m c 0 h = tileC m c (pt 0) (k0_pay2 (F := Ideal)) := rfl

theorem accC_next (c : Dev nD) (k : ℕ) (h : k + 1 < cfg0.N) (h' : k + 1 < 32) : accC m c (k + 1) h = tileC m c (pt ⟨k + 1, h'⟩) (accC m c k (Nat.lt_of_succ_lt h)) := rfl

theorem accC_last (c : Dev nD) (h : 31 < cfg0.N) : accC m c 31 h = tileC m c (pt 31) (accC m c 30 (Nat.lt_of_succ_lt h)) := rfl

/-- Before the last point the array holds lane sums. -/
theorem accC_at (c : Dev nD) (n : ℕ) (h : n < cfg0.N) (h' : n < 31) (s : Fin 2048) (l : Fin 128) :
    accC m c n h (ix2 s l) = ∑ t ∈ Finset.range (n + 1), lane m c s l ⟨t % 32, Nat.mod_lt _ (by decide)⟩ := by
  induction n with
  | zero =>
    rw [accC_first]
    unfold tileC outC
    rw [if_neg (fun hc => by have := (cond_last (pt 0)).mp hc; exact absurd this (by decide)), ite_self, step_at, pay2_at, zero_add, Finset.sum_range_one]
    rfl
  | succ k ih =>
    rw [accC_next m c k h (by omega)]
    unfold tileC outC
    rw [if_neg (fun hc => by have := (cond_last (pt ⟨k + 1, by omega⟩)).mp hc; exact absurd (show k + 1 = 31 from this) (by omega)),
      if_neg (fun hc => by have := (cond_first (pt ⟨k + 1, by omega⟩)).mp hc; exact absurd (show k + 1 = 0 from this) (by omega)),
      step_at, ih _ (by omega), Finset.sum_range_succ _ (k + 1)]
    congr 2
    exact Fin.ext (by show k + 1 = (k + 1) % 32; omega)

/-- At the end every lane holds its row's mean. -/
theorem accC_val (c : Dev nD) (h : 31 < cfg0.N) (s : Fin 2048) (l : Fin 128) :
    accC m c 31 h (ix2 s l) = Ideal.div (∑ n : Fin 8192, share m c s n) (Ideal.ofBits .f32 0x46000000#32) := by
  rw [accC_last]
  unfold tileC outC
  show (if _ then _ else _ : Vec Ideal S2048x128 .f32) (ix2 s l) = _
  rw [if_pos ((cond_last (pt 31)).mpr rfl), if_neg (fun hc => by have := (cond_first (pt 31)).mp hc; exact absurd this (by decide)), pay4_at]
  refine congrArg (fun u => Ideal.div u (Ideal.ofBits .f32 0x46000000#32)) ?_
  have e : ∀ k : Fin 128, cStep (tileDh m c (pt 31)) (iblk m c 9 (pt 31)) (iblk m c 10 (pt 31)) (iblk m c 8 (pt 31)) (accC m c 30 (Nat.lt_of_succ_lt h)) (ix2 s k)
      = ∑ t : Fin 32, lane m c s k t := by
    intro k
    rw [step_at, accC_at m c 30 _ (by decide)]
    refine (Finset.sum_range_succ (fun t => lane m c s k ⟨t % 32, Nat.mod_lt _ (by decide)⟩) 31).symm.trans ?_
    rw [← Fin.sum_univ_eq_sum_range (fun t => lane m c s k ⟨t % 32, Nat.mod_lt _ (by decide)⟩) 32]
    exact Finset.sum_congr rfl fun t _ => congrArg (lane m c s k) (Fin.ext (Nat.mod_eq_of_lt t.isLt))
  refine (Finset.sum_congr rfl fun k _ => e k).trans ?_
  rw [Finset.sum_comm, Fin.sum_univ_tiles 32 256 rfl]
  refine Finset.sum_congr rfl fun t _ => ?_
  rw [Fin.sum_univ_two_halves 128 128 rfl, ← Finset.sum_add_distrib]
  refine Finset.sum_congr rfl fun k _ => ?_
  unfold lane
  have e1 : (⟨256 * t.val + k.val, by omega⟩ : Fin 8192) = ⟨t.val * 256 + k.val, by omega⟩ := Fin.ext (by show 256 * t.val + k.val = t.val * 256 + k.val; omega)
  have e2 : (⟨256 * t.val + (128 + k.val), by omega⟩ : Fin 8192) = ⟨t.val * 256 + (128 + k.val), by omega⟩ := Fin.ext (by show 256 * t.val + (128 + k.val) = t.val * 256 + (128 + k.val); omega)
  rw [e1, e2]

end Cert.KernelIdeal.Dh

end
-- ==== Proof.Dh.Equation.lean ====
/-
  The equation: on equal arguments both programs leave the same two arrays.
-/
module

public import proofs.«01_k».proof.Proof.Dh.Value

@[expose] public section

set_option maxRecDepth 16384

noncomputable section

namespace Cert.KernelIdeal.Dh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Ref (grad means)

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- Equal arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The reference's arguments as its run finds them. -/
abbrev L (c : Dev Cert.ReferenceIdeal.nD) := StableHlo.launchContents m' c

theorem grad_eq (c : Dev Cert.KernelIdeal.nD) (h : Same m m' c) : grad (StableHlo.launchContents m' c) = dhArr m c := by
  obtain ⟨h0, h1, h2, h3, h4, h5, h6, h7, h8, h9, h10, h11⟩ := h
  funext j
  have hj : j = ix2 (j 0 : Fin 2048) (j 1 : Fin 8192) := by
    funext a
    match a with
    | ⟨0, _⟩ => rfl
    | ⟨1, _⟩ => rfl
  rw [hj]
  refine (Cert.ReferenceIdeal.Ref.grad_at (StableHlo.launchContents m' c) (j 0) (j 1)).trans ?_
  refine Eq.trans ?_ (dhArr_val m c (j 0) (j 1)).symm
  unfold gradAt
  rw [Gen.V_main_arg0, Gen.V_main_arg1, Gen.V_main_arg2, Gen.V_main_arg3, Gen.V_main_arg4, Gen.V_main_arg5, Gen.V_main_arg6, V_pair, ← h0, ← h1, ← h2, ← h3, ← h4, ← h5, ← h6, ← h7, ← h8]
  rfl

theorem means_eq (c : Dev Cert.KernelIdeal.nD) (hs : Same m m' c) (h : 31 < cfg0.N) :
    means (grad (StableHlo.launchContents m' c)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = accC m c 31 h := by
  rw [grad_eq m m' c hs]
  obtain ⟨h0, h1, h2, h3, h4, h5, h6, h7, h8, h9, h10, h11⟩ := hs
  funext j
  have hj : j = ix2 (j 0 : Fin 2048) (j 1 : Fin 128) := by
    funext a
    match a with
    | ⟨0, _⟩ => rfl
    | ⟨1, _⟩ => rfl
  rw [hj]
  refine (Cert.ReferenceIdeal.Ref.means_at _ _ _ _ (j 0) (j 1)).trans ?_
  refine Eq.trans ?_ (accC_val m c h (j 0) (j 1)).symm
  unfold share
  rw [Gen.V_main_arg9, Gen.V_main_arg10, ← h9, ← h10, ← h11]
  rfl

end Cert.KernelIdeal.Dh

end
-- ==== Proof.BitsDown.Runs.lean ====
/- What the run of the down kernel's body at the machine's words is stated over: the arrays when the launch begins, the blocks
   its windows see, and the staging and scratch buffers.
   The text follows the generated frame certificate of this program. -/
module

public import proofs.«01_k».proof.Proof.Gen.Down.Launch
public import proofs.«01_k».proof.Proof.Gen.Down.Skeleton
public import proofs.«01_k».proof.Proof.Gen.Down.Loops
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Down.Bits

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Down`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S2048x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x256 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4096x256 .i32 := Memref.whole cc0_scratch0
abbrev scM0_1 : Memref sig .tc .vmem S2048x256 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Down.Bits

end
-- ==== Proof.BitsDown.RunA.lean ====
/- The body's run at a grid point.
   The text follows the generated frame certificate of this program. -/
module

public import proofs.«01_k».proof.Proof.BitsDown.Runs

@[expose] public section

-- membership in a rectangle of production extents (`View.cover_of_tiled`): the elaborator's structural look
-- recurses once per coordinate of the long axes
set_option maxRecDepth 16384

noncomputable section

namespace Cert.Down.Bits

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x256 .i32) (harg11 : arg11.IsWhole) (arg12 : Memref sig .tc .vmem S2048x256 .f32) (harg12 : arg12.IsWhole)
    (x0 : Vec F S2048x8192 .bf16) (x1 : Vec F S8192x128 .i8) (x2 : Vec F S8192x128 .f32) (x3 : Vec F S2048x64 .bf16) (x4 : Vec F S64x256 .bf16) (x5 : Vec F S2048x256 .bf16) (x6 : Vec F S2048x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12) K := by
    intro E K
    simp only [cc0_down_eq_skeleton]; unfold cc0_down_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Down.Bits

end
-- ==== Proof.BitsDown.Frame.lean ====
/- The frame of the down kernel at the machine's words: from any memory the program runs to its end, leaves its seven
   arguments as they were and every semaphore at zero. What the three results hold is not said here.
   The text follows the generated frame certificate of this program. -/
module

public import proofs.«01_k».proof.Proof.BitsDown.RunA
public import Idealize.ShloMosaic.Lib.Claim

@[expose] public section

-- membership in a rectangle of production extents (`View.cover_of_tiled`): the elaborator's structural look
-- recurses once per coordinate of the long axes
set_option maxRecDepth 16384

noncomputable section

namespace Cert.Down.Bits

open Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- **The frame of the down kernel at the machine's words**: it runs to its end, its arguments unchanged and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Down.Bits

end
-- ==== Proof.Down.Tile.lean ====
/-
  What the matrix products, the decode and the pointwise tail of one column tile of the down projection's gradient leave,
  as plain functions of vectors.  The decode of 256 rows is the one of the other product, `decBlk`.
-/
module

public import proofs.«01_k».proof.Proof.Dh.Tile
public import proofs.«01_k».proof.Proof.Gen.DownIdeal.Frame.Runs
public import proofs.«01_k».proof.Proof.Gen.DownIdeal.Loops

@[expose] public section

set_option maxRecDepth 16384

noncomputable section

namespace Cert.DownIdeal.Down

open Cert.DownIdeal Cert.DownIdeal.Gen
open Idealize.ShloMosaic Idealize.SL.Sem Idealize.ShloMosaic.ValueIdx
open Cert.KernelIdeal.Dh (decBlk)

variable {F : FTy → Type} [FloatOps F]

/-- Rows `256 q …` of a [8192,128] array. -/
def rowBlk {α : Type} (x : S8192x128.Idx → α) (q : ℕ) : S256x128.Idx → α := fun j =>
  x (ix2 ⟨(256 * q + (j 0).val) % 8192, Nat.mod_lt _ (by decide)⟩ (j 1))

/-- The decoded tile: 4096 pairs of rows. -/
def wTile (t : BitVec 32) (cd : Vec F S8192x128 .i8) (am : Vec F S8192x128 .f32) : Vec F S4096x2x256 .bf16 := fun y =>
  decBlk t (rowBlk cd ((y 0).val / 128)) (rowBlk am ((y 0).val / 128)) (ix3 ⟨(y 0).val % 128, Nat.mod_lt _ (by decide)⟩ (y 1) (y 2))

/-- Pairs of rows `128 q …` of the decoded tile, as 256 rows. -/
def wRows (w : Vec F S4096x2x256 .bf16) (q : Fin 32) : FVec F S256x256 .bf16 :=
  have raw : Vec F S128x2x256 .bf16 := VecWindow.window w ![128 * q.val, 0, 0] S128x2x256.size (by revert q; decide)
  interleaveRows S256x256 (shapeCast S128x256 (rowsOfParity 0 S128x1x256 raw bitcasts_S128x2x256_w16_S128x1x256_w32) shapeCasts_S128x1x256_S128x256)
    (shapeCast S128x256 (rowsOfParity 1 S128x1x256 raw bitcasts_S128x2x256_w16_S128x1x256_w32) shapeCasts_S128x1x256_S128x256) bitcasts_S256x256_w16_S128x256_w32

/-- Rows `1024 b …` and columns `256 q …`. -/
def xRows (x : Vec F S2048x8192 .bf16) (b : Fin 2) (q : Fin 32) : FVec F S1024x256 .bf16 :=
  VecWindow.window x ![1024 * b.val, 256 * q.val] S1024x256.size (by revert b q; decide)

/-- One of the 32 products. -/
def dotK (dy : Vec F S2048x8192 .bf16) (w : Vec F S4096x2x256 .bf16) (b : Fin 2) (q : Fin 32) : FVec F S1024x256 .f32 :=
  matmul dot_S1024x256_S256x256_S1024x256_1_0_0_1_n_n none (xRows dy b q) (wRows w q) (constant S1024x256 .f32 0x00000000#32)

/-- The adapter product. -/
def dotA (dz : Vec F S2048x64 .bf16) (ap : Vec F S64x256 .bf16) (b : Fin 2) : FVec F S1024x256 .f32 :=
  matmul dot_S1024x64_S64x256_S1024x256_1_0_0_1_n_n none
    (VecWindow.window dz ![1024 * b.val, 0] S1024x64.size (by revert b; decide)) ap (constant S1024x256 .f32 0x00000000#32)

/-- The running sum after the adapter product and the first `n` of the 32 products. -/
def chain (dy : Vec F S2048x8192 .bf16) (dz : Vec F S2048x64 .bf16) (ap : Vec F S64x256 .bf16) (w : Vec F S4096x2x256 .bf16) (b : Fin 2) :
    ℕ → FVec F S1024x256 .f32
  | 0 => dotA dz ap b
  | n + 1 => addf (chain dy dz ap w b n) (dotK dy w b ⟨n % 32, Nat.mod_lt _ (by decide)⟩)

/-- One column tile of the product: two blocks of 1024 rows. -/
def daTile (dy : Vec F S2048x8192 .bf16) (dz : Vec F S2048x64 .bf16) (ap : Vec F S64x256 .bf16) (w : Vec F S4096x2x256 .bf16) :
    Vec F S2048x256 .f32 := fun y =>
  if h : (y 0).val < 1024 then chain dy dz ap w 0 32 (ix2 ⟨(y 0).val, h⟩ (y 1))
  else chain dy dz ap w 1 32 (ix2 ⟨(y 0).val - 1024, by have := idx2_lt0 y; omega⟩ (y 1))

/-- Rows `16 q …` of a 2048-row tile. -/
def part {α : Type} (x : S2048x256.Idx → α) (q : ℕ) : S16x256.Idx → α := fun j =>
  x (ix2 ⟨(16 * q + (j 0).val) % 2048, Nat.mod_lt _ (by decide)⟩ (j 1))

/-- The gate gradient of one column tile. -/
def dgTile (g u : Vec F S2048x256 .bf16) (da : Vec F S2048x256 .f32) : Vec F S2048x256 .bf16 := fun y =>
  k0_pay6 (part g ((y 0).val / 16)) (part u ((y 0).val / 16)) (part da ((y 0).val / 16)) (ix2 ⟨(y 0).val % 16, Nat.mod_lt _ (by decide)⟩ (y 1))
/-- The up gradient of one column tile. -/
def duTile (g : Vec F S2048x256 .bf16) (da : Vec F S2048x256 .f32) : Vec F S2048x256 .bf16 := fun y =>
  k0_pay7 (part g ((y 0).val / 16)) (part da ((y 0).val / 16)) (ix2 ⟨(y 0).val % 16, Nat.mod_lt _ (by decide)⟩ (y 1))
/-- The activation of one column tile. -/
def aTile (g u : Vec F S2048x256 .bf16) : Vec F S2048x256 .bf16 := fun y =>
  k0_pay5 (part g ((y 0).val / 16)) (part u ((y 0).val / 16)) (ix2 ⟨(y 0).val % 16, Nat.mod_lt _ (by decide)⟩ (y 1))

end Cert.DownIdeal.Down

end
-- ==== Proof.Down.Trips.lean ====
/-
  What one trip of each counted loop stores.
-/
module

public import proofs.«01_k».proof.Proof.Down.Tile

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

open Cert.KernelIdeal.Dh (decBlk)

/-- One trip of the decode stores one decoded block. -/
theorem trip1 (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (t : BitVec 32) (X2 : BufTy.Contents (Elt F) arg2.view.ty) (X3 : BufTy.Contents (Elt F) arg3.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 t (iota .tc S8x128 32 [0] iota_S8x128_d0_w32) k0_pay28 k0_pay29 X2 X3 k
      = [⟨Rect.unit (k0_off2 k) S128x2x256.size (k0_off2_inb k),
          decBlk t (arg2.view.readAt (Elt F) (Rect.unit (s := S8192x128) (k0_off1 k) S256x128.size (k0_off1_inb k)).toLoadRect X2)
            (arg3.view.readAt (Elt F) (Rect.unit (s := S8192x128) (k0_off1 k) S256x128.size (k0_off1_inb k)).toLoadRect X3)⟩] := by
  unfold tripL_k0_t1 trip_k0_t1
  rfl

/-- One trip of the tail stores 16 rows of each result. -/
theorem trip2 (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 k
      = ([⟨Rect.unit (k0_off3 k) S16x256.size (k0_off3_inb k),
          k0_pay6 (arg6.view.readAt (Elt F) (Rect.unit (s := S2048x256) (k0_off3 k) S16x256.size (k0_off3_inb k)).toLoadRect X6)
            (arg7.view.readAt (Elt F) (Rect.unit (s := S2048x256) (k0_off3 k) S16x256.size (k0_off3_inb k)).toLoadRect X7)
            (arg12.view.readAt (Elt F) (Rect.unit (s := S2048x256) (k0_off3 k) S16x256.size (k0_off3_inb k)).toLoadRect X12)⟩],
         [⟨Rect.unit (k0_off3 k) S16x256.size (k0_off3_inb k),
          k0_pay7 (arg6.view.readAt (Elt F) (Rect.unit (s := S2048x256) (k0_off3 k) S16x256.size (k0_off3_inb k)).toLoadRect X6)
            (arg12.view.readAt (Elt F) (Rect.unit (s := S2048x256) (k0_off3 k) S16x256.size (k0_off3_inb k)).toLoadRect X12)⟩],
         [⟨Rect.unit (k0_off3 k) S16x256.size (k0_off3_inb k),
          k0_pay5 (arg6.view.readAt (Elt F) (Rect.unit (s := S2048x256) (k0_off3 k) S16x256.size (k0_off3_inb k)).toLoadRect X6)
            (arg7.view.readAt (Elt F) (Rect.unit (s := S2048x256) (k0_off3 k) S16x256.size (k0_off3_inb k)).toLoadRect X7)⟩]) := by
  unfold tripL_k0_t2 trip_k0_t2
  rfl

end Cert.DownIdeal.Down

end
-- ==== Proof.Down.Reads.lean ====
/-
  What the two counted loops leave, index by index: the decoded tile after the first, the three results after the second.
-/
module

public import proofs.«01_k».proof.Proof.Down.Trips
public import Idealize.ShloMosaic.Lib.WritesUnit

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

open Cert.KernelIdeal.Dh (decBlk)

theorem rowBlk_window {α : Type} (x : S8192x128.Idx → α) (q : ℕ) (inb : ∀ a, (![256 * q, 0] : Fin 2 → ℕ) a + S256x128.size a ≤ S8192x128.size a) :
    VecWindow.window x ![256 * q, 0] S256x128.size inb = rowBlk x q := by
  funext j
  have h0 : 256 * q + 256 ≤ 8192 := inb 0
  refine congrArg x (funext fun a => Fin.ext ?_)
  have hj := idx2_lt0 (n0 := 256) (n1 := 128) j
  match a with
  | ⟨0, _⟩ => show 256 * q + 1 * (j 0).val = (256 * q + (j 0).val) % 8192
              rw [Nat.mod_eq_of_lt (by omega)]; omega
  | ⟨1, _⟩ => show 0 + 1 * (j 1).val = (j 1).val
              omega

theorem part_window {α : Type} (x : S2048x256.Idx → α) (q : ℕ)
    (inb : ∀ a, (![16 * q, 0] : Fin 2 → ℕ) a + S16x256.size a ≤ S2048x256.size a) :
    VecWindow.window x ![16 * q, 0] S16x256.size inb = part x q := by
  funext j
  have h0 : 16 * q + 16 ≤ 2048 := inb 0
  refine congrArg x (funext fun a => Fin.ext ?_)
  have hj := idx2_lt0 (n0 := 16) (n1 := 256) j
  match a with
  | ⟨0, _⟩ => show 16 * q + 1 * (j 0).val = (16 * q + (j 0).val) % 2048
              rw [Nat.mod_eq_of_lt (by omega)]; omega
  | ⟨1, _⟩ => show 0 + 1 * (j 1).val = (j 1).val
              omega

/-- The decoded tile after `n` trips of the decode loop, over what was stored before. -/
theorem decode (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (t : BitVec 32) (X2 : BufTy.Contents (Elt F) arg2.view.ty) (X3 : BufTy.Contents (Elt F) arg3.view.ty) (G : BufTy.Contents (Elt F) arg11.view.ty)
    (n : ℕ) (hn : n ≤ 32) (y : S4096x2x256.Idx) :
    arg11.view.read (Elt F) (arg11.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 t (iota .tc S8x128 32 [0] iota_S8x128_d0_w32) k0_pay28 k0_pay29 X2 X3 n)) y
      = if (y 0).val < 128 * n then
          wTile t (arg2.view.read (Elt F) X2) (arg3.view.read (Elt F) X3) y
        else arg11.view.read (Elt F) G y := by
  induction n with
  | zero =>
    rw [if_neg (by omega)]
    rfl
  | succ k ih =>
    have hk : k < k0_t1_loop.trips := by have : k0_t1_loop.trips = 32 := by decide
                                         omega
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 t (iota .tc S8x128 32 [0] iota_S8x128_d0_w32) k0_pay28 k0_pay29 X2 X3 ⟨k, hk⟩
    rw [trip1] at e
    rw [e, List.singleton_append]
    have hy0 : (y 0).val < 4096 := (y 0).isLt
    have hy1 : (y 1).val < 2 := (y 1).isLt
    have hy2 : (y 2).val < 256 := (y 2).isLt
    by_cases h : 128 * k ≤ (y 0).val ∧ (y 0).val < 128 * k + 128
    · rw [if_pos (by omega)]
      have hq : (y 0).val / 128 = k := by omega
      refine (View.read_writes_cons_unit_of_mem arg11.view G (k0_off2_inb ⟨k, hk⟩) _ _ y
        (ix3 ⟨(y 0).val % 128, Nat.mod_lt _ (by decide)⟩ (y 1) (y 2)) (k0_off2_eq ⟨k, hk⟩) ?_).trans ?_
      · intro a
        match a with
        | ⟨0, _⟩ => show (y 0).val = 128 * k + (y 0).val % 128
                    omega
        | ⟨1, _⟩ => show (y 1).val = 0 + (y 1).val
                    omega
        | ⟨2, _⟩ => show (y 2).val = 0 + (y 2).val
                    omega
      · unfold wTile
        rw [hq]
        rw [View.readAt_unit arg2.view X2 _ (k0_off1_eq ⟨k, hk⟩) (by rw [← k0_off1_eq ⟨k, hk⟩]; exact k0_off1_inb ⟨k, hk⟩),
          View.readAt_unit arg3.view X3 _ (k0_off1_eq ⟨k, hk⟩) (by rw [← k0_off1_eq ⟨k, hk⟩]; exact k0_off1_inb ⟨k, hk⟩)]
        rw [rowBlk_window, rowBlk_window]
    · refine (View.read_writes_cons_unit_of_not_mem arg11.view G (k0_off2_inb ⟨k, hk⟩) _ _ y (k0_off2_eq ⟨k, hk⟩) 0 ?_).trans ?_
      · show (y 0).val < 128 * k ∨ 128 * k + 128 ≤ (y 0).val
        omega
      · rw [ih (by omega)]
        by_cases h' : (y 0).val < 128 * k
        · rw [if_pos h', if_pos (by omega)]
        · rw [if_neg h', if_neg (by omega)]

/-- The scratch tile after the decode loop, whatever was there before. -/
theorem decoded (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (t : BitVec 32) (X2 : BufTy.Contents (Elt F) arg2.view.ty) (X3 : BufTy.Contents (Elt F) arg3.view.ty) (G : BufTy.Contents (Elt F) arg11.view.ty) :
    arg11.view.read (Elt F) (arg11.view.writes (Elt F) G
        (pb_k0_t1 (F := F) Variants.none c none i arg1 harg1 arg2 harg2 arg3 harg3 arg4 harg4 arg5 harg5 arg6 harg6 arg7 harg7 arg8 harg8 arg9 harg9 arg10 harg10 arg11 harg11 arg12 harg12 t (iota .tc S8x128 32 [0] iota_S8x128_d0_w32) k0_pay28 k0_pay29 X2 X3 k0_t1_loop.trips))
      = wTile t (arg2.view.read (Elt F) X2) (arg3.view.read (Elt F) X3) := by
  funext y
  have h1 : k0_t1_loop.trips = 32 := by decide
  have hy0 : (y 0).val < 4096 := (y 0).isLt
  rw [h1, decode c i arg1 harg1 arg2 harg2 arg3 harg3 arg4 harg4 arg5 harg5 arg6 harg6 arg7 harg7 arg8 harg8 arg9 harg9 arg10 harg10 arg11 harg11 arg12 harg12 t X2 X3 G 32 le_rfl y, if_pos (by omega)]

/-- The gate gradient after `n` trips of the second loop. -/
theorem dg_after (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg8.view.ty) (n : ℕ) (hn : n ≤ 128) (y : S2048x256.Idx) :
    arg8.view.read (Elt F) (arg8.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 n).1) y
      = if (y 0).val < 16 * n then dgTile (arg6.view.read (Elt F) X6) (arg7.view.read (Elt F) X7) (arg12.view.read (Elt F) X12) y
        else arg8.view.read (Elt F) G y := by
  induction n with
  | zero =>
    rw [if_neg (by omega)]
    rfl
  | succ k ih =>
    have hk : k < k0_t2_loop.trips := by have : k0_t2_loop.trips = 128 := by decide
                                         omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 X6 X7 X12 ⟨k, hk⟩
    rw [trip2] at e
    have e' := congrArg (fun p => p.1) e
    dsimp only at e'
    rw [e', List.singleton_append]
    have hy0 : (y 0).val < 2048 := (y 0).isLt
    have hy1 : (y 1).val < 256 := (y 1).isLt
    have hb : ∀ a, (![16 * k, 0] : Fin 2 → ℕ) a + S16x256.size a ≤ S2048x256.size a := by
      have := k0_off3_inb ⟨k, hk⟩; rwa [k0_off3_eq ⟨k, hk⟩] at this
    by_cases h : 16 * k ≤ (y 0).val ∧ (y 0).val < 16 * k + 16
    · rw [if_pos (by omega)]
      have hq : (y 0).val / 16 = k := by omega
      refine (View.read_writes_cons_unit_of_mem arg8.view G (k0_off3_inb ⟨k, hk⟩) _ _ y
        (ix2 ⟨(y 0).val % 16, Nat.mod_lt _ (by decide)⟩ (y 1)) (k0_off3_eq ⟨k, hk⟩) ?_).trans ?_
      · intro a
        match a with
        | ⟨0, _⟩ => show (y 0).val = 16 * k + (y 0).val % 16
                    omega
        | ⟨1, _⟩ => show (y 1).val = 0 + (y 1).val
                    omega
      · unfold dgTile
        rw [hq]
        rw [View.readAt_unit arg6.view X6 _ (k0_off3_eq ⟨k, hk⟩) hb, View.readAt_unit arg7.view X7 _ (k0_off3_eq ⟨k, hk⟩) hb, View.readAt_unit arg12.view X12 _ (k0_off3_eq ⟨k, hk⟩) hb]
        have e6 := part_window (arg6.view.read (Elt F) X6) k hb
        have e7 := part_window (arg7.view.read (Elt F) X7) k hb
        have e12 := part_window (arg12.view.read (Elt F) X12) k hb
        rw [e6, e7, e12]
    · refine (View.read_writes_cons_unit_of_not_mem arg8.view G (k0_off3_inb ⟨k, hk⟩) _ _ y (k0_off3_eq ⟨k, hk⟩) 0 ?_).trans ?_
      · show (y 0).val < 16 * k ∨ 16 * k + 16 ≤ (y 0).val
        omega
      · rw [ih (by omega)]
        by_cases h' : (y 0).val < 16 * k
        · rw [if_pos h', if_pos (by omega)]
        · rw [if_neg h', if_neg (by omega)]

/-- The gate gradient after the second loop, whatever was there before. -/
theorem dg_done (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg8.view.ty) :
    arg8.view.read (Elt F) (arg8.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 k0_t2_loop.trips).1)
      = dgTile (arg6.view.read (Elt F) X6) (arg7.view.read (Elt F) X7) (arg12.view.read (Elt F) X12) := by
  funext y
  have h1 : k0_t2_loop.trips = 128 := by decide
  have hy0 : (y 0).val < 2048 := (y 0).isLt
  rw [h1, dg_after c i arg1 harg1 arg2 harg2 arg3 harg3 arg4 harg4 arg5 harg5 arg6 harg6 arg7 harg7 arg8 harg8 arg9 harg9 arg10 harg10 arg11 harg11 arg12 harg12 X6 X7 X12 G 128 le_rfl y, if_pos (by omega)]

/-- The up gradient after `n` trips of the second loop. -/
theorem du_after (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg9.view.ty) (n : ℕ) (hn : n ≤ 128) (y : S2048x256.Idx) :
    arg9.view.read (Elt F) (arg9.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 n).2.1) y
      = if (y 0).val < 16 * n then duTile (arg6.view.read (Elt F) X6) (arg12.view.read (Elt F) X12) y
        else arg9.view.read (Elt F) G y := by
  induction n with
  | zero =>
    rw [if_neg (by omega)]
    rfl
  | succ k ih =>
    have hk : k < k0_t2_loop.trips := by have : k0_t2_loop.trips = 128 := by decide
                                         omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 X6 X7 X12 ⟨k, hk⟩
    rw [trip2] at e
    have e' := congrArg (fun p => p.2.1) e
    dsimp only at e'
    rw [e', List.singleton_append]
    have hy0 : (y 0).val < 2048 := (y 0).isLt
    have hy1 : (y 1).val < 256 := (y 1).isLt
    have hb : ∀ a, (![16 * k, 0] : Fin 2 → ℕ) a + S16x256.size a ≤ S2048x256.size a := by
      have := k0_off3_inb ⟨k, hk⟩; rwa [k0_off3_eq ⟨k, hk⟩] at this
    by_cases h : 16 * k ≤ (y 0).val ∧ (y 0).val < 16 * k + 16
    · rw [if_pos (by omega)]
      have hq : (y 0).val / 16 = k := by omega
      refine (View.read_writes_cons_unit_of_mem arg9.view G (k0_off3_inb ⟨k, hk⟩) _ _ y
        (ix2 ⟨(y 0).val % 16, Nat.mod_lt _ (by decide)⟩ (y 1)) (k0_off3_eq ⟨k, hk⟩) ?_).trans ?_
      · intro a
        match a with
        | ⟨0, _⟩ => show (y 0).val = 16 * k + (y 0).val % 16
                    omega
        | ⟨1, _⟩ => show (y 1).val = 0 + (y 1).val
                    omega
      · unfold duTile
        rw [hq]
        rw [View.readAt_unit arg6.view X6 _ (k0_off3_eq ⟨k, hk⟩) hb, View.readAt_unit arg12.view X12 _ (k0_off3_eq ⟨k, hk⟩) hb]
        have e6 := part_window (arg6.view.read (Elt F) X6) k hb
        have e12 := part_window (arg12.view.read (Elt F) X12) k hb
        rw [e6, e12]
    · refine (View.read_writes_cons_unit_of_not_mem arg9.view G (k0_off3_inb ⟨k, hk⟩) _ _ y (k0_off3_eq ⟨k, hk⟩) 0 ?_).trans ?_
      · show (y 0).val < 16 * k ∨ 16 * k + 16 ≤ (y 0).val
        omega
      · rw [ih (by omega)]
        by_cases h' : (y 0).val < 16 * k
        · rw [if_pos h', if_pos (by omega)]
        · rw [if_neg h', if_neg (by omega)]

/-- The up gradient after the second loop, whatever was there before. -/
theorem du_done (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg9.view.ty) :
    arg9.view.read (Elt F) (arg9.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 k0_t2_loop.trips).2.1)
      = duTile (arg6.view.read (Elt F) X6) (arg12.view.read (Elt F) X12) := by
  funext y
  have h1 : k0_t2_loop.trips = 128 := by decide
  have hy0 : (y 0).val < 2048 := (y 0).isLt
  rw [h1, du_after c i arg1 harg1 arg2 harg2 arg3 harg3 arg4 harg4 arg5 harg5 arg6 harg6 arg7 harg7 arg8 harg8 arg9 harg9 arg10 harg10 arg11 harg11 arg12 harg12 X6 X7 X12 G 128 le_rfl y, if_pos (by omega)]

/-- The activation after `n` trips of the second loop. -/
theorem act_after (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg10.view.ty) (n : ℕ) (hn : n ≤ 128) (y : S2048x256.Idx) :
    arg10.view.read (Elt F) (arg10.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 n).2.2) y
      = if (y 0).val < 16 * n then aTile (arg6.view.read (Elt F) X6) (arg7.view.read (Elt F) X7) y
        else arg10.view.read (Elt F) G y := by
  induction n with
  | zero =>
    rw [if_neg (by omega)]
    rfl
  | succ k ih =>
    have hk : k < k0_t2_loop.trips := by have : k0_t2_loop.trips = 128 := by decide
                                         omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 X6 X7 X12 ⟨k, hk⟩
    rw [trip2] at e
    have e' := congrArg (fun p => p.2.2) e
    dsimp only at e'
    rw [e', List.singleton_append]
    have hy0 : (y 0).val < 2048 := (y 0).isLt
    have hy1 : (y 1).val < 256 := (y 1).isLt
    have hb : ∀ a, (![16 * k, 0] : Fin 2 → ℕ) a + S16x256.size a ≤ S2048x256.size a := by
      have := k0_off3_inb ⟨k, hk⟩; rwa [k0_off3_eq ⟨k, hk⟩] at this
    by_cases h : 16 * k ≤ (y 0).val ∧ (y 0).val < 16 * k + 16
    · rw [if_pos (by omega)]
      have hq : (y 0).val / 16 = k := by omega
      refine (View.read_writes_cons_unit_of_mem arg10.view G (k0_off3_inb ⟨k, hk⟩) _ _ y
        (ix2 ⟨(y 0).val % 16, Nat.mod_lt _ (by decide)⟩ (y 1)) (k0_off3_eq ⟨k, hk⟩) ?_).trans ?_
      · intro a
        match a with
        | ⟨0, _⟩ => show (y 0).val = 16 * k + (y 0).val % 16
                    omega
        | ⟨1, _⟩ => show (y 1).val = 0 + (y 1).val
                    omega
      · unfold aTile
        rw [hq]
        rw [View.readAt_unit arg6.view X6 _ (k0_off3_eq ⟨k, hk⟩) hb, View.readAt_unit arg7.view X7 _ (k0_off3_eq ⟨k, hk⟩) hb]
        have e6 := part_window (arg6.view.read (Elt F) X6) k hb
        have e7 := part_window (arg7.view.read (Elt F) X7) k hb
        rw [e6, e7]
    · refine (View.read_writes_cons_unit_of_not_mem arg10.view G (k0_off3_inb ⟨k, hk⟩) _ _ y (k0_off3_eq ⟨k, hk⟩) 0 ?_).trans ?_
      · show (y 0).val < 16 * k ∨ 16 * k + 16 ≤ (y 0).val
        omega
      · rw [ih (by omega)]
        by_cases h' : (y 0).val < 16 * k
        · rw [if_pos h', if_pos (by omega)]
        · rw [if_neg h', if_neg (by omega)]

/-- The activation after the second loop, whatever was there before. -/
theorem act_done (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (X6 : BufTy.Contents (Elt F) arg6.view.ty) (X7 : BufTy.Contents (Elt F) arg7.view.ty) (X12 : BufTy.Contents (Elt F) arg12.view.ty) (G : BufTy.Contents (Elt F) arg10.view.ty) :
    arg10.view.read (Elt F) (arg10.view.writes (Elt F) G (pb_k0_t2 (F := F) Variants.none c none i arg1 harg1 arg2 harg2 arg3 harg3 arg4 harg4 arg5 harg5 arg6 harg6 arg7 harg7 arg8 harg8 arg9 harg9 arg10 harg10 arg11 harg11 arg12 harg12 X6 X7 X12 k0_t2_loop.trips).2.2)
      = aTile (arg6.view.read (Elt F) X6) (arg7.view.read (Elt F) X7) := by
  funext y
  have h1 : k0_t2_loop.trips = 128 := by decide
  have hy0 : (y 0).val < 2048 := (y 0).isLt
  rw [h1, act_after c i arg1 harg1 arg2 harg2 arg3 harg3 arg4 harg4 arg5 harg5 arg6 harg6 arg7 harg7 arg8 harg8 arg9 harg9 arg10 harg10 arg11 harg11 arg12 harg12 X6 X7 X12 G 128 le_rfl y, if_pos (by omega)]

end Cert.DownIdeal.Down

end
-- ==== Proof.Down.Blocks.lean ====
/-
  The products the body adds up, one step at a time.
-/
module

public import proofs.«01_k».proof.Proof.Down.Tile
public import Idealize.ShloMosaic.Lib.Pipeline.Value

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The rows of 128 pairs, in order. -/
def rows (raw : Vec F S128x2x256 .bf16) : FVec F S256x256 .bf16 :=
  interleaveRows S256x256 (shapeCast S128x256 (rowsOfParity 0 S128x1x256 raw bitcasts_S128x2x256_w16_S128x1x256_w32) shapeCasts_S128x1x256_S128x256)
    (shapeCast S128x256 (rowsOfParity 1 S128x1x256 raw bitcasts_S128x2x256_w16_S128x1x256_w32) shapeCasts_S128x1x256_S128x256) bitcasts_S256x256_w16_S128x256_w32

/-- One more product added to a running sum. -/
def step (acc : FVec F S1024x256 .f32) (raw : Vec F S128x2x256 .bf16) (x : Vec F S1024x256 .bf16) : FVec F S1024x256 .f32 :=
  addf acc (matmul dot_S1024x256_S256x256_S1024x256_1_0_0_1_n_n none x (rows raw) (constant S1024x256 .f32 0x00000000#32))

/-- The adapter product of 1024 rows. -/
def start (z : Vec F S1024x64 .bf16) (ap : Vec F S64x256 .bf16) : FVec F S1024x256 .f32 :=
  matmul dot_S1024x64_S64x256_S1024x256_1_0_0_1_n_n none z ap (constant S1024x256 .f32 0x00000000#32)

theorem chain_zero (dy : Vec F S2048x8192 .bf16) (dz : Vec F S2048x64 .bf16) (ap : Vec F S64x256 .bf16) (w : Vec F S4096x2x256 .bf16) (b : Fin 2) :
    chain dy dz ap w b 0 = start (VecWindow.window dz ![1024 * b.val, 0] S1024x64.size (by revert b; decide)) ap := rfl

theorem chain_succ (dy : Vec F S2048x8192 .bf16) (dz : Vec F S2048x64 .bf16) (ap : Vec F S64x256 .bf16) (w : Vec F S4096x2x256 .bf16) (b : Fin 2) (n : ℕ) (h : n < 32) :
    chain dy dz ap w b (n + 1) = step (chain dy dz ap w b n)
      (VecWindow.window w ![128 * n, 0, 0] S128x2x256.size (by intro a; match a with
        | ⟨0, _⟩ => show 128 * n + 128 ≤ 4096
                    omega
        | ⟨1, _⟩ => show 0 + 2 ≤ 2
                    omega
        | ⟨2, _⟩ => show 0 + 256 ≤ 256
                    omega))
      (VecWindow.window dy ![1024 * b.val, 256 * n] S1024x256.size (by have := b.isLt; intro a; match a with
        | ⟨0, _⟩ => show 1024 * b.val + 1024 ≤ 2048
                    omega
        | ⟨1, _⟩ => show 256 * n + 256 ≤ 8192
                    omega)) := by
  show addf (chain dy dz ap w b n) (dotK dy w b ⟨n % 32, _⟩) = _
  have e : (⟨n % 32, Nat.mod_lt _ (by decide)⟩ : Fin 32) = ⟨n, h⟩ := Fin.ext (Nat.mod_eq_of_lt h)
  rw [e]
  rfl

/-- `chain_succ` with the offsets given by equations. -/
theorem chain_step (dy : Vec F S2048x8192 .bf16) (dz : Vec F S2048x64 .bf16) (ap : Vec F S64x256 .bf16) (w : Vec F S4096x2x256 .bf16) (b : Fin 2) (n : ℕ) (h : n < 32)
    (acc : FVec F S1024x256 .f32) (hacc : chain dy dz ap w b n = acc) (o1 : Fin 3 → ℕ) (o2 : Fin 2 → ℕ)
    (h1 : o1 = ![128 * n, 0, 0]) (h2 : o2 = ![1024 * b.val, 256 * n])
    (inb1 : ∀ a, o1 a + S128x2x256.size a ≤ S4096x2x256.size a) (inb2 : ∀ a, o2 a + S1024x256.size a ≤ S2048x8192.size a) :
    chain dy dz ap w b (n + 1) = step acc (VecWindow.window w o1 S128x2x256.size inb1) (VecWindow.window dy o2 S1024x256.size inb2) := by
  subst h1 h2 hacc
  exact chain_succ dy dz ap w b n h

theorem pay1_eq (v : FVec F S1024x256 .f32) : k0_pay1 v = v := by
  unfold k0_pay1
  exact shapeCast_self _ _

theorem pay32_eq (z : Vec F S1024x64 .bf16) (ap : Vec F S64x256 .bf16) : k0_pay32 z ap = start z ap := rfl

theorem pay34_eq (v70 : FVec F S1024x256 .f32) (v71_raw : Vec F S128x2x256 .bf16) (v73 : Vec F S1024x256 .bf16) (v76_raw : Vec F S128x2x256 .bf16) (v78 : Vec F S1024x256 .bf16) (v81_raw : Vec F S128x2x256 .bf16) (v83 : Vec F S1024x256 .bf16) (v86_raw : Vec F S128x2x256 .bf16) (v88 : Vec F S1024x256 .bf16) (v91_raw : Vec F S128x2x256 .bf16) (v93 : Vec F S1024x256 .bf16) :
    k0_pay34 v70 v71_raw (k0_pay33 v71_raw) v73 v76_raw v78 v81_raw v83 v86_raw v88 v91_raw v93 = step (step (step (step (step v70 v71_raw v73) v76_raw v78) v81_raw v83) v86_raw v88) v91_raw v93 := rfl

theorem pay36_eq (v95 : FVec F S1024x256 .f32) (v96_raw : Vec F S128x2x256 .bf16) (v98 : Vec F S1024x256 .bf16) (v101_raw : Vec F S128x2x256 .bf16) (v103 : Vec F S1024x256 .bf16) (v106_raw : Vec F S128x2x256 .bf16) (v108 : Vec F S1024x256 .bf16) (v111_raw : Vec F S128x2x256 .bf16) (v113 : Vec F S1024x256 .bf16) (v116_raw : Vec F S128x2x256 .bf16) (v118 : Vec F S1024x256 .bf16) :
    k0_pay36 v95 v96_raw (k0_pay35 v96_raw) v98 v101_raw v103 v106_raw v108 v111_raw v113 v116_raw v118 = step (step (step (step (step v95 v96_raw v98) v101_raw v103) v106_raw v108) v111_raw v113) v116_raw v118 := rfl

theorem pay38_eq (v120 : FVec F S1024x256 .f32) (v121_raw : Vec F S128x2x256 .bf16) (v123 : Vec F S1024x256 .bf16) (v126_raw : Vec F S128x2x256 .bf16) (v128 : Vec F S1024x256 .bf16) (v131_raw : Vec F S128x2x256 .bf16) (v133 : Vec F S1024x256 .bf16) (v136_raw : Vec F S128x2x256 .bf16) (v138 : Vec F S1024x256 .bf16) (v141_raw : Vec F S128x2x256 .bf16) (v143 : Vec F S1024x256 .bf16) :
    k0_pay38 v120 v121_raw (k0_pay37 v121_raw) v123 v126_raw v128 v131_raw v133 v136_raw v138 v141_raw v143 = step (step (step (step (step v120 v121_raw v123) v126_raw v128) v131_raw v133) v136_raw v138) v141_raw v143 := rfl

theorem pay40_eq (v145 : FVec F S1024x256 .f32) (v146_raw : Vec F S128x2x256 .bf16) (v148 : Vec F S1024x256 .bf16) (v151_raw : Vec F S128x2x256 .bf16) (v153 : Vec F S1024x256 .bf16) (v156_raw : Vec F S128x2x256 .bf16) (v158 : Vec F S1024x256 .bf16) (v161_raw : Vec F S128x2x256 .bf16) (v163 : Vec F S1024x256 .bf16) (v166_raw : Vec F S128x2x256 .bf16) (v168 : Vec F S1024x256 .bf16) :
    k0_pay40 v145 v146_raw (k0_pay39 v146_raw) v148 v151_raw v153 v156_raw v158 v161_raw v163 v166_raw v168 = step (step (step (step (step v145 v146_raw v148) v151_raw v153) v156_raw v158) v161_raw v163) v166_raw v168 := rfl

theorem pay42_eq (v170 : FVec F S1024x256 .f32) (v171_raw : Vec F S128x2x256 .bf16) (v173 : Vec F S1024x256 .bf16) (v176_raw : Vec F S128x2x256 .bf16) (v178 : Vec F S1024x256 .bf16) (v181_raw : Vec F S128x2x256 .bf16) (v183 : Vec F S1024x256 .bf16) (v186_raw : Vec F S128x2x256 .bf16) (v188 : Vec F S1024x256 .bf16) (v191_raw : Vec F S128x2x256 .bf16) (v193 : Vec F S1024x256 .bf16) :
    k0_pay42 v170 v171_raw (k0_pay41 v171_raw) v173 v176_raw v178 v181_raw v183 v186_raw v188 v191_raw v193 = step (step (step (step (step v170 v171_raw v173) v176_raw v178) v181_raw v183) v186_raw v188) v191_raw v193 := rfl

theorem pay44_eq (v195 : FVec F S1024x256 .f32) (v196_raw : Vec F S128x2x256 .bf16) (v198 : Vec F S1024x256 .bf16) (v201_raw : Vec F S128x2x256 .bf16) (v203 : Vec F S1024x256 .bf16) (v206_raw : Vec F S128x2x256 .bf16) (v208 : Vec F S1024x256 .bf16) (v211_raw : Vec F S128x2x256 .bf16) (v213 : Vec F S1024x256 .bf16) (v216_raw : Vec F S128x2x256 .bf16) (v218 : Vec F S1024x256 .bf16) :
    k0_pay44 v195 v196_raw (k0_pay43 v196_raw) v198 v201_raw v203 v206_raw v208 v211_raw v213 v216_raw v218 = step (step (step (step (step v195 v196_raw v198) v201_raw v203) v206_raw v208) v211_raw v213) v216_raw v218 := rfl

theorem pay46_eq (v220 : FVec F S1024x256 .f32) (v221_raw : Vec F S128x2x256 .bf16) (v223 : Vec F S1024x256 .bf16) (v226_raw : Vec F S128x2x256 .bf16) (v228 : Vec F S1024x256 .bf16) :
    k0_pay46 v220 v221_raw (k0_pay45 v221_raw) v223 v226_raw v228 = step (step v220 v221_raw v223) v226_raw v228 := by
  unfold k0_pay46
  exact shapeCast_self _ _

theorem pay47_eq (v234 : Vec F S1024x64 .bf16) (v235 : Vec F S64x256 .bf16) (v237_raw : Vec F S128x2x256 .bf16) (v239 : Vec F S1024x256 .bf16) (v242_raw : Vec F S128x2x256 .bf16) (v244 : Vec F S1024x256 .bf16) :
    k0_pay47 v234 v235 v237_raw v239 v242_raw v244 = step (step (start v234 v235) v237_raw v239) v242_raw v244 := rfl

theorem pay48_eq (v246 : FVec F S1024x256 .f32) (v247_raw : Vec F S128x2x256 .bf16) (v249 : Vec F S1024x256 .bf16) (v252_raw : Vec F S128x2x256 .bf16) (v254 : Vec F S1024x256 .bf16) (v257_raw : Vec F S128x2x256 .bf16) (v259 : Vec F S1024x256 .bf16) (v262_raw : Vec F S128x2x256 .bf16) (v264 : Vec F S1024x256 .bf16) (v267_raw : Vec F S128x2x256 .bf16) (v269 : Vec F S1024x256 .bf16) :
    k0_pay48 v246 v247_raw v249 v252_raw v254 v257_raw v259 v262_raw v264 v267_raw v269 = step (step (step (step (step v246 v247_raw v249) v252_raw v254) v257_raw v259) v262_raw v264) v267_raw v269 := rfl

theorem pay49_eq (v271 : FVec F S1024x256 .f32) (v272_raw : Vec F S128x2x256 .bf16) (v274 : Vec F S1024x256 .bf16) (v277_raw : Vec F S128x2x256 .bf16) (v279 : Vec F S1024x256 .bf16) (v282_raw : Vec F S128x2x256 .bf16) (v284 : Vec F S1024x256 .bf16) (v287_raw : Vec F S128x2x256 .bf16) (v289 : Vec F S1024x256 .bf16) (v292_raw : Vec F S128x2x256 .bf16) (v294 : Vec F S1024x256 .bf16) :
    k0_pay49 v271 v272_raw v274 v277_raw v279 v282_raw v284 v287_raw v289 v292_raw v294 = step (step (step (step (step v271 v272_raw v274) v277_raw v279) v282_raw v284) v287_raw v289) v292_raw v294 := rfl

theorem pay50_eq (v296 : FVec F S1024x256 .f32) (v297_raw : Vec F S128x2x256 .bf16) (v299 : Vec F S1024x256 .bf16) (v302_raw : Vec F S128x2x256 .bf16) (v304 : Vec F S1024x256 .bf16) (v307_raw : Vec F S128x2x256 .bf16) (v309 : Vec F S1024x256 .bf16) (v312_raw : Vec F S128x2x256 .bf16) (v314 : Vec F S1024x256 .bf16) (v317_raw : Vec F S128x2x256 .bf16) (v319 : Vec F S1024x256 .bf16) :
    k0_pay50 v296 v297_raw v299 v302_raw v304 v307_raw v309 v312_raw v314 v317_raw v319 = step (step (step (step (step v296 v297_raw v299) v302_raw v304) v307_raw v309) v312_raw v314) v317_raw v319 := rfl

theorem pay51_eq (v321 : FVec F S1024x256 .f32) (v322_raw : Vec F S128x2x256 .bf16) (v324 : Vec F S1024x256 .bf16) (v327_raw : Vec F S128x2x256 .bf16) (v329 : Vec F S1024x256 .bf16) (v332_raw : Vec F S128x2x256 .bf16) (v334 : Vec F S1024x256 .bf16) (v337_raw : Vec F S128x2x256 .bf16) (v339 : Vec F S1024x256 .bf16) (v342_raw : Vec F S128x2x256 .bf16) (v344 : Vec F S1024x256 .bf16) :
    k0_pay51 v321 v322_raw v324 v327_raw v329 v332_raw v334 v337_raw v339 v342_raw v344 = step (step (step (step (step v321 v322_raw v324) v327_raw v329) v332_raw v334) v337_raw v339) v342_raw v344 := rfl

theorem pay52_eq (v346 : FVec F S1024x256 .f32) (v347_raw : Vec F S128x2x256 .bf16) (v349 : Vec F S1024x256 .bf16) (v352_raw : Vec F S128x2x256 .bf16) (v354 : Vec F S1024x256 .bf16) (v357_raw : Vec F S128x2x256 .bf16) (v359 : Vec F S1024x256 .bf16) (v362_raw : Vec F S128x2x256 .bf16) (v364 : Vec F S1024x256 .bf16) (v367_raw : Vec F S128x2x256 .bf16) (v369 : Vec F S1024x256 .bf16) :
    k0_pay52 v346 v347_raw v349 v352_raw v354 v357_raw v359 v362_raw v364 v367_raw v369 = step (step (step (step (step v346 v347_raw v349) v352_raw v354) v357_raw v359) v362_raw v364) v367_raw v369 := rfl

theorem pay53_eq (v371 : FVec F S1024x256 .f32) (v372_raw : Vec F S128x2x256 .bf16) (v374 : Vec F S1024x256 .bf16) (v377_raw : Vec F S128x2x256 .bf16) (v379 : Vec F S1024x256 .bf16) (v382_raw : Vec F S128x2x256 .bf16) (v384 : Vec F S1024x256 .bf16) (v387_raw : Vec F S128x2x256 .bf16) (v389 : Vec F S1024x256 .bf16) (v392_raw : Vec F S128x2x256 .bf16) (v394 : Vec F S1024x256 .bf16) :
    k0_pay53 v371 v372_raw v374 v377_raw v379 v382_raw v384 v387_raw v389 v392_raw v394 = step (step (step (step (step v371 v372_raw v374) v377_raw v379) v382_raw v384) v387_raw v389) v392_raw v394 := rfl

end Cert.DownIdeal.Down

end
-- ==== Proof.Down.Run.lean ====
/-
  One grid step of the kernel body: from its seven input blocks, the three result tiles.
-/
module

public import proofs.«01_k».proof.Proof.Down.Reads
public import proofs.«01_k».proof.Proof.Down.Blocks

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The column tile of the product that one grid step keeps in scratch. -/
def outDa (t : BitVec 32) (x0 : Vec F S2048x8192 .bf16) (x1 : Vec F S8192x128 .i8) (x2 : Vec F S8192x128 .f32)
    (x3 : Vec F S2048x64 .bf16) (x4 : Vec F S64x256 .bf16) : Vec F S2048x256 .f32 :=
  daTile x0 x3 x4 (wTile t x1 x2)

theorem readAt_window {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

theorem window_full {α : Type} (x : S64x256.Idx → α) (inb : ∀ a, (![0, 0] : Fin 2 → ℕ) a + S64x256.size a ≤ S64x256.size a) :
    VecWindow.window x ![0, 0] S64x256.size inb = x := by
  funext j
  refine congrArg x (funext fun a => Fin.ext ?_)
  match a with
  | ⟨0, _⟩ => show 0 + 1 * (j 0).val = (j 0).val
              omega
  | ⟨1, _⟩ => show 0 + 1 * (j 1).val = (j 1).val
              omega

set_option maxHeartbeats 4000000 in
/-- One grid step. -/
theorem run (c : Dev nD) (i : grid0.Coords) (arg1 : Memref sig .tc .vmem S2048x8192 .bf16) (harg1 : arg1.IsWhole) (arg2 : Memref sig .tc .vmem S8192x128 .i8) (harg2 : arg2.IsWhole) (arg3 : Memref sig .tc .vmem S8192x128 .f32) (harg3 : arg3.IsWhole) (arg4 : Memref sig .tc .vmem S2048x64 .bf16) (harg4 : arg4.IsWhole) (arg5 : Memref sig .tc .vmem S64x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S4096x2x256 .bf16) (harg11 : arg11.IsWhole) (arg12 : Memref sig .tc .vmem S2048x256 .f32) (harg12 : arg12.IsWhole) (x0 : Vec F S2048x8192 .bf16) (x1 : Vec F S8192x128 .i8) (x2 : Vec F S8192x128 .f32) (x3 : Vec F S2048x64 .bf16) (x4 : Vec F S64x256 .bf16) (x5 : Vec F S2048x256 .bf16) (x6 : Vec F S2048x256 .bf16) :
    ∀ E (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dgTile x5 x6 (outDa (BitVec.ofNat 32 (i 0).val) x0 x1 x2 x3 x4)) ∗ owns (c : Thread nD τ) arg9 fullShare (duTile x5 (outDa (BitVec.ofNat 32 (i 0).val) x0 x1 x2 x3 x4)) ∗ owns (c : Thread nD τ) arg10 fullShare (aTile x5 x6) ∗ (∃ d, owns (c : Thread nD τ) arg11 fullShare d) ∗ (∃ d, owns (c : Thread nD τ) arg12 fullShare d)) -∗ K ⟨⟩))
        ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12) K := by
  intro E K
  simp only [cc0_down_eq_skeleton]; unfold cc0_down_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have hD : View.read (Elt F) arg12.view (arg12.view.writes (Elt F) arg12.view.junk (run.sl.HS1_2 c i arg1 harg1 arg2 harg2 arg3 harg3 arg4 harg4 arg5 harg5 arg6 harg6 arg7 harg7 arg8 harg8 arg9 harg9 arg10 harg10 arg11 harg11 arg12 harg12 x0 x1 x2 x3 x4 fs0)) = (outDa (BitVec.ofNat 32 (i 0).val) x0 x1 x2 x3 x4) := by
    sl_unfold_words
    have hW := decoded c i arg1 harg1 arg2 harg2 arg3 harg3 arg4 harg4 arg5 harg5 arg6 harg6 arg7 harg7 arg8 harg8 arg9 harg9 arg10 harg10 arg11 harg11 arg12 harg12 (BitVec.ofNat 32 (i 0).val) (harg2.unread x1) (harg3.unread x2) fs0
    simp only [harg1.read_unread, harg2.read_unread, harg3.read_unread, harg4.read_unread, harg5.read_unread, harg6.read_unread, harg7.read_unread] at hW
    replace hW : View.read (Elt F) arg11.view (arg11.view.writes (Elt F) fs0 (pb_k0_t1 (F := F) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) (iota .tc S8x128 32 [0] iota_S8x128_d0_w32) k0_pay28 k0_pay29 (harg2.unread x1) (harg3.unread x2) (Scf.trips k0_t1_loop.lb k0_t1_loop.ub k0_t1_loop.st))) = _ := hW
    generalize arg11.view.writes (Elt F) fs0 _ = S at hW ⊢
    funext y
    have hy0 := idx2_lt0 (n0 := 2048) (n1 := 256) y
    unfold outDa daTile
    by_cases h : (y 0).val < 1024
    · rw [dif_pos h]
      refine (View.read_writes_cons_unit_of_not_mem arg12.view _ _ _ _ y rfl 0 (.inl h)).trans ?_
      refine (View.read_writes_cons_unit_of_mem arg12.view _ _ _ _ y (ix2 ⟨(y 0).val, h⟩ (y 1)) rfl ?_).trans ?_
      · intro a
        match a with
        | ⟨0, _⟩ => exact (Nat.zero_add _).symm
        | ⟨1, _⟩ => exact (Nat.zero_add _).symm
      · simp only [readAt_window, hW, harg1.read_unread, harg2.read_unread, harg3.read_unread, harg4.read_unread, harg5.read_unread, harg6.read_unread, harg7.read_unread, window_full]
        simp only [pay1_eq, pay32_eq, pay34_eq, pay36_eq, pay38_eq, pay40_eq, pay42_eq, pay44_eq, pay46_eq, pay47_eq, pay48_eq, pay49_eq, pay50_eq, pay51_eq, pay52_eq, pay53_eq]
        refine congrFun (Eq.symm ?_) _
        refine chain_step _ _ _ _ _ 31 (by decide) _ ?_ _ _ rfl rfl _ _
        refine chain_step _ _ _ _ _ 30 (by decide) _ ?_ _ _ rfl rfl _ _
        refine chain_step _ _ _ _ _ 29 (by decide) _ ?_ _ _ rfl rfl _ _
        refine chain_step _ _ _ _ _ 28 (by decide) _ ?_ _ _ rfl rfl _ _
        refine chain_step _ _ _ _ _ 27 (by decide) _ ?_ _ _ rfl rfl _ _
        refine chain_step _ _ _ _ _ 26 (by decide) _ ?_ _ _ rfl rfl _ _
        refine chain_step _ _ _ _ _ 25 (by decide) _ ?_ _ _ rfl rfl _ _
        refine chain_step _ _ _ _ _ 24 (by decide) _ ?_ _ _ rfl rfl _ _
        refine chain_step _ _ _ _ _ 23 (by decide) _ ?_ _ _ rfl rfl _ _
        refine chain_step _ _ _ _ _ 22 (by decide) _ ?_ _ _ rfl rfl _ _
        refine chain_step _ _ _ _ _ 21 (by decide) _ ?_ _ _ rfl rfl _ _
        refine chain_step _ _ _ _ _ 20 (by decide) _ ?_ _ _ rfl rfl _ _
        refine chain_step _ _ _ _ _ 19 (by decide) _ ?_ _ _ rfl rfl _ _
        refine chain_step _ _ _ _ _ 18 (by decide) _ ?_ _ _ rfl rfl _ _
        refine chain_step _ _ _ _ _ 17 (by decide) _ ?_ _ _ rfl rfl _ _
        refine chain_step _ _ _ _ _ 16 (by decide) _ ?_ _ _ rfl rfl _ _
        refine chain_step _ _ _ _ _ 15 (by decide) _ ?_ _ _ rfl rfl _ _
        refine chain_step _ _ _ _ _ 14 (by decide) _ ?_ _ _ rfl rfl _ _
        refine chain_step _ _ _ _ _ 13 (by decide) _ ?_ _ _ rfl rfl _ _
        refine chain_step _ _ _ _ _ 12 (by decide) _ ?_ _ _ rfl rfl _ _
        refine chain_step _ _ _ _ _ 11 (by decide) _ ?_ _ _ rfl rfl _ _
        refine chain_step _ _ _ _ _ 10 (by decide) _ ?_ _ _ rfl rfl _ _
        refine chain_step _ _ _ _ _ 9 (by decide) _ ?_ _ _ rfl rfl _ _
        refine chain_step _ _ _ _ _ 8 (by decide) _ ?_ _ _ rfl rfl _ _
        refine chain_step _ _ _ _ _ 7 (by decide) _ ?_ _ _ rfl rfl _ _
        refine chain_step _ _ _ _ _ 6 (by decide) _ ?_ _ _ rfl rfl _ _
        refine chain_step _ _ _ _ _ 5 (by decide) _ ?_ _ _ rfl rfl _ _
        refine chain_step _ _ _ _ _ 4 (by decide) _ ?_ _ _ rfl rfl _ _
        refine chain_step _ _ _ _ _ 3 (by decide) _ ?_ _ _ rfl rfl _ _
        refine chain_step _ _ _ _ _ 2 (by decide) _ ?_ _ _ rfl rfl _ _
        refine chain_step _ _ _ _ _ 1 (by decide) _ ?_ _ _ rfl rfl _ _
        refine chain_step _ _ _ _ _ 0 (by decide) _ ?_ _ _ rfl rfl _ _
        exact (chain_zero (F := F) x0 x3 x4 (wTile (BitVec.ofNat 32 (i 0).val) x1 x2) 0).trans (congrArg (start (F := F) _) (window_full x4 _).symm)
    · rw [dif_neg h]
      refine (View.read_writes_cons_unit_of_mem arg12.view _ _ _ _ y (ix2 ⟨(y 0).val - 1024, by omega⟩ (y 1)) rfl ?_).trans ?_
      · intro a
        match a with
        | ⟨0, _⟩ => show (y 0).val = 1024 + ((y 0).val - 1024)
                    omega
        | ⟨1, _⟩ => exact (Nat.zero_add _).symm
      · simp only [readAt_window, hW, harg1.read_unread, harg2.read_unread, harg3.read_unread, harg4.read_unread, harg5.read_unread, harg6.read_unread, harg7.read_unread, window_full]
        simp only [pay1_eq, pay32_eq, pay34_eq, pay36_eq, pay38_eq, pay40_eq, pay42_eq, pay44_eq, pay46_eq, pay47_eq, pay48_eq, pay49_eq, pay50_eq, pay51_eq, pay52_eq, pay53_eq]
        refine congrFun (Eq.symm ?_) _
        refine chain_step _ _ _ _ _ 31 (by decide) _ ?_ _ _ rfl rfl _ _
        refine chain_step _ _ _ _ _ 30 (by decide) _ ?_ _ _ rfl rfl _ _
        refine chain_step _ _ _ _ _ 29 (by decide) _ ?_ _ _ rfl rfl _ _
        refine chain_step _ _ _ _ _ 28 (by decide) _ ?_ _ _ rfl rfl _ _
        refine chain_step _ _ _ _ _ 27 (by decide) _ ?_ _ _ rfl rfl _ _
        refine chain_step _ _ _ _ _ 26 (by decide) _ ?_ _ _ rfl rfl _ _
        refine chain_step _ _ _ _ _ 25 (by decide) _ ?_ _ _ rfl rfl _ _
        refine chain_step _ _ _ _ _ 24 (by decide) _ ?_ _ _ rfl rfl _ _
        refine chain_step _ _ _ _ _ 23 (by decide) _ ?_ _ _ rfl rfl _ _
        refine chain_step _ _ _ _ _ 22 (by decide) _ ?_ _ _ rfl rfl _ _
        refine chain_step _ _ _ _ _ 21 (by decide) _ ?_ _ _ rfl rfl _ _
        refine chain_step _ _ _ _ _ 20 (by decide) _ ?_ _ _ rfl rfl _ _
        refine chain_step _ _ _ _ _ 19 (by decide) _ ?_ _ _ rfl rfl _ _
        refine chain_step _ _ _ _ _ 18 (by decide) _ ?_ _ _ rfl rfl _ _
        refine chain_step _ _ _ _ _ 17 (by decide) _ ?_ _ _ rfl rfl _ _
        refine chain_step _ _ _ _ _ 16 (by decide) _ ?_ _ _ rfl rfl _ _
        refine chain_step _ _ _ _ _ 15 (by decide) _ ?_ _ _ rfl rfl _ _
        refine chain_step _ _ _ _ _ 14 (by decide) _ ?_ _ _ rfl rfl _ _
        refine chain_step _ _ _ _ _ 13 (by decide) _ ?_ _ _ rfl rfl _ _
        refine chain_step _ _ _ _ _ 12 (by decide) _ ?_ _ _ rfl rfl _ _
        refine chain_step _ _ _ _ _ 11 (by decide) _ ?_ _ _ rfl rfl _ _
        refine chain_step _ _ _ _ _ 10 (by decide) _ ?_ _ _ rfl rfl _ _
        refine chain_step _ _ _ _ _ 9 (by decide) _ ?_ _ _ rfl rfl _ _
        refine chain_step _ _ _ _ _ 8 (by decide) _ ?_ _ _ rfl rfl _ _
        refine chain_step _ _ _ _ _ 7 (by decide) _ ?_ _ _ rfl rfl _ _
        refine chain_step _ _ _ _ _ 6 (by decide) _ ?_ _ _ rfl rfl _ _
        refine chain_step _ _ _ _ _ 5 (by decide) _ ?_ _ _ rfl rfl _ _
        refine chain_step _ _ _ _ _ 4 (by decide) _ ?_ _ _ rfl rfl _ _
        refine chain_step _ _ _ _ _ 3 (by decide) _ ?_ _ _ rfl rfl _ _
        refine chain_step _ _ _ _ _ 2 (by decide) _ ?_ _ _ rfl rfl _ _
        refine chain_step _ _ _ _ _ 1 (by decide) _ ?_ _ _ rfl rfl _ _
        refine chain_step _ _ _ _ _ 0 (by decide) _ ?_ _ _ rfl rfl _ _
        exact (chain_zero (F := F) x0 x3 x4 (wTile (BitVec.ofNat 32 (i 0).val) x1 x2) 1).trans (congrArg (start (F := F) _) (window_full x4 _).symm)
  isplitl [H7]
  · iexists _; isplitr; swap; · iexact H7
    ipureintro
    have h := dg_done c i arg1 harg1 arg2 harg2 arg3 harg3 arg4 harg4 arg5 harg5 arg6 harg6 arg7 harg7 arg8 harg8 arg9 harg9 arg10 harg10 arg11 harg11 arg12 harg12 (harg6.unread x5) (harg7.unread x6) (arg12.view.writes (Elt F) arg12.view.junk (run.sl.HS1_2 c i arg1 harg1 arg2 harg2 arg3 harg3 arg4 harg4 arg5 harg5 arg6 harg6 arg7 harg7 arg8 harg8 arg9 harg9 arg10 harg10 arg11 harg11 arg12 harg12 x0 x1 x2 x3 x4 fs0)) f7
    simp only [harg1.read_unread, harg2.read_unread, harg3.read_unread, harg4.read_unread, harg5.read_unread, harg6.read_unread, harg7.read_unread, hD] at h
    exact h
  isplitl [H8]
  · iexists _; isplitr; swap; · iexact H8
    ipureintro
    have h := du_done c i arg1 harg1 arg2 harg2 arg3 harg3 arg4 harg4 arg5 harg5 arg6 harg6 arg7 harg7 arg8 harg8 arg9 harg9 arg10 harg10 arg11 harg11 arg12 harg12 (harg6.unread x5) (harg7.unread x6) (arg12.view.writes (Elt F) arg12.view.junk (run.sl.HS1_2 c i arg1 harg1 arg2 harg2 arg3 harg3 arg4 harg4 arg5 harg5 arg6 harg6 arg7 harg7 arg8 harg8 arg9 harg9 arg10 harg10 arg11 harg11 arg12 harg12 x0 x1 x2 x3 x4 fs0)) f8
    simp only [harg1.read_unread, harg2.read_unread, harg3.read_unread, harg4.read_unread, harg5.read_unread, harg6.read_unread, harg7.read_unread, hD] at h
    exact h
  isplitl [H9]
  · iexists _; isplitr; swap; · iexact H9
    ipureintro
    have h := act_done c i arg1 harg1 arg2 harg2 arg3 harg3 arg4 harg4 arg5 harg5 arg6 harg6 arg7 harg7 arg8 harg8 arg9 harg9 arg10 harg10 arg11 harg11 arg12 harg12 (harg6.unread x5) (harg7.unread x6) (arg12.view.writes (Elt F) arg12.view.junk (run.sl.HS1_2 c i arg1 harg1 arg2 harg2 arg3 harg3 arg4 harg4 arg5 harg5 arg6 harg6 arg7 harg7 arg8 harg8 arg9 harg9 arg10 harg10 arg11 harg11 arg12 harg12 x0 x1 x2 x3 x4 fs0)) f9
    simp only [harg1.read_unread, harg2.read_unread, harg3.read_unread, harg4.read_unread, harg5.read_unread, harg6.read_unread, harg7.read_unread] at h
    exact h
  isplitl [HS0]
  · iexists _, _; isplitr; swap; · iexact HS0
    ipureintro; rfl
  iexists _, _; isplitr; swap; · iexact HS1
  ipureintro; rfl

end Cert.DownIdeal.Down

end
-- ==== Proof.Down.Launch.lean ====
/-
  The whole launch: what the three result arrays hold at the end, from what the arrays hold when the grid starts.
-/
module

public import proofs.«01_k».proof.Proof.Down.Run
public import Idealize.ShloMosaic.Lib.Pipeline.FrameBody
public import Idealize.ShloMosaic.Lib.Pipeline.Value
public import proofs.«01_k».proof.Proof.Gen.DownIdeal.Points

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product's tile of point `t`. -/
def tileDa (c : Dev nD) (t : Fin cfg0.N) : Vec F S2048x256 .f32 :=
  outDa (BitVec.ofNat 32 (grid0.coords t 0).val) (iblk m c 0 t) (iblk m c 1 t) (iblk m c 2 t) (iblk m c 3 t) (iblk m c 4 t)

/-- The three result tiles of point `t`. -/
def tileDg (c : Dev nD) (t : Fin cfg0.N) : Vec F S2048x256 .bf16 := dgTile (iblk m c 5 t) (iblk m c 6 t) (tileDa m c t)
def tileDu (c : Dev nD) (t : Fin cfg0.N) : Vec F S2048x256 .bf16 := duTile (iblk m c 5 t) (tileDa m c t)
def tileA (c : Dev nD) (t : Fin cfg0.N) : Vec F S2048x256 .bf16 := aTile (iblk m c 5 t) (iblk m c 6 t)

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileDg m c t
    | ⟨8, _⟩ => tileDu m c t
    | ⟨9, _⟩ => tileA m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = tileDg m c t := by dsimp only [dats]
theorem after0_8 (c : Dev nD) (t : Fin cfg0.N) : (dats m 0 c).after 8 t = tileDu m c t := by dsimp only [dats]
theorem after0_9 (c : Dev nD) (t : Fin cfg0.N) : (dats m 0 c).after 9 t = tileA m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

abbrev ms0_0 (t : Fin cfg0.N) : Memref sig .tc .vmem S2048x8192 .bf16 := win0_0.stage (cfg0.slots t 0)
abbrev ms0_1 (t : Fin cfg0.N) : Memref sig .tc .vmem S8192x128 .i8 := win0_1.stage (cfg0.slots t 1)
abbrev ms0_2 (t : Fin cfg0.N) : Memref sig .tc .vmem S8192x128 .f32 := win0_2.stage (cfg0.slots t 2)
abbrev ms0_3 (t : Fin cfg0.N) : Memref sig .tc .vmem S2048x64 .bf16 := win0_3.stage (cfg0.slots t 3)
abbrev ms0_4 (t : Fin cfg0.N) : Memref sig .tc .vmem S64x256 .bf16 := win0_4.stage (cfg0.slots t 4)
abbrev ms0_5 (t : Fin cfg0.N) : Memref sig .tc .vmem S2048x256 .bf16 := win0_5.stage (cfg0.slots t 5)
abbrev ms0_6 (t : Fin cfg0.N) : Memref sig .tc .vmem S2048x256 .bf16 := win0_6.stage (cfg0.slots t 6)
abbrev ms0_7 (t : Fin cfg0.N) : Memref sig .tc .vmem S2048x256 .bf16 := win0_7.stage (cfg0.slots t 7)
abbrev ms0_8 (t : Fin cfg0.N) : Memref sig .tc .vmem S2048x256 .bf16 := win0_8.stage (cfg0.slots t 8)
abbrev ms0_9 (t : Fin cfg0.N) : Memref sig .tc .vmem S2048x256 .bf16 := win0_9.stage (cfg0.slots t 9)
abbrev scM0_0 : Memref sig .tc .vmem S4096x2x256 .bf16 := Memref.whole cc0_scratch0
abbrev scM0_1 : Memref sig .tc .vmem S2048x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold tileDg tileDu tileA tileDa
  iapply ((run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.DownIdeal.Down

end
-- ==== Proof.Down.Sums.lean ====
/-
  One column tile of the product and of the three results at an index.
-/
module

public import proofs.«01_k».proof.Proof.Down.Tile
public import proofs.«01_k».proof.Proof.Dh.Sums

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Dh (level nib decBlk decBlk_at interleave_at)

/-- A weight at row `d` and column `b` of tile `t`. -/
def wAt (t : Fin 14) (cd : S8192x128.Idx → BitVec 8) (am : S8192x128.Idx → EReal) (d : Fin 8192) (b : Fin 256) : EReal :=
  level (nib (cd (ix2 d (⟨b.val / 2, by omega⟩ : Fin 128))) b.val) * am (ix2 d (⟨4 * t.val + b.val / 64, by omega⟩ : Fin 128))

theorem wTile_at (t : Fin 14) (cd : Vec Ideal S8192x128 .i8) (am : Vec Ideal S8192x128 .f32) (n : Fin 4096) (a : Fin 2) (b : Fin 256) :
    wTile (BitVec.ofNat 32 t.val) cd am (ix3 n a b) = wAt t cd am ⟨2 * n.val + a.val, by omega⟩ b := by
  refine (decBlk_at (⟨t.val, by omega⟩ : Fin 32) (rowBlk cd (n.val / 128)) (rowBlk am (n.val / 128)) ⟨n.val % 128, Nat.mod_lt _ (by decide)⟩ a b).trans ?_
  have e : (⟨(256 * (n.val / 128) + (2 * (n.val % 128) + a.val)) % 8192, Nat.mod_lt _ (by decide)⟩ : Fin 8192) = ⟨2 * n.val + a.val, by omega⟩ :=
    Fin.ext (by show (256 * (n.val / 128) + (2 * (n.val % 128) + a.val)) % 8192 = 2 * n.val + a.val; omega)
  unfold wAt
  rw [← e]
  rfl

theorem wRows_at (w : Vec Ideal S4096x2x256 .bf16) (q : Fin 32) (k b : Fin 256) :
    wRows w q (ix2 k b) = w (ix3 (⟨128 * q.val + k.val / 2, by omega⟩ : Fin 4096) (⟨k.val % 2, Nat.mod_lt _ (by decide)⟩ : Fin 2) b) := by
  refine (interleave_at _ k b).trans ?_
  unfold VecWindow.window
  congr 1
  funext d
  match d with
  | ⟨0, _⟩ => exact Fin.ext (by show 128 * q.val + 1 * (k.val / 2) = 128 * q.val + k.val / 2; omega)
  | ⟨1, _⟩ => exact Fin.ext (by show 0 + 1 * (k.val % 2) = k.val % 2; omega)
  | ⟨2, _⟩ => exact Fin.ext (by show 0 + 1 * b.val = b.val; omega)

theorem xRows_at (x : Vec Ideal S2048x8192 .bf16) (b : Fin 2) (q : Fin 32) (r : Fin 1024) (k : Fin 256) :
    xRows x b q (ix2 r k) = x (ix2 (⟨1024 * b.val + r.val, by omega⟩ : Fin 2048) (⟨256 * q.val + k.val, by omega⟩ : Fin 8192)) := by
  unfold xRows VecWindow.window
  congr 1
  funext c
  match c with
  | ⟨0, _⟩ => exact Fin.ext (by show 1024 * b.val + 1 * r.val = 1024 * b.val + r.val; omega)
  | ⟨1, _⟩ => exact Fin.ext (by show 256 * q.val + 1 * k.val = 256 * q.val + k.val; omega)

theorem dotK_at (dy : Vec Ideal S2048x8192 .bf16) (w : Vec Ideal S4096x2x256 .bf16) (b : Fin 2) (q : Fin 32) (r : Fin 1024) (n : Fin 256) :
    dotK dy w b q (ix2 r n) = ∑ k : Fin 256, xRows dy b q (ix2 r k) * wRows w q (ix2 k n) := by
  unfold dotK
  generalize xRows dy b q = x
  generalize wRows w q = y
  pointwise

theorem adapter_at (x : FVec Ideal S1024x64 .bf16) (y : FVec Ideal S64x256 .bf16) (r : Fin 1024) (n : Fin 256) :
    matmul dot_S1024x64_S64x256_S1024x256_1_0_0_1_n_n none x y (constant S1024x256 .f32 0x00000000#32) (ix2 r n)
      = ∑ k : Fin 64, x (ix2 r k) * y (ix2 k n) := by
  pointwise

theorem dotA_at (dz : Vec Ideal S2048x64 .bf16) (ap : Vec Ideal S64x256 .bf16) (b : Fin 2) (r : Fin 1024) (n : Fin 256) :
    dotA dz ap b (ix2 r n) = ∑ k : Fin 64, dz (ix2 (⟨1024 * b.val + r.val, by omega⟩ : Fin 2048) k) * ap (ix2 k n) := by
  refine (adapter_at _ _ r n).trans ?_
  refine Finset.sum_congr rfl fun k _ => ?_
  unfold VecWindow.window
  congr 1
  congr 1
  funext d
  match d with
  | ⟨0, _⟩ => exact Fin.ext (by show 1024 * b.val + 1 * r.val = 1024 * b.val + r.val; omega)
  | ⟨1, _⟩ => exact Fin.ext (by show 0 + 1 * k.val = k.val; omega)

/-- The running sum is the adapter product and a sum over the tiles before. -/
theorem chain_sum (dy : Vec Ideal S2048x8192 .bf16) (dz : Vec Ideal S2048x64 .bf16) (ap : Vec Ideal S64x256 .bf16) (w : Vec Ideal S4096x2x256 .bf16) (b : Fin 2)
    (j : S1024x256.Idx) (n : ℕ) : chain dy dz ap w b n j
      = dotA dz ap b j + ∑ q ∈ Finset.range n, dotK dy w b ⟨q % 32, Nat.mod_lt _ (by decide)⟩ j := by
  induction n with
  | zero => rw [Finset.sum_range_zero, add_zero]; rfl
  | succ n ih => rw [Finset.sum_range_succ, ← add_assoc, ← ih]; rfl

theorem chain_at (dy : Vec Ideal S2048x8192 .bf16) (dz : Vec Ideal S2048x64 .bf16) (ap : Vec Ideal S64x256 .bf16) (t : Fin 14)
    (cd : Vec Ideal S8192x128 .i8) (am : Vec Ideal S8192x128 .f32) (b : Fin 2) (r : Fin 1024) (n : Fin 256) :
    chain dy dz ap (wTile (BitVec.ofNat 32 t.val) cd am) b 32 (ix2 r n)
      = (∑ k : Fin 64, dz (ix2 (⟨1024 * b.val + r.val, by omega⟩ : Fin 2048) k) * ap (ix2 k n))
        + ∑ d : Fin 8192, dy (ix2 (⟨1024 * b.val + r.val, by omega⟩ : Fin 2048) d) * wAt t cd am d n := by
  have hd : ∀ q : Fin 32, dotK dy (wTile (BitVec.ofNat 32 t.val) cd am) b q (ix2 r n)
      = ∑ k : Fin 256, dy (ix2 (⟨1024 * b.val + r.val, by omega⟩ : Fin 2048) (⟨q.val * 256 + k.val, by omega⟩ : Fin 8192))
        * wAt t cd am ⟨q.val * 256 + k.val, by omega⟩ n := by
    intro q
    rw [dotK_at]
    refine Finset.sum_congr rfl fun k _ => ?_
    rw [xRows_at, wRows_at, wTile_at]
    have e1 : (⟨256 * q.val + k.val, by omega⟩ : Fin 8192) = ⟨q.val * 256 + k.val, by omega⟩ := Fin.ext (by show 256 * q.val + k.val = q.val * 256 + k.val; omega)
    have e2 : (⟨2 * (128 * q.val + k.val / 2) + k.val % 2, by omega⟩ : Fin 8192) = ⟨q.val * 256 + k.val, by omega⟩ :=
      Fin.ext (by show 2 * (128 * q.val + k.val / 2) + k.val % 2 = q.val * 256 + k.val; omega)
    exact congrArg₂ (fun u v => dy (ix2 (⟨1024 * b.val + r.val, by omega⟩ : Fin 2048) u) * wAt t cd am v n) e1 e2
  rw [chain_sum, dotA_at]
  congr 1
  rw [← Fin.sum_univ_eq_sum_range (fun q => dotK dy (wTile (BitVec.ofNat 32 t.val) cd am) b ⟨q % 32, Nat.mod_lt _ (by decide)⟩ (ix2 r n)) 32,
    Fin.sum_univ_tiles 32 256 rfl (fun d : Fin 8192 => dy (ix2 (⟨1024 * b.val + r.val, by omega⟩ : Fin 2048) d) * wAt t cd am d n)]
  refine Finset.sum_congr rfl fun q _ => ?_
  rw [← hd q]
  exact congrArg (fun u => dotK dy (wTile (BitVec.ofNat 32 t.val) cd am) b u (ix2 r n)) (Fin.ext (Nat.mod_eq_of_lt q.isLt))

/-- One column tile of the product, at row `s` and column `n`. -/
theorem daTile_at (dy : Vec Ideal S2048x8192 .bf16) (dz : Vec Ideal S2048x64 .bf16) (ap : Vec Ideal S64x256 .bf16) (t : Fin 14)
    (cd : Vec Ideal S8192x128 .i8) (am : Vec Ideal S8192x128 .f32) (s : Fin 2048) (n : Fin 256) :
    daTile dy dz ap (wTile (BitVec.ofNat 32 t.val) cd am) (ix2 s n)
      = (∑ k : Fin 64, dz (ix2 s k) * ap (ix2 k n)) + ∑ d : Fin 8192, dy (ix2 s d) * wAt t cd am d n := by
  by_cases h : s.val < 1024
  · refine (dif_pos h).trans ?_
    refine (chain_at dy dz ap t cd am 0 ⟨s.val, h⟩ n).trans ?_
    have e1 : (⟨1024 * (0 : Fin 2).val + s.val, by show 1024 * 0 + s.val < 2048; omega⟩ : Fin 2048) = s := Fin.ext (by show 1024 * 0 + s.val = s.val; omega)
    simp only [e1]
  · refine (dif_neg h).trans ?_
    refine (chain_at dy dz ap t cd am 1 ⟨s.val - 1024, by omega⟩ n).trans ?_
    have e1 : (⟨1024 * (1 : Fin 2).val + (s.val - 1024), by show 1024 * 1 + (s.val - 1024) < 2048; omega⟩ : Fin 2048) = s :=
      Fin.ext (by show 1024 * 1 + (s.val - 1024) = s.val; omega)
    simp only [e1]

/-- The sigmoid, and one, as numbers. -/
def sg (x : EReal) : EReal := FloatOps.logistic (F := Ideal) (φ := .f32) x
def one : EReal := Ideal.ofBits .f32 0x3F800000#32

/-- The three results at one place, from the gate, the up projection and the product there. -/
def gateGrad (g u da : EReal) : EReal := da * u * sg g * (one + g * (one - sg g))
def upGrad (g da : EReal) : EReal := da * g * sg g
def act (g u : EReal) : EReal := g * sg g * u

theorem pay6_at (g u : Vec Ideal S16x256 .bf16) (da : Vec Ideal S16x256 .f32) (j : S16x256.Idx) : k0_pay6 g u da j = gateGrad (g j) (u j) (da j) := rfl
theorem pay7_at (g : Vec Ideal S16x256 .bf16) (da : Vec Ideal S16x256 .f32) (j : S16x256.Idx) : k0_pay7 g da j = upGrad (g j) (da j) := rfl
theorem pay5_at (g u : Vec Ideal S16x256 .bf16) (j : S16x256.Idx) : k0_pay5 g u j = act (g j) (u j) := rfl

theorem part_at {α : Type} (z : S2048x256.Idx → α) (s : Fin 2048) (n : Fin 256) :
    part z (s.val / 16) (ix2 (⟨s.val % 16, Nat.mod_lt _ (by decide)⟩ : Fin 16) n) = z (ix2 s n) := by
  have e : (⟨(16 * (s.val / 16) + s.val % 16) % 2048, Nat.mod_lt _ (by decide)⟩ : Fin 2048) = s :=
    Fin.ext (by show (16 * (s.val / 16) + s.val % 16) % 2048 = s.val; omega)
  exact congrArg (fun u => z (ix2 u n)) e

theorem dgTile_at (g u : Vec Ideal S2048x256 .bf16) (da : Vec Ideal S2048x256 .f32) (s : Fin 2048) (n : Fin 256) :
    dgTile g u da (ix2 s n) = gateGrad (g (ix2 s n)) (u (ix2 s n)) (da (ix2 s n)) := by
  refine (pay6_at _ _ _ (ix2 (⟨s.val % 16, Nat.mod_lt _ (by decide)⟩ : Fin 16) n)).trans ?_
  exact congr (congrArg₂ gateGrad (part_at g s n) (part_at u s n)) (part_at da s n)

theorem duTile_at (g : Vec Ideal S2048x256 .bf16) (da : Vec Ideal S2048x256 .f32) (s : Fin 2048) (n : Fin 256) :
    duTile g da (ix2 s n) = upGrad (g (ix2 s n)) (da (ix2 s n)) := by
  refine (pay7_at _ _ (ix2 (⟨s.val % 16, Nat.mod_lt _ (by decide)⟩ : Fin 16) n)).trans ?_
  exact congrArg₂ upGrad (part_at g s n) (part_at da s n)

theorem aTile_at (g u : Vec Ideal S2048x256 .bf16) (s : Fin 2048) (n : Fin 256) :
    aTile g u (ix2 s n) = act (g (ix2 s n)) (u (ix2 s n)) := by
  refine (pay5_at _ _ (ix2 (⟨s.val % 16, Nat.mod_lt _ (by decide)⟩ : Fin 16) n)).trans ?_
  exact congrArg₂ act (part_at g s n) (part_at u s n)

end Cert.DownIdeal.Down

end
-- ==== Proof.Down.Arrays.lean ====
/-
  The blocks the grid reads and the three arrays it leaves, at an index; the run of the whole program.
-/
module

public import proofs.«01_k».proof.Proof.Down.Launch
public import proofs.«01_k».proof.Proof.Down.Sums
public import Idealize.ShloMosaic.Lib.Pipeline.ValueKit
public import Idealize.ShloMosaic.Lib.Quiescent

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The point with number `n`. -/
def pt (n : Fin 14) : Fin cfg0.N := ⟨n.val, by rw [show cfg0.N = 14 from N_0]; exact n.isLt⟩

theorem index_0 : ∀ t : Fin cfg0.N, win0_0.index t = ![0, 0] := (by decide +kernel : ∀ t : Fin grid0.N, win0_0.index t = ![0, 0])
theorem index_1 : ∀ t : Fin cfg0.N, win0_1.index t = ![0, t.val] := (by decide +kernel : ∀ t : Fin grid0.N, win0_1.index t = ![0, t.val])
theorem index_2 : ∀ t : Fin cfg0.N, win0_2.index t = ![0, 0] := (by decide +kernel : ∀ t : Fin grid0.N, win0_2.index t = ![0, 0])
theorem index_3 : ∀ t : Fin cfg0.N, win0_3.index t = ![0, 0] := (by decide +kernel : ∀ t : Fin grid0.N, win0_3.index t = ![0, 0])
theorem index_4 : ∀ t : Fin cfg0.N, win0_4.index t = ![0, t.val] := (by decide +kernel : ∀ t : Fin grid0.N, win0_4.index t = ![0, t.val])
theorem index_5 : ∀ t : Fin cfg0.N, win0_5.index t = ![0, t.val] := (by decide +kernel : ∀ t : Fin grid0.N, win0_5.index t = ![0, t.val])
theorem index_6 : ∀ t : Fin cfg0.N, win0_6.index t = ![0, t.val] := (by decide +kernel : ∀ t : Fin grid0.N, win0_6.index t = ![0, t.val])
theorem index_7 : ∀ t : Fin cfg0.N, win0_7.index t = ![0, t.val] := (by decide +kernel : ∀ t : Fin grid0.N, win0_7.index t = ![0, t.val])
theorem index_8 : ∀ t : Fin cfg0.N, win0_8.index t = ![0, t.val] := (by decide +kernel : ∀ t : Fin grid0.N, win0_8.index t = ![0, t.val])
theorem index_9 : ∀ t : Fin cfg0.N, win0_9.index t = ![0, t.val] := (by decide +kernel : ∀ t : Fin grid0.N, win0_9.index t = ![0, t.val])

theorem iblk_0 (c : Dev nD) (t : Fin cfg0.N) : (iblk m c 0 t : Vec F S2048x8192 .bf16) = V m c main_arg0 := by
  funext j
  show V m c main_arg0 (((cfg0.win 0).blk t).view.emb j) = V m c main_arg0 j
  congr 1
  blk_ext [index_0 t]

theorem iblk_2 (c : Dev nD) (t : Fin cfg0.N) : (iblk m c 2 t : Vec F S8192x128 .f32) = V m c main_arg2 := by
  funext j
  show V m c main_arg2 (((cfg0.win 2).blk t).view.emb j) = V m c main_arg2 j
  congr 1
  blk_ext [index_2 t]

theorem iblk_3 (c : Dev nD) (t : Fin cfg0.N) : (iblk m c 3 t : Vec F S2048x64 .bf16) = V m c main_arg3 := by
  funext j
  show V m c main_arg3 (((cfg0.win 3).blk t).view.emb j) = V m c main_arg3 j
  congr 1
  blk_ext [index_3 t]

theorem iblk_1 (c : Dev nD) (t : Fin 14) (x : Fin 8192) (y : Fin 128) : (iblk m c 1 (pt t) : Vec F S8192x128 .i8) (ix2 x y)
    = (V m c main_arg1 : Vec F S8192x1792 .i8) (ix2 x (⟨128 * t.val + y.val, by omega⟩ : Fin 1792)) := by
  show V m c main_arg1 (((cfg0.win 1).blk (pt t)).view.emb (ix2 x y)) = _
  congr 1
  funext a
  match a with
  | ⟨0, _⟩ => exact Fin.ext (by show win0_1.index (pt t) 0 * 8192 + 1 * x.val = x.val; rw [index_1]; show 0 * 8192 + 1 * x.val = x.val; omega)
  | ⟨1, _⟩ => exact Fin.ext (by show win0_1.index (pt t) 1 * 128 + 1 * y.val = 128 * t.val + y.val; rw [index_1]; show t.val * 128 + 1 * y.val = 128 * t.val + y.val; omega)

theorem iblk_4 (c : Dev nD) (t : Fin 14) (x : Fin 64) (y : Fin 256) : (iblk m c 4 (pt t) : Vec F S64x256 .bf16) (ix2 x y)
    = (V m c main_arg4 : Vec F S64x3584 .bf16) (ix2 x (⟨256 * t.val + y.val, by omega⟩ : Fin 3584)) := by
  show V m c main_arg4 (((cfg0.win 4).blk (pt t)).view.emb (ix2 x y)) = _
  congr 1
  funext a
  match a with
  | ⟨0, _⟩ => exact Fin.ext (by show win0_4.index (pt t) 0 * 64 + 1 * x.val = x.val; rw [index_4]; show 0 * 64 + 1 * x.val = x.val; omega)
  | ⟨1, _⟩ => exact Fin.ext (by show win0_4.index (pt t) 1 * 256 + 1 * y.val = 256 * t.val + y.val; rw [index_4]; show t.val * 256 + 1 * y.val = 256 * t.val + y.val; omega)

theorem iblk_5 (c : Dev nD) (t : Fin 14) (x : Fin 2048) (y : Fin 256) : (iblk m c 5 (pt t) : Vec F S2048x256 .bf16) (ix2 x y)
    = (V m c main_arg5 : Vec F S2048x3584 .bf16) (ix2 x (⟨256 * t.val + y.val, by omega⟩ : Fin 3584)) := by
  show V m c main_arg5 (((cfg0.win 5).blk (pt t)).view.emb (ix2 x y)) = _
  congr 1
  funext a
  match a with
  | ⟨0, _⟩ => exact Fin.ext (by show win0_5.index (pt t) 0 * 2048 + 1 * x.val = x.val; rw [index_5]; show 0 * 2048 + 1 * x.val = x.val; omega)
  | ⟨1, _⟩ => exact Fin.ext (by show win0_5.index (pt t) 1 * 256 + 1 * y.val = 256 * t.val + y.val; rw [index_5]; show t.val * 256 + 1 * y.val = 256 * t.val + y.val; omega)

theorem iblk_6 (c : Dev nD) (t : Fin 14) (x : Fin 2048) (y : Fin 256) : (iblk m c 6 (pt t) : Vec F S2048x256 .bf16) (ix2 x y)
    = (V m c main_arg6 : Vec F S2048x3584 .bf16) (ix2 x (⟨256 * t.val + y.val, by omega⟩ : Fin 3584)) := by
  show V m c main_arg6 (((cfg0.win 6).blk (pt t)).view.emb (ix2 x y)) = _
  congr 1
  funext a
  match a with
  | ⟨0, _⟩ => exact Fin.ext (by show win0_6.index (pt t) 0 * 2048 + 1 * x.val = x.val; rw [index_6]; show 0 * 2048 + 1 * x.val = x.val; omega)
  | ⟨1, _⟩ => exact Fin.ext (by show win0_6.index (pt t) 1 * 256 + 1 * y.val = 256 * t.val + y.val; rw [index_6]; show t.val * 256 + 1 * y.val = 256 * t.val + y.val; omega)

/-- An array whose columns come tile by tile. -/
def byTiles {α : Type} (f : Fin cfg0.N → S2048x256.Idx → α) : S2048x3584.Idx → α := fun y =>
  f (pt ⟨(y 1).val / 256, by have := (y 1).isLt; show (y 1).val / 256 < 14; have h : (y 1).val < 3584 := this; omega⟩)
    (ix2 (⟨(y 0).val, (y 0).isLt⟩ : Fin 2048) (⟨(y 1).val % 256, Nat.mod_lt _ (by decide)⟩ : Fin 256))

theorem byTiles_at {α : Type} (f : Fin cfg0.N → S2048x256.Idx → α) (s : Fin 2048) (t : Fin 14) (n : Fin 256) :
    byTiles f (ix2 s (⟨256 * t.val + n.val, by omega⟩ : Fin 3584)) = f (pt t) (ix2 s n) := by
  show f (pt ⟨(256 * t.val + n.val) / 256, _⟩) (ix2 (⟨s.val, _⟩ : Fin 2048) (⟨(256 * t.val + n.val) % 256, _⟩ : Fin 256)) = _
  have e1 : (256 * t.val + n.val) / 256 = t.val := by omega
  have e2 : (256 * t.val + n.val) % 256 = n.val := by omega
  simp only [e1, e2]

/-- The three result arrays. -/
def dgArr (c : Dev nD) : Vec F S2048x3584 .bf16 := byTiles (tileDg m c)
def duArr (c : Dev nD) : Vec F S2048x3584 .bf16 := byTiles (tileDu m c)
def aArr (c : Dev nD) : Vec F S2048x3584 .bf16 := byTiles (tileA m c)

/-- What is in the array of the gate gradient at the end. -/
theorem final_dg (c : Dev nD) : (dats m 0 c).arrAt 7 cfg0.N = dgArr m c := by
  refine (dats m 0 c).arrAt_eq_of_covers 7 _ (by decide +kernel) fun t hf y => ?_
  have hy0 : (y 0).val < 2048 := (y 0).isLt
  have hy1 : (y 1).val < 256 := (y 1).isLt
  have ht : t.val < 14 := Nat.lt_of_lt_of_eq t.isLt N_0
  have e0 : (((cfg0.win 7).blk t).view.emb y (0 : Fin 2)).val = (y 0).val := by
    show win0_7.index t 0 * 2048 + 1 * (y 0).val = (y 0).val
    rw [index_7]; show 0 * 2048 + 1 * (y 0).val = (y 0).val; omega
  have e1 : (((cfg0.win 7).blk t).view.emb y (1 : Fin 2)).val = 256 * t.val + (y 1).val := by
    show win0_7.index t 1 * 256 + 1 * (y 1).val = _
    rw [index_7]; show t.val * 256 + 1 * (y 1).val = 256 * t.val + (y 1).val; omega
  have e : ((cfg0.win 7).blk t).view.emb y = ix2 (⟨(y 0).val, hy0⟩ : Fin 2048) (⟨256 * t.val + (y 1).val, by omega⟩ : Fin 3584) := by
    funext a
    match a with
    | ⟨0, _⟩ => exact Fin.ext e0
    | ⟨1, _⟩ => exact Fin.ext e1
  rw [e]
  refine Eq.trans ?_ (byTiles_at (tileDg m c) ⟨(y 0).val, hy0⟩ ⟨t.val, ht⟩ ⟨(y 1).val, hy1⟩).symm
  show (dats m 0 c).after 7 t _ = tileDg m c t _
  rw [after0_7]
  congr 1
  funext a
  match a with
  | ⟨0, _⟩ => rfl
  | ⟨1, _⟩ => rfl

/-- What is in the array of the up gradient at the end. -/
theorem final_du (c : Dev nD) : (dats m 0 c).arrAt 8 cfg0.N = duArr m c := by
  refine (dats m 0 c).arrAt_eq_of_covers 8 _ (by decide +kernel) fun t hf y => ?_
  have hy0 : (y 0).val < 2048 := (y 0).isLt
  have hy1 : (y 1).val < 256 := (y 1).isLt
  have ht : t.val < 14 := Nat.lt_of_lt_of_eq t.isLt N_0
  have e0 : (((cfg0.win 8).blk t).view.emb y (0 : Fin 2)).val = (y 0).val := by
    show win0_8.index t 0 * 2048 + 1 * (y 0).val = (y 0).val
    rw [index_8]; show 0 * 2048 + 1 * (y 0).val = (y 0).val; omega
  have e1 : (((cfg0.win 8).blk t).view.emb y (1 : Fin 2)).val = 256 * t.val + (y 1).val := by
    show win0_8.index t 1 * 256 + 1 * (y 1).val = _
    rw [index_8]; show t.val * 256 + 1 * (y 1).val = 256 * t.val + (y 1).val; omega
  have e : ((cfg0.win 8).blk t).view.emb y = ix2 (⟨(y 0).val, hy0⟩ : Fin 2048) (⟨256 * t.val + (y 1).val, by omega⟩ : Fin 3584) := by
    funext a
    match a with
    | ⟨0, _⟩ => exact Fin.ext e0
    | ⟨1, _⟩ => exact Fin.ext e1
  rw [e]
  refine Eq.trans ?_ (byTiles_at (tileDu m c) ⟨(y 0).val, hy0⟩ ⟨t.val, ht⟩ ⟨(y 1).val, hy1⟩).symm
  show (dats m 0 c).after 8 t _ = tileDu m c t _
  rw [after0_8]
  congr 1
  funext a
  match a with
  | ⟨0, _⟩ => rfl
  | ⟨1, _⟩ => rfl

/-- What is in the array of the activation at the end. -/
theorem final_a (c : Dev nD) : (dats m 0 c).arrAt 9 cfg0.N = aArr m c := by
  refine (dats m 0 c).arrAt_eq_of_covers 9 _ (by decide +kernel) fun t hf y => ?_
  have hy0 : (y 0).val < 2048 := (y 0).isLt
  have hy1 : (y 1).val < 256 := (y 1).isLt
  have ht : t.val < 14 := Nat.lt_of_lt_of_eq t.isLt N_0
  have e0 : (((cfg0.win 9).blk t).view.emb y (0 : Fin 2)).val = (y 0).val := by
    show win0_9.index t 0 * 2048 + 1 * (y 0).val = (y 0).val
    rw [index_9]; show 0 * 2048 + 1 * (y 0).val = (y 0).val; omega
  have e1 : (((cfg0.win 9).blk t).view.emb y (1 : Fin 2)).val = 256 * t.val + (y 1).val := by
    show win0_9.index t 1 * 256 + 1 * (y 1).val = _
    rw [index_9]; show t.val * 256 + 1 * (y 1).val = 256 * t.val + (y 1).val; omega
  have e : ((cfg0.win 9).blk t).view.emb y = ix2 (⟨(y 0).val, hy0⟩ : Fin 2048) (⟨256 * t.val + (y 1).val, by omega⟩ : Fin 3584) := by
    funext a
    match a with
    | ⟨0, _⟩ => exact Fin.ext e0
    | ⟨1, _⟩ => exact Fin.ext e1
  rw [e]
  refine Eq.trans ?_ (byTiles_at (tileA m c) ⟨(y 0).val, hy0⟩ ⟨t.val, ht⟩ ⟨(y 1).val, hy1⟩).symm
  show (dats m 0 c).after 9 t _ = tileA m c t _
  rw [after0_9]
  congr 1
  funext a
  match a with
  | ⟨0, _⟩ => rfl
  | ⟨1, _⟩ => rfl

/-- What the run leaves: the three results and the seven arguments. -/
theorem post (r : PUnit × MemSt nD τ sig (Elt F)) (h : Pipeline.FramePost cfgs (dats m) 0 (V m) r) (c : Dev nD) :
    r.2.mem ((c.tc : Thread nD τ).loc main_v0_0) = dgArr m c
      ∧ r.2.mem ((c.tc : Thread nD τ).loc main_v0_1) = duArr m c
      ∧ r.2.mem ((c.tc : Thread nD τ).loc main_v0_2) = aArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 7).trans (final_dg m c), ((h c).1 8).trans (final_du m c), ((h c).1 9).trans (final_a m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩

theorem run_arrays : θ_run defs (onTc (τ := τ) (main (F := F))) ⟨m, fun _ => 0, ρ⟩ (fun r => ∀ c : Dev nD,
    r.2.mem ((c.tc : Thread nD τ).loc main_v0_0) = dgArr m c
      ∧ r.2.mem ((c.tc : Thread nD τ).loc main_v0_1) = duArr m c
      ∧ r.2.mem ((c.tc : Thread nD τ).loc main_v0_2) = aArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => post m r h c) (run_main m ρ)

/-- The arguments are unchanged and no semaphore is left raised. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (post m r h.1 c).2.2.2, h.2⟩) (run_main_quiescent m ρ)

end Cert.DownIdeal.Down

end
-- ==== Proof.Down.Ref.lean ====
/-
  The reference at an index: the table, the weights, the product, the interleaved columns and the three results.
-/
module

public import proofs.«01_k».proof.Proof.Down.Sums
public import proofs.«01_k».proof.Proof.Dh.Ref
public import proofs.«01_k».proof.Proof.Gen.DownReferenceIdeal.Run
public import Idealize.ShloMosaic.Lib.Pointwise

@[expose] public section

set_option maxRecDepth 16384

noncomputable section

namespace Cert.DownReferenceIdeal.Ref

open Cert.DownReferenceIdeal Cert.DownReferenceIdeal.Gen Cert.DownIdeal.Down
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Dh (level nib)

/-- A weight at row `d` and column `n`. -/
def weight (cd : (⟨2, ![8192, 1792]⟩ : Shape).Idx → BitVec 8) (am : (⟨2, ![8192, 128]⟩ : Shape).Idx → EReal) (d : Fin 8192) (n : Fin 3584) : EReal :=
  level (nib (cd (ix2 d (⟨n.val / 2, by omega⟩ : Fin 1792))) n.val) * am (ix2 d (⟨n.val / 64, by omega⟩ : Fin 128))

/-- Whether a bit of each word is set. -/
def bit (v : IVec S56x32x8192 32) (k : BitVec 32) : IVec S56x32x8192 1 :=
  cmpi .ne (andi v (broadcastInDim S56x32x8192 ![] bcast_S_S56x32x8192 (constantI S_ 32 k))) (broadcastInDim S56x32x8192 ![] bcast_S_S56x32x8192 (constantI S_ 32 0#32))

/-- The table, by the four bits of the code. -/
def table (v : IVec S56x32x8192 32) : FVec Ideal S56x32x8192 .f32 :=
  (select (bit v 1#32) (select (bit v 2#32) (select (bit v 4#32) (select (bit v 8#32) (broadcastInDim S56x32x8192 ![] bcast_S_S56x32x8192 (constant S_ .f32 0x3F800000#32)) (broadcastInDim S56x32x8192 ![] bcast_S_S56x32x8192 (constant S_ .f32 0x00000000#32))) (select (bit v 8#32) (broadcastInDim S56x32x8192 ![] bcast_S_S56x32x8192 (constant S_ .f32 0x3EAD033A#32)) (broadcastInDim S56x32x8192 ![] bcast_S_S56x32x8192 (constant S_ .f32 0xBECA32A0#32)))) (select (bit v 4#32) (select (bit v 8#32) (broadcastInDim S56x32x8192 ![] bcast_S_S56x32x8192 (constant S_ .f32 0x3F1007AB#32)) (broadcastInDim S56x32x8192 ![] bcast_S_S56x32x8192 (constant S_ .f32 0xBE3D353F#32))) (select (bit v 8#32) (broadcastInDim S56x32x8192 ![] bcast_S_S56x32x8192 (constant S_ .f32 0x3E24CAE3#32)) (broadcastInDim S56x32x8192 ![] bcast_S_S56x32x8192 (constant S_ .f32 0xBF3239B1#32))))) (select (bit v 2#32) (select (bit v 4#32) (select (bit v 8#32) (broadcastInDim S56x32x8192 ![] bcast_S_S56x32x8192 (constant S_ .f32 0x3F3913B3#32)) (broadcastInDim S56x32x8192 ![] bcast_S_S56x32x8192 (constant S_ .f32 0xBDBA7871#32))) (select (bit v 8#32) (broadcastInDim S56x32x8192 ![] bcast_S_S56x32x8192 (constant S_ .f32 0x3E7C04DD#32)) (broadcastInDim S56x32x8192 ![] bcast_S_S56x32x8192 (constant S_ .f32 0xBF066B30#32)))) (select (bit v 4#32) (select (bit v 8#32) (broadcastInDim S56x32x8192 ![] bcast_S_S56x32x8192 (constant S_ .f32 0x3EE1A4B8#32)) (broadcastInDim S56x32x8192 ![] bcast_S_S56x32x8192 (constant S_ .f32 0xBE91A24D#32))) (select (bit v 8#32) (broadcastInDim S56x32x8192 ![] bcast_S_S56x32x8192 (constant S_ .f32 0x3DA2FAFF#32)) (broadcastInDim S56x32x8192 ![] bcast_S_S56x32x8192 (constant S_ .f32 0xBF800000#32))))))

/-- The bytes, 32 of them to a block of the column. -/
def bytes (cd : Vec Ideal S8192x1792 .i8) : IVec S56x32x8192 32 :=
  extui 32 (shapeCast _ (transpose S1792x8192 [1, 0] cd transposes_S8192x1792_S1792x8192_1_0) shapeCasts_S1792x8192_S56x32x8192) natLt_8_32

/-- The upper and the lower half of each byte. -/
def upper (cd : Vec Ideal S8192x1792 .i8) : IVec S56x32x8192 32 :=
  Host.shrsi (bytes cd) (broadcastInDim S56x32x8192 ![] bcast_S_S56x32x8192 (constantI S_ 32 4#32))
def lower (cd : Vec Ideal S8192x1792 .i8) : IVec S56x32x8192 32 :=
  andi (bytes cd) (broadcastInDim S56x32x8192 ![] bcast_S_S56x32x8192 (constantI S_ 32 15#32))

/-- The weights of every second column. -/
def weights (v : IVec S56x32x8192 32) (am : Vec Ideal S8192x128 .f32) : FVec Ideal S1792x8192 .bf16 :=
  shapeCast _ (truncf .bf16 (mulf (table v) (broadcastInDim S56x32x8192 ![0, 1, 2] bcast_S56x1x8192_S56x32x8192_0_1_2
    (broadcastInDim S56x1x8192 ![0, 2] bcast_S56x8192_S56x1x8192_0_2 (transpose S56x8192 [1, 0] (extractStridedSlice S8192x56 ![0, 0] am slices_S8192x128_S8192x56_0_0) transposes_S8192x56_S56x8192_1_0)))) bitsLt_bf16_f32)
    shapeCasts_S56x32x8192_S1792x8192

/-- The product for every second column. -/
def product (dy : FVec Ideal S2048x8192 .bf16) (w : FVec Ideal S1792x8192 .bf16) : FVec Ideal S2048x1792 .f32 :=
  Host.dotGeneral dot_S2048x8192_S1792x8192_S2048x1792_1_1_0_0_n_n none dy w

/-- Even and odd columns put side by side. -/
def columns (e o : FVec Ideal S2048x1792 .f32) : FVec Ideal S2048x3584 .f32 :=
  shapeCast _ (concatenate S2048x1792x2 2 [⟨S2048x1792x1, (broadcastInDim S2048x1792x1 ![0, 1] bcast_S2048x1792_S2048x1792x1_0_1 e)⟩,
    ⟨S2048x1792x1, (broadcastInDim S2048x1792x1 ![0, 1] bcast_S2048x1792_S2048x1792x1_0_1 o)⟩] concatenates_S2048x1792x1_S2048x1792x1_S2048x1792x2_d2) shapeCasts_S2048x1792x2_S2048x3584

/-- The adapter product. -/
def adapter (dz : FVec Ideal S2048x64 .bf16) (ap : FVec Ideal S64x3584 .bf16) : FVec Ideal S2048x3584 .f32 :=
  Host.dotGeneral dot_S2048x64_S64x3584_S2048x3584_1_0_0_1_n_n none dz ap

theorem res_da (V0 : Valuation τ sig (Elt Ideal)) : Value.res_main_v98 V0
    = addf (columns (product (V0 (Proc.devRef .tc main_arg0)) (weights (upper (V0 (Proc.devRef .tc main_arg1))) (V0 (Proc.devRef .tc main_arg2))))
        (product (V0 (Proc.devRef .tc main_arg0)) (weights (lower (V0 (Proc.devRef .tc main_arg1))) (V0 (Proc.devRef .tc main_arg2)))))
      (adapter (V0 (Proc.devRef .tc main_arg3)) (V0 (Proc.devRef .tc main_arg4))) := rfl

theorem bit_at (v : IVec S56x32x8192 32) (k : BitVec 32) (a : Fin 56) (b : Fin 32) (f : Fin 8192) :
    bit v k (ix3 a b f) = if v (ix3 a b f) &&& k = 0#32 then 0#1 else 1#1 := by
  pointwise [bit]
  show BitVec.ofBool (v (ix3 a b f) &&& k != 0#32) = _
  by_cases h : v (ix3 a b f) &&& k = 0#32
  · rw [if_pos h, h]; rfl
  · rw [if_neg h, bne_iff_ne.mpr h]; rfl

set_option maxHeartbeats 2000000 in
theorem table_at (v : IVec S56x32x8192 32) (a : Fin 56) (b : Fin 32) (f : Fin 8192) (w : Fin 16) (h : v (ix3 a b f) = BitVec.ofNat 32 w.val) :
    table v (ix3 a b f) = level w := by
  have e1 := bit_at v 1#32 a b f
  have e2 := bit_at v 2#32 a b f
  have e4 := bit_at v 4#32 a b f
  have e8 := bit_at v 8#32 a b f
  rw [h] at e1 e2 e4 e8
  unfold table
  generalize bit v 1#32 = b1 at e1 ⊢
  generalize bit v 2#32 = b2 at e2 ⊢
  generalize bit v 4#32 = b4 at e4 ⊢
  generalize bit v 8#32 = b8 at e8 ⊢
  pointwise
  rw [e1, e2, e4, e8]
  clear e1 e2 e4 e8 h
  fin_cases w <;> rfl

theorem bytes_at (cd : Vec Ideal S8192x1792 .i8) (a : Fin 56) (b : Fin 32) (f : Fin 8192) :
    bytes cd (ix3 a b f) = (cd (ix2 f (⟨32 * a.val + b.val, by omega⟩ : Fin 1792)) : BitVec 8).setWidth 32 := by
  pointwise [bytes]
  congr 2
  exact congrArg (ix2 f) (Fin.ext (by show a.val * 32 + b.val = 32 * a.val + b.val; omega))

theorem upper_at (cd : Vec Ideal S8192x1792 .i8) (a : Fin 56) (b : Fin 32) (f : Fin 8192) :
    upper cd (ix3 a b f) = BitVec.ofNat 32 (nib (cd (ix2 f (⟨32 * a.val + b.val, by omega⟩ : Fin 1792))) 0).val := by
  have e := bytes_at cd a b f
  unfold upper
  generalize bytes cd = v at e ⊢
  pointwise
  rw [e]
  generalize cd (ix2 f (⟨32 * a.val + b.val, by omega⟩ : Fin 1792)) = w
  exact Cert.ReferenceIdeal.Ref.upper_word w

theorem lower_at (cd : Vec Ideal S8192x1792 .i8) (a : Fin 56) (b : Fin 32) (f : Fin 8192) :
    lower cd (ix3 a b f) = BitVec.ofNat 32 (nib (cd (ix2 f (⟨32 * a.val + b.val, by omega⟩ : Fin 1792))) 1).val := by
  have e := bytes_at cd a b f
  unfold lower
  generalize bytes cd = v at e ⊢
  pointwise
  rw [e]
  generalize cd (ix2 f (⟨32 * a.val + b.val, by omega⟩ : Fin 1792)) = w
  exact Cert.ReferenceIdeal.Ref.lower_word w

theorem weights_at (v : IVec S56x32x8192 32) (am : Vec Ideal S8192x128 .f32) (n : Fin 1792) (d : Fin 8192) :
    weights v am (ix2 n d) = table v (ix3 (⟨n.val / 32, by omega⟩ : Fin 56) (⟨n.val % 32, Nat.mod_lt _ (by decide)⟩ : Fin 32) d) * am (ix2 d (⟨n.val / 32, by omega⟩ : Fin 128)) := by
  unfold weights
  generalize table v = x
  pointwise

theorem weights_upper (cd : Vec Ideal S8192x1792 .i8) (am : Vec Ideal S8192x128 .f32) (n : Fin 3584) (h : n.val % 2 = 0) (f : Fin 8192) :
    weights (upper cd) am (ix2 (⟨n.val / 2, by omega⟩ : Fin 1792) f) = weight cd am f n := by
  rw [weights_at, table_at _ _ _ _ _ (upper_at cd _ _ f)]
  unfold weight
  have e1 : (⟨32 * (n.val / 2 / 32) + n.val / 2 % 32, by omega⟩ : Fin 1792) = ⟨n.val / 2, by omega⟩ := Fin.ext (by show 32 * (n.val / 2 / 32) + n.val / 2 % 32 = n.val / 2; omega)
  have e2 : (⟨n.val / 2 / 32, by omega⟩ : Fin 128) = ⟨n.val / 64, by omega⟩ := Fin.ext (by show n.val / 2 / 32 = n.val / 64; omega)
  have e3 : ∀ w, nib w n.val = nib w 0 := fun w => by unfold nib; rw [if_pos h, if_pos rfl]
  simp only [e1, e2, e3]

theorem weights_lower (cd : Vec Ideal S8192x1792 .i8) (am : Vec Ideal S8192x128 .f32) (n : Fin 3584) (h : n.val % 2 = 1) (f : Fin 8192) :
    weights (lower cd) am (ix2 (⟨n.val / 2, by omega⟩ : Fin 1792) f) = weight cd am f n := by
  rw [weights_at, table_at _ _ _ _ _ (lower_at cd _ _ f)]
  unfold weight
  have e1 : (⟨32 * (n.val / 2 / 32) + n.val / 2 % 32, by omega⟩ : Fin 1792) = ⟨n.val / 2, by omega⟩ := Fin.ext (by show 32 * (n.val / 2 / 32) + n.val / 2 % 32 = n.val / 2; omega)
  have e2 : (⟨n.val / 2 / 32, by omega⟩ : Fin 128) = ⟨n.val / 64, by omega⟩ := Fin.ext (by show n.val / 2 / 32 = n.val / 64; omega)
  have e3 : ∀ w, nib w n.val = nib w 1 := fun w => by unfold nib; rw [if_neg (by omega), if_neg (by decide)]
  simp only [e1, e2, e3]

theorem columns_at (e o : FVec Ideal S2048x1792 .f32) (s : Fin 2048) (n : Fin 3584) :
    columns e o (ix2 s n) = if n.val % 2 = 0 then e (ix2 s (⟨n.val / 2, by omega⟩ : Fin 1792)) else o (ix2 s (⟨n.val / 2, by omega⟩ : Fin 1792)) := by
  pointwise [columns]
  rcases (by omega : n.val % 2 = 0 ∨ n.val % 2 = 1) with h | h
  · exact (dif_pos (show n.val % 2 < 1 by omega)).trans (if_pos h).symm
  · exact (dif_neg (show ¬n.val % 2 < 1 by omega)).trans (if_neg (show ¬n.val % 2 = 0 by omega)).symm

theorem product_at (dy : FVec Ideal S2048x8192 .bf16) (w : FVec Ideal S1792x8192 .bf16) (s : Fin 2048) (n : Fin 1792) :
    product dy w (ix2 s n) = ∑ d : Fin 8192, dy (ix2 s d) * w (ix2 n d) := by
  pointwise [product]

theorem adapter_at (dz : FVec Ideal S2048x64 .bf16) (ap : FVec Ideal S64x3584 .bf16) (s : Fin 2048) (n : Fin 3584) :
    adapter dz ap (ix2 s n) = ∑ k : Fin 64, dz (ix2 s k) * ap (ix2 k n) := by
  pointwise [adapter]

/-- The product at row `s` and column `n`. -/
def daVal (dy : (⟨2, ![2048, 8192]⟩ : Shape).Idx → EReal) (cd : (⟨2, ![8192, 1792]⟩ : Shape).Idx → BitVec 8) (am : (⟨2, ![8192, 128]⟩ : Shape).Idx → EReal)
    (dz : (⟨2, ![2048, 64]⟩ : Shape).Idx → EReal) (ap : (⟨2, ![64, 3584]⟩ : Shape).Idx → EReal) (s : Fin 2048) (n : Fin 3584) : EReal :=
  (∑ d : Fin 8192, dy (ix2 s d) * weight cd am d n) + ∑ k : Fin 64, dz (ix2 s k) * ap (ix2 k n)

theorem add_at (x y : FVec Ideal S2048x3584 .f32) (j : S2048x3584.Idx) : addf x y j = x j + y j := rfl

theorem da_at (V0 : Valuation τ sig (Elt Ideal)) (s : Fin 2048) (n : Fin 3584) :
    Value.res_main_v98 V0 (ix2 s n) = daVal (V0 (Proc.devRef .tc main_arg0)) (V0 (Proc.devRef .tc main_arg1)) (V0 (Proc.devRef .tc main_arg2))
      (V0 (Proc.devRef .tc main_arg3)) (V0 (Proc.devRef .tc main_arg4)) s n := by
  rw [res_da, add_at, columns_at, adapter_at]
  have h2 : n.val % 2 = 0 ∨ n.val % 2 = 1 := by omega
  rcases h2 with h | h
  · rw [if_pos h, product_at]
    simp only [weights_upper _ _ n h]
    rfl
  · rw [if_neg (by omega), product_at]
    simp only [weights_lower _ _ n h]
    rfl

/-- The three results as the reference builds them. -/
def dgRef (V0 : Valuation τ sig (Elt Ideal)) : FVec Ideal S2048x3584 .bf16 :=
  truncf .bf16 (mulf (mulf (mulf (Value.res_main_v98 V0) (Value.res_main_v81 V0)) (Value.res_main_v87 V0)) (addf (broadcastInDim S2048x3584 ![] bcast_S_S2048x3584 (constant S_ .f32 0x3F800000#32)) (mulf (Value.res_main_v80 V0) (subf (broadcastInDim S2048x3584 ![] bcast_S_S2048x3584 (constant S_ .f32 0x3F800000#32)) (Value.res_main_v87 V0))))) bitsLt_bf16_f32
def duRef (V0 : Valuation τ sig (Elt Ideal)) : FVec Ideal S2048x3584 .bf16 :=
  truncf .bf16 (mulf (mulf (Value.res_main_v98 V0) (Value.res_main_v80 V0)) (Value.res_main_v87 V0)) bitsLt_bf16_f32
def aRef (V0 : Valuation τ sig (Elt Ideal)) : FVec Ideal S2048x3584 .bf16 :=
  truncf .bf16 (mulf (mulf (Value.res_main_v80 V0) (Value.res_main_v87 V0)) (Value.res_main_v81 V0)) bitsLt_bf16_f32

theorem sg_at (V0 : Valuation τ sig (Elt Ideal)) (j : S2048x3584.Idx) : Value.res_main_v87 V0 j = sg ((V0 (Proc.devRef .tc main_arg5) : Vec Ideal S2048x3584 .bf16) j) := by
  unfold sg
  pointwise [Value.res_main_v87, Value.res_main_v80]
  rfl

theorem dgRef_at (V0 : Valuation τ sig (Elt Ideal)) (j : S2048x3584.Idx) :
    dgRef V0 j = gateGrad ((V0 (Proc.devRef .tc main_arg5) : Vec Ideal S2048x3584 .bf16) j) ((V0 (Proc.devRef .tc main_arg6) : Vec Ideal S2048x3584 .bf16) j) (Value.res_main_v98 V0 j) := by
  unfold gateGrad
  rw [← sg_at]
  rfl

theorem duRef_at (V0 : Valuation τ sig (Elt Ideal)) (j : S2048x3584.Idx) :
    duRef V0 j = upGrad ((V0 (Proc.devRef .tc main_arg5) : Vec Ideal S2048x3584 .bf16) j) (Value.res_main_v98 V0 j) := by
  unfold upGrad
  rw [← sg_at]
  rfl

theorem aRef_at (V0 : Valuation τ sig (Elt Ideal)) (j : S2048x3584.Idx) :
    aRef V0 j = act ((V0 (Proc.devRef .tc main_arg5) : Vec Ideal S2048x3584 .bf16) j) ((V0 (Proc.devRef .tc main_arg6) : Vec Ideal S2048x3584 .bf16) j) := by
  unfold act
  rw [← sg_at]
  rfl

end Cert.DownReferenceIdeal.Ref

end
-- ==== Proof.Down.Value.lean ====
/-
  The three result arrays at an index, from the argument arrays.
-/
module

public import proofs.«01_k».proof.Proof.Down.Arrays
public import proofs.«01_k».proof.Proof.Down.Ref
public import Idealize.ShloMosaic.Lib.Pointwise

@[expose] public section

set_option maxRecDepth 16384

noncomputable section

namespace Cert.DownIdeal.Down

open Cert.DownIdeal Cert.DownIdeal.Gen
open Cert.DownReferenceIdeal.Ref (weight daVal)
open Cert.KernelIdeal.Dh (level nib)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The product at row `s` and column `n`, from the arrays as the grid finds them. -/
def daAt (c : Dev nD) (s : Fin 2048) (n : Fin 3584) : EReal :=
  daVal (V m c main_arg0) (V m c main_arg1) (V m c main_arg2) (V m c main_arg3) (V m c main_arg4) s n

theorem coords_pt (t : Fin 14) : (grid0.coords (pt t) 0).val = t.val := by
  have e0 : (grid0.coords (pt t) 0).val = t.val / 1 % 14 := Pipeline.Grid.coords_val (pt t) 0 (by decide) rfl
  omega

theorem wAt_weight (t : Fin 14) (cb : S8192x128.Idx → BitVec 8) (cd : S8192x1792.Idx → BitVec 8) (am : S8192x128.Idx → EReal) (d : Fin 8192) (b : Fin 256)
    (h : ∀ k : Fin 128, cb (ix2 d k) = cd (ix2 d (⟨128 * t.val + k.val, by omega⟩ : Fin 1792))) :
    wAt t cb am d b = weight cd am d ⟨256 * t.val + b.val, by omega⟩ := by
  unfold wAt weight
  rw [h]
  have e1 : (⟨128 * t.val + b.val / 2, by omega⟩ : Fin 1792) = ⟨(256 * t.val + b.val) / 2, by omega⟩ := Fin.ext (by show 128 * t.val + b.val / 2 = (256 * t.val + b.val) / 2; omega)
  have e2 : (⟨4 * t.val + b.val / 64, by omega⟩ : Fin 128) = ⟨(256 * t.val + b.val) / 64, by omega⟩ := Fin.ext (by show 4 * t.val + b.val / 64 = (256 * t.val + b.val) / 64; omega)
  have e3 : ∀ w, nib w b.val = nib w (256 * t.val + b.val) := fun w => by unfold nib; rw [show (256 * t.val + b.val) % 2 = b.val % 2 by omega]
  simp only [← e1, ← e2, ← e3]

theorem tileDa_at (c : Dev nD) (t : Fin 14) (s : Fin 2048) (b : Fin 256) :
    tileDa m c (pt t) (ix2 s b) = daAt m c s ⟨256 * t.val + b.val, by omega⟩ := by
  unfold tileDa outDa
  rw [coords_pt, iblk_0, iblk_2, iblk_3, daTile_at, add_comm]
  unfold daAt daVal
  congr 1
  · exact Finset.sum_congr rfl fun d _ => congrArg _ (wAt_weight t _ _ _ d b fun k => iblk_1 m c t d k)
  · exact Finset.sum_congr rfl fun k _ => congrArg _ (iblk_4 m c t k b)

/-- An array that comes tile by tile, at a column. -/
theorem byTiles_val {α : Type} (f : Fin cfg0.N → S2048x256.Idx → α) (g : Fin 2048 → Fin 3584 → α)
    (h : ∀ (t : Fin 14) (s : Fin 2048) (b : Fin 256), f (pt t) (ix2 s b) = g s ⟨256 * t.val + b.val, by omega⟩) (s : Fin 2048) (n : Fin 3584) :
    byTiles f (ix2 s n) = g s n := by
  have e : n = ⟨256 * (n.val / 256) + n.val % 256, by omega⟩ := Fin.ext (by show n.val = 256 * (n.val / 256) + n.val % 256; omega)
  have h' := byTiles_at f s ⟨n.val / 256, by omega⟩ ⟨n.val % 256, Nat.mod_lt _ (by decide)⟩
  rw [h] at h'
  rw [e]
  exact h'

theorem dgArr_val (c : Dev nD) (s : Fin 2048) (n : Fin 3584) : dgArr m c (ix2 s n)
    = gateGrad ((V m c main_arg5 : Vec Ideal S2048x3584 .bf16) (ix2 s n)) ((V m c main_arg6 : Vec Ideal S2048x3584 .bf16) (ix2 s n)) (daAt m c s n) :=
  byTiles_val (tileDg m c) (fun s n => gateGrad ((V m c main_arg5 : Vec Ideal S2048x3584 .bf16) (ix2 s n)) ((V m c main_arg6 : Vec Ideal S2048x3584 .bf16) (ix2 s n)) (daAt m c s n))
    (fun t s b => (dgTile_at _ _ _ s b).trans (congr (congrArg₂ gateGrad (iblk_5 m c t s b) (iblk_6 m c t s b)) (tileDa_at m c t s b))) s n

theorem duArr_val (c : Dev nD) (s : Fin 2048) (n : Fin 3584) : duArr m c (ix2 s n)
    = upGrad ((V m c main_arg5 : Vec Ideal S2048x3584 .bf16) (ix2 s n)) (daAt m c s n) :=
  byTiles_val (tileDu m c) (fun s n => upGrad ((V m c main_arg5 : Vec Ideal S2048x3584 .bf16) (ix2 s n)) (daAt m c s n))
    (fun t s b => (duTile_at _ _ s b).trans (congrArg₂ upGrad (iblk_5 m c t s b) (tileDa_at m c t s b))) s n

theorem aArr_val (c : Dev nD) (s : Fin 2048) (n : Fin 3584) : aArr m c (ix2 s n)
    = act ((V m c main_arg5 : Vec Ideal S2048x3584 .bf16) (ix2 s n)) ((V m c main_arg6 : Vec Ideal S2048x3584 .bf16) (ix2 s n)) :=
  byTiles_val (tileA m c) (fun s n => act ((V m c main_arg5 : Vec Ideal S2048x3584 .bf16) (ix2 s n)) ((V m c main_arg6 : Vec Ideal S2048x3584 .bf16) (ix2 s n)))
    (fun t s b => (aTile_at _ _ s b).trans (congrArg₂ act (iblk_5 m c t s b) (iblk_6 m c t s b))) s n

end Cert.DownIdeal.Down

end
-- ==== Proof.Down.Equation.lean ====
/-
  The equation: on equal arguments both programs leave the same three arrays.
-/
module

public import proofs.«01_k».proof.Proof.Down.Value

@[expose] public section

set_option maxRecDepth 16384

noncomputable section

namespace Cert.DownIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DownReferenceIdeal.Ref (dgRef duRef aRef dgRef_at duRef_at aRef_at da_at)

variable (m : (ℓ : Loc Cert.DownIdeal.nD Cert.DownIdeal.τ Cert.DownIdeal.sig) → Buf (Elt Ideal) ℓ) (m' : (ℓ : Loc Cert.DownReferenceIdeal.nD Cert.DownReferenceIdeal.τ Cert.DownReferenceIdeal.sig) → Buf (Elt Ideal) ℓ)

/-- Equal arguments. -/
def Same (c : Dev Cert.DownIdeal.nD) : Prop :=
  m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
  ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
  ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
  ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
  ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
  ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)
  ∧ m' ((c.tc : Thread Cert.DownReferenceIdeal.nD Cert.DownReferenceIdeal.τ).loc Cert.DownReferenceIdeal.main_arg6) = m ((c.tc : Thread Cert.DownIdeal.nD Cert.DownIdeal.τ).loc Cert.DownIdeal.main_arg6)

theorem split (j : Cert.DownIdeal.S2048x3584.Idx) : j = ix2 (j 0 : Fin 2048) (j 1 : Fin 3584) := by
  funext a
  match a with
  | ⟨0, _⟩ => rfl
  | ⟨1, _⟩ => rfl

theorem arg5_eq (c : Dev Cert.DownIdeal.nD) (h : Same m m' c) (i : Cert.DownIdeal.S2048x3584.Idx) :
    StableHlo.launchContents m' c (Proc.devRef .tc Cert.DownReferenceIdeal.main_arg5) i = Gen.V m c Cert.DownIdeal.main_arg5 i := by
  rw [Gen.V_main_arg5, ← h.2.2.2.2.2.1]

theorem arg6_eq (c : Dev Cert.DownIdeal.nD) (h : Same m m' c) (i : Cert.DownIdeal.S2048x3584.Idx) :
    StableHlo.launchContents m' c (Proc.devRef .tc Cert.DownReferenceIdeal.main_arg6) i = Gen.V m c Cert.DownIdeal.main_arg6 i := by
  rw [Gen.V_main_arg6, ← h.2.2.2.2.2.2]

theorem da_eq (c : Dev Cert.DownIdeal.nD) (h : Same m m' c) (s : Fin 2048) (n : Fin 3584) :
    Cert.DownReferenceIdeal.Value.res_main_v98 (StableHlo.launchContents m' c) (ix2 s n) = daAt m c s n := by
  obtain ⟨h0, h1, h2, h3, h4, h5, h6⟩ := h
  refine (da_at (StableHlo.launchContents m' c) s n).trans ?_
  unfold daAt
  rw [Gen.V_main_arg0, Gen.V_main_arg1, Gen.V_main_arg2, Gen.V_main_arg3, Gen.V_main_arg4, ← h0, ← h1, ← h2, ← h3, ← h4]

theorem dg_eq (c : Dev Cert.DownIdeal.nD) (h : Same m m' c) : dgRef (StableHlo.launchContents m' c) = dgArr m c := by
  funext j
  rw [split j]
  refine (dgRef_at (StableHlo.launchContents m' c) _).trans (Eq.trans ?_ (dgArr_val m c (j 0) (j 1)).symm)
  exact congr (congr (congrArg gateGrad (arg5_eq m m' c h _)) (arg6_eq m m' c h _)) (da_eq m m' c h (j 0) (j 1))

theorem du_eq (c : Dev Cert.DownIdeal.nD) (h : Same m m' c) : duRef (StableHlo.launchContents m' c) = duArr m c := by
  funext j
  rw [split j]
  refine (duRef_at (StableHlo.launchContents m' c) _).trans (Eq.trans ?_ (duArr_val m c (j 0) (j 1)).symm)
  exact congr (congrArg upGrad (arg5_eq m m' c h _)) (da_eq m m' c h (j 0) (j 1))

theorem a_eq (c : Dev Cert.DownIdeal.nD) (h : Same m m' c) : aRef (StableHlo.launchContents m' c) = aArr m c := by
  funext j
  rw [split j]
  refine (aRef_at (StableHlo.launchContents m' c) _).trans (Eq.trans ?_ (aArr_val m c (j 0) (j 1)).symm)
  exact congr (congrArg act (arg5_eq m m' c h _)) (arg6_eq m m' c h _)

end Cert.DownIdeal.Down

end
-- ==== Proof.lean ====
module

public import proofs.«01_k».proof.Defs
public import proofs.«01_k».proof.Proof.Gen.DownReferenceIdeal.Run
public import proofs.«01_k».proof.Proof.Gen.Down
public import proofs.«01_k».proof.Proof.Gen.DownIdeal
public import proofs.«01_k».proof.Proof.Gen.DownReferenceIdeal
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Frame
public import proofs.«01_k».proof.Proof.Dh.Equation
public import proofs.«01_k».proof.Proof.BitsDown.Frame
public import proofs.«01_k».proof.Proof.Down.Equation
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both programs leave the same two arrays, the gradient and its row means. -/
theorem algebraic : Cert.algebraic_KernelIdeal_ReferenceIdeal (hKernelIdeal := Cert.KernelIdeal.Gen.facts) (hReferenceIdeal := Cert.ReferenceIdeal.Gen.facts) :=
  fun m g m' g' _ hm => ⟨fun c => Cert.KernelIdeal.Dh.dhArr m c, fun c => Cert.KernelIdeal.Dh.accC m c 31 (Cert.KernelIdeal.Dh.pt 31).isLt,
    Cert.KernelIdeal.Dh.run_arrays m g,
    (θ_run _ _ _).mono (fun r h c => ⟨(h c).1.trans (Cert.KernelIdeal.Dh.grad_eq m m' c (hm c)),
      (h c).2.1.trans (Cert.KernelIdeal.Dh.means_eq m m' c (hm c) _), (h c).2.2⟩) (Cert.ReferenceIdeal.Value.run m' g')⟩

/-- Both programs of the down projection leave the same three arrays, the two gradients and the activation. -/
theorem algebraicDown : Cert.algebraic_DownIdeal_DownReferenceIdeal (hDownIdeal := Cert.DownIdeal.Gen.facts) (hDownReferenceIdeal := Cert.DownReferenceIdeal.Gen.facts) :=
  fun m g m' g' _ hm => ⟨fun c => Cert.DownIdeal.Down.dgArr m c, fun c => Cert.DownIdeal.Down.duArr m c, fun c => Cert.DownIdeal.Down.aArr m c,
    Cert.DownIdeal.Down.run_arrays m g,
    (θ_run _ _ _).mono (fun r h c => ⟨(h c).1.trans (Cert.DownIdeal.Down.dg_eq m m' c (hm c)),
      (h c).2.1.trans (Cert.DownIdeal.Down.du_eq m m' c (hm c)), (h c).2.2.1.trans (Cert.DownIdeal.Down.a_eq m m' c (hm c)), (h c).2.2.2⟩)
      (Cert.DownReferenceIdeal.Value.run m' g')⟩

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  fun m ρ _ => Cert.Kernel.Bits.frame m ρ, fun m ρ _ => Cert.KernelIdeal.Dh.run_frame m ρ,
  fun m ρ _ => (θ_run _ _ _).mono (fun r h => ⟨fun c => (h c).2.2, sem_eq_zero_of_no_sems rfl _⟩)
    (Cert.ReferenceIdeal.Value.run m ρ),
  fun m ρ _ => Cert.Down.Bits.frame m ρ, fun m ρ _ => Cert.DownIdeal.Down.run_frame m ρ,
  fun m ρ _ => (θ_run _ _ _).mono (fun r h => ⟨fun c => (h c).2.2.2, sem_eq_zero_of_no_sems rfl _⟩)
    (Cert.DownReferenceIdeal.Value.run m ρ),
  open IdealRules.bf16_pair in
  ⟨bufferStatement Cert.KernelIdeal.S3584x2x256 Cert.KernelIdeal.S3584x1x256,
    statement Cert.KernelIdeal.S256x256 Cert.KernelIdeal.S128x256, statement Cert.KernelIdeal.S128x2x256 Cert.KernelIdeal.S128x1x256⟩,
  algebraic,
  open IdealRules.bf16_pair in
  ⟨bufferStatement Cert.DownIdeal.S4096x2x256 Cert.DownIdeal.S4096x1x256,
    statement Cert.DownIdeal.S256x256 Cert.DownIdeal.S128x256, statement Cert.DownIdeal.S128x2x256 Cert.DownIdeal.S128x1x256⟩,
  algebraicDown⟩

end Cert.Proof

end
